-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Best (m : (ℓ : Loc Cert.Best.nD Cert.Best.τ Cert.Best.sig) → Buf (Elt Bits) ℓ) : Prop :=
  True

def Pre_BestIdeal (m : (ℓ : Loc Cert.BestIdeal.nD Cert.BestIdeal.τ Cert.BestIdeal.sig) → Buf (Elt Ideal) ℓ) : Prop :=
  True

def Pre_BestReferenceIdeal (m : (ℓ : Loc Cert.BestReferenceIdeal.nD Cert.BestReferenceIdeal.τ Cert.BestReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Best [hBest : Cert.Best.Facts] : Prop :=
  ∀ (m : (ℓ : Loc Cert.Best.nD Cert.Best.τ Cert.Best.sig) → Buf (Elt Bits) ℓ) (g : Dev Cert.Best.nD → PrngReg), Pre_Best m →
    θ_run (Cert.Best.defs (F := Bits)) (onTc (τ := Cert.Best.τ) (Cert.Best.main (F := Bits))) ⟨m, fun _ => 0, g⟩ (fun r => (∀ c : Dev Cert.Best.nD,
      r.2.mem ((c.tc : Thread Cert.Best.nD Cert.Best.τ).loc Cert.Best.main_arg0) = m ((c.tc : Thread Cert.Best.nD Cert.Best.τ).loc Cert.Best.main_arg0)
      ∧ r.2.mem ((c.tc : Thread Cert.Best.nD Cert.Best.τ).loc Cert.Best.main_arg1) = m ((c.tc : Thread Cert.Best.nD Cert.Best.τ).loc Cert.Best.main_arg1)
      ∧ r.2.mem ((c.tc : Thread Cert.Best.nD Cert.Best.τ).loc Cert.Best.main_arg2) = m ((c.tc : Thread Cert.Best.nD Cert.Best.τ).loc Cert.Best.main_arg2)
      ∧ r.2.mem ((c.tc : Thread Cert.Best.nD Cert.Best.τ).loc Cert.Best.main_arg3) = m ((c.tc : Thread Cert.Best.nD Cert.Best.τ).loc Cert.Best.main_arg3)
      ∧ r.2.mem ((c.tc : Thread Cert.Best.nD Cert.Best.τ).loc Cert.Best.main_arg4) = m ((c.tc : Thread Cert.Best.nD Cert.Best.τ).loc Cert.Best.main_arg4))
      ∧ r.2.sem = fun _ => 0)

def quiescent_BestIdeal [hBestIdeal : Cert.BestIdeal.Facts] : Prop :=
  ∀ (m : (ℓ : Loc Cert.BestIdeal.nD Cert.BestIdeal.τ Cert.BestIdeal.sig) → Buf (Elt Ideal) ℓ) (g : Dev Cert.BestIdeal.nD → PrngReg), Pre_BestIdeal m →
    θ_run (Cert.BestIdeal.defs (F := Ideal)) (onTc (τ := Cert.BestIdeal.τ) (Cert.BestIdeal.main (F := Ideal))) ⟨m, fun _ => 0, g⟩ (fun r => (∀ c : Dev Cert.BestIdeal.nD,
      r.2.mem ((c.tc : Thread Cert.BestIdeal.nD Cert.BestIdeal.τ).loc Cert.BestIdeal.main_arg0) = m ((c.tc : Thread Cert.BestIdeal.nD Cert.BestIdeal.τ).loc Cert.BestIdeal.main_arg0)
      ∧ r.2.mem ((c.tc : Thread Cert.BestIdeal.nD Cert.BestIdeal.τ).loc Cert.BestIdeal.main_arg1) = m ((c.tc : Thread Cert.BestIdeal.nD Cert.BestIdeal.τ).loc Cert.BestIdeal.main_arg1)
      ∧ r.2.mem ((c.tc : Thread Cert.BestIdeal.nD Cert.BestIdeal.τ).loc Cert.BestIdeal.main_arg2) = m ((c.tc : Thread Cert.BestIdeal.nD Cert.BestIdeal.τ).loc Cert.BestIdeal.main_arg2)
      ∧ r.2.mem ((c.tc : Thread Cert.BestIdeal.nD Cert.BestIdeal.τ).loc Cert.BestIdeal.main_arg3) = m ((c.tc : Thread Cert.BestIdeal.nD Cert.BestIdeal.τ).loc Cert.BestIdeal.main_arg3)
      ∧ r.2.mem ((c.tc : Thread Cert.BestIdeal.nD Cert.BestIdeal.τ).loc Cert.BestIdeal.main_arg4) = m ((c.tc : Thread Cert.BestIdeal.nD Cert.BestIdeal.τ).loc Cert.BestIdeal.main_arg4))
      ∧ r.2.sem = fun _ => 0)

def quiescent_BestReferenceIdeal [hBestReferenceIdeal : Cert.BestReferenceIdeal.Facts] : Prop :=
  ∀ (m : (ℓ : Loc Cert.BestReferenceIdeal.nD Cert.BestReferenceIdeal.τ Cert.BestReferenceIdeal.sig) → Buf (Elt Ideal) ℓ) (g : Dev Cert.BestReferenceIdeal.nD → PrngReg), Pre_BestReferenceIdeal m →
    θ_run (Cert.BestReferenceIdeal.defs (F := Ideal)) (onTc (τ := Cert.BestReferenceIdeal.τ) (Cert.BestReferenceIdeal.main (F := Ideal))) ⟨m, fun _ => 0, g⟩ (fun r => (∀ c : Dev Cert.BestReferenceIdeal.nD,
      r.2.mem ((c.tc : Thread Cert.BestReferenceIdeal.nD Cert.BestReferenceIdeal.τ).loc Cert.BestReferenceIdeal.main_arg0) = m ((c.tc : Thread Cert.BestReferenceIdeal.nD Cert.BestReferenceIdeal.τ).loc Cert.BestReferenceIdeal.main_arg0)
      ∧ r.2.mem ((c.tc : Thread Cert.BestReferenceIdeal.nD Cert.BestReferenceIdeal.τ).loc Cert.BestReferenceIdeal.main_arg1) = m ((c.tc : Thread Cert.BestReferenceIdeal.nD Cert.BestReferenceIdeal.τ).loc Cert.BestReferenceIdeal.main_arg1)
      ∧ r.2.mem ((c.tc : Thread Cert.BestReferenceIdeal.nD Cert.BestReferenceIdeal.τ).loc Cert.BestReferenceIdeal.main_arg2) = m ((c.tc : Thread Cert.BestReferenceIdeal.nD Cert.BestReferenceIdeal.τ).loc Cert.BestReferenceIdeal.main_arg2)
      ∧ r.2.mem ((c.tc : Thread Cert.BestReferenceIdeal.nD Cert.BestReferenceIdeal.τ).loc Cert.BestReferenceIdeal.main_arg3) = m ((c.tc : Thread Cert.BestReferenceIdeal.nD Cert.BestReferenceIdeal.τ).loc Cert.BestReferenceIdeal.main_arg3)
      ∧ r.2.mem ((c.tc : Thread Cert.BestReferenceIdeal.nD Cert.BestReferenceIdeal.τ).loc Cert.BestReferenceIdeal.main_arg4) = m ((c.tc : Thread Cert.BestReferenceIdeal.nD Cert.BestReferenceIdeal.τ).loc Cert.BestReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v28)) (v2 : (c : Dev Cert.KernelIdeal.nD) → Buf (Elt Ideal) ((c.tc : Thread Cert.KernelIdeal.nD Cert.KernelIdeal.τ).loc Cert.KernelIdeal.main_v21)) (v3 : (c : Dev Cert.KernelIdeal.nD) → Buf (Elt Ideal) ((c.tc : Thread Cert.KernelIdeal.nD Cert.KernelIdeal.τ).loc Cert.KernelIdeal.main_v23)) (v4 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_v23) = v3 c
          ∧ r.2.mem ((c.tc : Thread Cert.KernelIdeal.nD Cert.KernelIdeal.τ).loc Cert.KernelIdeal.main_v25) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v119) = v2 c
          ∧ r.2.mem ((c.tc : Thread Cert.ReferenceIdeal.nD Cert.ReferenceIdeal.τ).loc Cert.ReferenceIdeal.main_v123) = v3 c
          ∧ r.2.mem ((c.tc : Thread Cert.ReferenceIdeal.nD Cert.ReferenceIdeal.τ).loc Cert.ReferenceIdeal.main_v125) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Best_BestIdeal : Prop :=
  True

def algebraic_BestIdeal_BestReferenceIdeal [hBestIdeal : Cert.BestIdeal.Facts] [hBestReferenceIdeal : Cert.BestReferenceIdeal.Facts] : Prop :=
  ∀ (m : (ℓ : Loc Cert.BestIdeal.nD Cert.BestIdeal.τ Cert.BestIdeal.sig) → Buf (Elt Ideal) ℓ) (g : Dev Cert.BestIdeal.nD → PrngReg)
    (m' : (ℓ : Loc Cert.BestReferenceIdeal.nD Cert.BestReferenceIdeal.τ Cert.BestReferenceIdeal.sig) → Buf (Elt Ideal) ℓ) (g' : Dev Cert.BestReferenceIdeal.nD → PrngReg), Pre_BestIdeal m →
    (∀ c : Dev Cert.BestIdeal.nD,
      m' ((c.tc : Thread Cert.BestReferenceIdeal.nD Cert.BestReferenceIdeal.τ).loc Cert.BestReferenceIdeal.main_arg0) = m ((c.tc : Thread Cert.BestIdeal.nD Cert.BestIdeal.τ).loc Cert.BestIdeal.main_arg0)
      ∧ m' ((c.tc : Thread Cert.BestReferenceIdeal.nD Cert.BestReferenceIdeal.τ).loc Cert.BestReferenceIdeal.main_arg1) = m ((c.tc : Thread Cert.BestIdeal.nD Cert.BestIdeal.τ).loc Cert.BestIdeal.main_arg1)
      ∧ m' ((c.tc : Thread Cert.BestReferenceIdeal.nD Cert.BestReferenceIdeal.τ).loc Cert.BestReferenceIdeal.main_arg2) = m ((c.tc : Thread Cert.BestIdeal.nD Cert.BestIdeal.τ).loc Cert.BestIdeal.main_arg2)
      ∧ m' ((c.tc : Thread Cert.BestReferenceIdeal.nD Cert.BestReferenceIdeal.τ).loc Cert.BestReferenceIdeal.main_arg3) = m ((c.tc : Thread Cert.BestIdeal.nD Cert.BestIdeal.τ).loc Cert.BestIdeal.main_arg3)
      ∧ m' ((c.tc : Thread Cert.BestReferenceIdeal.nD Cert.BestReferenceIdeal.τ).loc Cert.BestReferenceIdeal.main_arg4) = m ((c.tc : Thread Cert.BestIdeal.nD Cert.BestIdeal.τ).loc Cert.BestIdeal.main_arg4)) →
    ∃ (v0 : (c : Dev Cert.BestIdeal.nD) → Buf (Elt Ideal) ((c.tc : Thread Cert.BestIdeal.nD Cert.BestIdeal.τ).loc Cert.BestIdeal.main_v10_0)) (v1 : (c : Dev Cert.BestIdeal.nD) → Buf (Elt Ideal) ((c.tc : Thread Cert.BestIdeal.nD Cert.BestIdeal.τ).loc Cert.BestIdeal.main_v10_1)) (v2 : (c : Dev Cert.BestIdeal.nD) → Buf (Elt Ideal) ((c.tc : Thread Cert.BestIdeal.nD Cert.BestIdeal.τ).loc Cert.BestIdeal.main_v10_2)),
      θ_run (Cert.BestIdeal.defs (F := Ideal)) (onTc (τ := Cert.BestIdeal.τ) (Cert.BestIdeal.main (F := Ideal))) ⟨m, fun _ => 0, g⟩ (fun r => ∀ c : Dev Cert.BestIdeal.nD,
          r.2.mem ((c.tc : Thread Cert.BestIdeal.nD Cert.BestIdeal.τ).loc Cert.BestIdeal.main_v10_0) = v0 c
          ∧ r.2.mem ((c.tc : Thread Cert.BestIdeal.nD Cert.BestIdeal.τ).loc Cert.BestIdeal.main_v10_1) = v1 c
          ∧ r.2.mem ((c.tc : Thread Cert.BestIdeal.nD Cert.BestIdeal.τ).loc Cert.BestIdeal.main_v10_2) = v2 c
          ∧ r.2.mem ((c.tc : Thread Cert.BestIdeal.nD Cert.BestIdeal.τ).loc Cert.BestIdeal.main_arg0) = m ((c.tc : Thread Cert.BestIdeal.nD Cert.BestIdeal.τ).loc Cert.BestIdeal.main_arg0)
          ∧ r.2.mem ((c.tc : Thread Cert.BestIdeal.nD Cert.BestIdeal.τ).loc Cert.BestIdeal.main_arg1) = m ((c.tc : Thread Cert.BestIdeal.nD Cert.BestIdeal.τ).loc Cert.BestIdeal.main_arg1)
          ∧ r.2.mem ((c.tc : Thread Cert.BestIdeal.nD Cert.BestIdeal.τ).loc Cert.BestIdeal.main_arg2) = m ((c.tc : Thread Cert.BestIdeal.nD Cert.BestIdeal.τ).loc Cert.BestIdeal.main_arg2)
          ∧ r.2.mem ((c.tc : Thread Cert.BestIdeal.nD Cert.BestIdeal.τ).loc Cert.BestIdeal.main_arg3) = m ((c.tc : Thread Cert.BestIdeal.nD Cert.BestIdeal.τ).loc Cert.BestIdeal.main_arg3)
          ∧ r.2.mem ((c.tc : Thread Cert.BestIdeal.nD Cert.BestIdeal.τ).loc Cert.BestIdeal.main_arg4) = m ((c.tc : Thread Cert.BestIdeal.nD Cert.BestIdeal.τ).loc Cert.BestIdeal.main_arg4))
      ∧ θ_run (Cert.BestReferenceIdeal.defs (F := Ideal)) (onTc (τ := Cert.BestReferenceIdeal.τ) (Cert.BestReferenceIdeal.main (F := Ideal))) ⟨m', fun _ => 0, g'⟩ (fun r => ∀ c : Dev Cert.BestReferenceIdeal.nD,
          r.2.mem ((c.tc : Thread Cert.BestReferenceIdeal.nD Cert.BestReferenceIdeal.τ).loc Cert.BestReferenceIdeal.main_v112) = v0 c
          ∧ r.2.mem ((c.tc : Thread Cert.BestReferenceIdeal.nD Cert.BestReferenceIdeal.τ).loc Cert.BestReferenceIdeal.main_v114) = v1 c
          ∧ r.2.mem ((c.tc : Thread Cert.BestReferenceIdeal.nD Cert.BestReferenceIdeal.τ).loc Cert.BestReferenceIdeal.main_v111) = v2 c
          ∧ r.2.mem ((c.tc : Thread Cert.BestReferenceIdeal.nD Cert.BestReferenceIdeal.τ).loc Cert.BestReferenceIdeal.main_arg0) = m' ((c.tc : Thread Cert.BestReferenceIdeal.nD Cert.BestReferenceIdeal.τ).loc Cert.BestReferenceIdeal.main_arg0)
          ∧ r.2.mem ((c.tc : Thread Cert.BestReferenceIdeal.nD Cert.BestReferenceIdeal.τ).loc Cert.BestReferenceIdeal.main_arg1) = m' ((c.tc : Thread Cert.BestReferenceIdeal.nD Cert.BestReferenceIdeal.τ).loc Cert.BestReferenceIdeal.main_arg1)
          ∧ r.2.mem ((c.tc : Thread Cert.BestReferenceIdeal.nD Cert.BestReferenceIdeal.τ).loc Cert.BestReferenceIdeal.main_arg2) = m' ((c.tc : Thread Cert.BestReferenceIdeal.nD Cert.BestReferenceIdeal.τ).loc Cert.BestReferenceIdeal.main_arg2)
          ∧ r.2.mem ((c.tc : Thread Cert.BestReferenceIdeal.nD Cert.BestReferenceIdeal.τ).loc Cert.BestReferenceIdeal.main_arg3) = m' ((c.tc : Thread Cert.BestReferenceIdeal.nD Cert.BestReferenceIdeal.τ).loc Cert.BestReferenceIdeal.main_arg3)
          ∧ r.2.mem ((c.tc : Thread Cert.BestReferenceIdeal.nD Cert.BestReferenceIdeal.τ).loc Cert.BestReferenceIdeal.main_arg4) = m' ((c.tc : Thread Cert.BestReferenceIdeal.nD Cert.BestReferenceIdeal.τ).loc Cert.BestReferenceIdeal.main_arg4))

def Claim : Prop :=
  ∃ (hKernel : Cert.Kernel.Facts) (hKernelIdeal : Cert.KernelIdeal.Facts) (hReferenceIdeal : Cert.ReferenceIdeal.Facts) (hBest : Cert.Best.Facts) (hBestIdeal : Cert.BestIdeal.Facts) (hBestReferenceIdeal : Cert.BestReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Best (hBest := hBest)
    ∧ quiescent_BestIdeal (hBestIdeal := hBestIdeal)
    ∧ quiescent_BestReferenceIdeal (hBestReferenceIdeal := hBestReferenceIdeal)
    ∧ preserves_Kernel_KernelIdeal
    ∧ algebraic_KernelIdeal_ReferenceIdeal (hKernelIdeal := hKernelIdeal) (hReferenceIdeal := hReferenceIdeal)
    ∧ preserves_Best_BestIdeal
    ∧ algebraic_BestIdeal_BestReferenceIdeal (hBestIdeal := hBestIdeal) (hBestReferenceIdeal := hBestReferenceIdeal)
-- ==== Kernel.lean ====
abbrev S16x512x2 : Shape := ⟨3, ![16, 512, 2]⟩
abbrev S16x512 : Shape := ⟨2, ![16, 512]⟩
abbrev S16x2x512 : Shape := ⟨3, ![16, 2, 512]⟩
abbrev S16x512x1 : Shape := ⟨3, ![16, 512, 1]⟩
abbrev S16x1x512 : Shape := ⟨3, ![16, 1, 512]⟩
abbrev S16x3x3 : Shape := ⟨3, ![16, 3, 3]⟩
abbrev S16x1x1 : Shape := ⟨3, ![16, 1, 1]⟩
abbrev S1x2x512 : Shape := ⟨3, ![1, 2, 512]⟩
abbrev S1x512x2 : Shape := ⟨3, ![1, 512, 2]⟩
abbrev S1x512x1 : Shape := ⟨3, ![1, 512, 1]⟩
abbrev S1x1x512 : Shape := ⟨3, ![1, 1, 512]⟩
abbrev S1x3x3 : Shape := ⟨3, ![1, 3, 3]⟩
abbrev S1x1x1 : Shape := ⟨3, ![1, 1, 1]⟩
abbrev S512x512 : Shape := ⟨2, ![512, 512]⟩
abbrev S1x512 : Shape := ⟨2, ![1, 512]⟩
abbrev S1x64x1 : Shape := ⟨3, ![1, 64, 1]⟩
abbrev S64x1 : Shape := ⟨2, ![64, 1]⟩
abbrev S64x512 : Shape := ⟨2, ![64, 512]⟩
abbrev S512 : Shape := ⟨1, ![512]⟩
abbrev S1 : Shape := ⟨1, ![1]⟩
abbrev S512x1 : Shape := ⟨2, ![512, 1]⟩
abbrev S16x5x512 : Shape := ⟨3, ![16, 5, 512]⟩
abbrev S80x512 : Shape := ⟨2, ![80, 512]⟩
abbrev S_ : Shape := ⟨0, ![]⟩
abbrev S528 : Shape := ⟨1, ![528]⟩
abbrev S16 : Shape := ⟨1, ![16]⟩

abbrev nBuf : Table → Nat
  | .hbm => 44
  | .local .tc .vmem => 26
  | .local .scVector .vmem => 3
  | _ => 0

abbrev bufTy : (tb : Table) → Fin (nBuf tb) → BufTy
  | .hbm, ⟨0, _⟩ => ⟨S16x512x2, .f32⟩
  | .hbm, ⟨1, _⟩ => ⟨S16x512x2, .f32⟩
  | .hbm, ⟨2, _⟩ => ⟨S16x512, .f32⟩
  | .hbm, ⟨3, _⟩ => ⟨S16x512, .f32⟩
  | .hbm, ⟨4, _⟩ => ⟨S16x512x2, .f32⟩
  | .hbm, ⟨5, _⟩ => ⟨S16x2x512, .f32⟩
  | .hbm, ⟨6, _⟩ => ⟨S16x2x512, .f32⟩
  | .hbm, ⟨7, _⟩ => ⟨S16x512x1, .f32⟩
  | .hbm, ⟨8, _⟩ => ⟨S16x1x512, .f32⟩
  | .hbm, ⟨9, _⟩ => ⟨S16x512x1, .f32⟩
  | .hbm, ⟨10, _⟩ => ⟨S16x512, .f32⟩
  | .hbm, ⟨11, _⟩ => ⟨S16x1x512, .f32⟩
  | .hbm, ⟨12, _⟩ => ⟨S16x512x1, .f32⟩
  | .hbm, ⟨13, _⟩ => ⟨S16x512, .f32⟩
  | .hbm, ⟨14, _⟩ => ⟨S16x1x512, .f32⟩
  | .hbm, ⟨15, _⟩ => ⟨S16x3x3, .f32⟩
  | .hbm, ⟨16, _⟩ => ⟨S16x1x1, .f32⟩
  | .hbm, ⟨17, _⟩ => ⟨S16x1x512, .i32⟩
  | .hbm, ⟨18, _⟩ => ⟨S16x2x512, .f32⟩
  | .hbm, ⟨19, _⟩ => ⟨S16x2x512, .f32⟩
  | .hbm, ⟨20, _⟩ => ⟨S16x1x512, .f32⟩
  | .hbm, ⟨21, _⟩ => ⟨S16x5x512, .f32⟩
  | .hbm, ⟨22, _⟩ => ⟨S80x512, .f32⟩
  | .hbm, ⟨23, _⟩ => ⟨S16x512, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S16x512, .i32⟩
  | .hbm, ⟨28, _⟩ => ⟨S16x512, .i32⟩
  | .hbm, ⟨29, _⟩ => ⟨S_, .i32⟩
  | .hbm, ⟨30, _⟩ => ⟨S16x512, .i32⟩
  | .hbm, ⟨31, _⟩ => ⟨S16x512, .i32⟩
  | .hbm, ⟨32, _⟩ => ⟨S80x512, .f32⟩
  | .hbm, ⟨33, _⟩ => ⟨S16x5x512, .f32⟩
  | .hbm, ⟨34, _⟩ => ⟨S16x2x512, .f32⟩
  | .hbm, ⟨35, _⟩ => ⟨S16x512x2, .f32⟩
  | .hbm, ⟨36, _⟩ => ⟨S16x2x512, .f32⟩
  | .hbm, ⟨37, _⟩ => ⟨S16x512x2, .f32⟩
  | .hbm, ⟨38, _⟩ => ⟨S16x1x512, .f32⟩
  | .hbm, ⟨39, _⟩ => ⟨S16x512, .f32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S16, .i1⟩
  | .local .tc .vmem, ⟨0, _⟩ => ⟨S1x2x512, .f32⟩
  | .local .tc .vmem, ⟨1, _⟩ => ⟨S1x2x512, .f32⟩
  | .local .tc .vmem, ⟨2, _⟩ => ⟨S1x2x512, .f32⟩
  | .local .tc .vmem, ⟨3, _⟩ => ⟨S1x2x512, .f32⟩
  | .local .tc .vmem, ⟨4, _⟩ => ⟨S1x512x2, .f32⟩
  | .local .tc .vmem, ⟨5, _⟩ => ⟨S1x512x2, .f32⟩
  | .local .tc .vmem, ⟨6, _⟩ => ⟨S1x512x2, .f32⟩
  | .local .tc .vmem, ⟨7, _⟩ => ⟨S1x512x2, .f32⟩
  | .local .tc .vmem, ⟨8, _⟩ => ⟨S1x512x1, .f32⟩
  | .local .tc .vmem, ⟨9, _⟩ => ⟨S1x512x1, .f32⟩
  | .local .tc .vmem, ⟨10, _⟩ => ⟨S1x1x512, .f32⟩
  | .local .tc .vmem, ⟨11, _⟩ => ⟨S1x1x512, .f32⟩
  | .local .tc .vmem, ⟨12, _⟩ => ⟨S1x1x512, .f32⟩
  | .local .tc .vmem, ⟨13, _⟩ => ⟨S1x1x512, .f32⟩
  | .local .tc .vmem, ⟨14, _⟩ => ⟨S1x1x512, .f32⟩
  | .local .tc .vmem, ⟨15, _⟩ => ⟨S1x1x512, .f32⟩
  | .local .tc .vmem, ⟨16, _⟩ => ⟨S1x3x3, .f32⟩
  | .local .tc .vmem, ⟨17, _⟩ => ⟨S1x3x3, .f32⟩
  | .local .tc .vmem, ⟨18, _⟩ => ⟨S1x1x1, .f32⟩
  | .local .tc .vmem, ⟨19, _⟩ => ⟨S1x1x1, .f32⟩
  | .local .tc .vmem, ⟨20, _⟩ => ⟨S1x1x512, .i32⟩
  | .local .tc .vmem, ⟨21, _⟩ => ⟨S1x1x512, .i32⟩
  | .local .tc .vmem, ⟨22, _⟩ => ⟨S512x512, .f32⟩
  | .local .tc .vmem, ⟨23, _⟩ => ⟨S512x512, .f32⟩
  | .local .tc .vmem, ⟨24, _⟩ => ⟨S512x512, .f32⟩
  | .local .tc .vmem, ⟨25, _⟩ => ⟨S512x512, .f32⟩
  | .local .scVector .vmem, ⟨0, _⟩ => ⟨S528, .f32⟩
  | .local .scVector .vmem, ⟨1, _⟩ => ⟨S512, .i32⟩
  | .local .scVector .vmem, ⟨2, _⟩ => ⟨S512, .f32⟩
  | _, _ => ⟨S16x512x2, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | _ => false

abbrev sig : RefSig :=
  ofTables nBuf rfl bufTy 4 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_c_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst : Ref sig .tc := ⟨.hbm, 41, rfl⟩
abbrev main_v27 : Ref sig .tc := ⟨.hbm, 42, rfl⟩
abbrev main_v28 : Ref sig .tc := ⟨.hbm, 43, rfl⟩
abbrev main_v15_scv : Ref sig .scVector := ⟨.hbm, 22, rfl⟩
abbrev main_v17_scv : Ref sig .scVector := ⟨.hbm, 31, rfl⟩
abbrev main_v18_scv : Ref sig .scVector := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x3x3 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x512 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨2, ![2, 16], ![false, false]⟩

def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v2 : BitVec 32 := Scalar.addi v1 c0_i32
  let c80_i32 : BitVec 32 := 80#32
  let v3 : BitVec 1 := Scalar.cmpi .slt v2 c80_i32
  let v4 : BitVec 32 := Scalar.extui v3
  let c0_i32_0 : BitVec 32 := 0#32
  let v5 : BitVec 1 := Scalar.cmpi .ne v4 c0_i32_0
  v5

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v2 : BitVec 32 := Scalar.addi v1 c0_i32
  let c0_i32_24_r0 : BitVec 32 := 0#32
  ![v2.toNat, 0]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v2 : BitVec 32 := Scalar.addi v1 c0_i32
  let c0_i32_5 : BitVec 32 := 0#32
  let v15 : BitVec 1 := Scalar.cmpi .sgt v2 c0_i32_5
  let v16 : BitVec 32 := Scalar.extui v15
  let c0_i32_6 : BitVec 32 := 0#32
  let v17 : BitVec 1 := Scalar.cmpi .slt v2 c0_i32_6
  let v18 : BitVec 32 := Scalar.extui v17
  let v19 : BitVec 32 := Scalar.subi v16 v18
  let c5_i32 : BitVec 32 := 5#32
  let c0_i32_7 : BitVec 32 := 0#32
  let v20 : BitVec 1 := Scalar.cmpi .sgt c5_i32 c0_i32_7
  let v21 : BitVec 32 := Scalar.extui v20
  let c0_i32_8 : BitVec 32 := 0#32
  let v22 : BitVec 1 := Scalar.cmpi .slt c5_i32 c0_i32_8
  let v23 : BitVec 32 := Scalar.extui v22
  let v24 : BitVec 32 := Scalar.subi v21 v23
  let v25 : BitVec 1 := Scalar.cmpi .ne v19 v24
  let v26 : BitVec 32 := Scalar.remsi v2 c5_i32
  let c0_i32_9 : BitVec 32 := 0#32
  let v27 : BitVec 1 := Scalar.cmpi .ne v26 c0_i32_9
  let v28 : BitVec 1 := Scalar.andi v25 v27
  let v14 : BitVec 32 := Scalar.divsi v2 c5_i32
  let c1_i32 : BitVec 32 := 1#32
  let v29 : BitVec 32 := Scalar.subi v14 c1_i32
  let v30 : BitVec 32 := Scalar.select v28 v29 v14
  let c0_i32_23_r1 : BitVec 32 := 0#32
  ![v30.toNat, 0]
@[reducible] def k1_t1_loop : Scf.Loop 32 :=
  let c0_i32_19 : BitVec 32 := 0#32
  let c32_i32_20 : BitVec 32 := 32#32
  let v47 : BitVec 32 := Scalar.addi c0_i32_19 c32_i32_20
  let c1_i32_21 : BitVec 32 := 1#32
  ⟨c0_i32_19, v47, c1_i32_21⟩
def k1_off3 (k1_t1 : Fin k1_t1_loop.trips) : Fin 1 → Nat :=
  let c0_i32_19 : BitVec 32 := 0#32
  let c1_i32_21 : BitVec 32 := 1#32
  let arg8 : BitVec 32 := Scf.iv c0_i32_19 c1_i32_21 k1_t1
  let c16_i32 : BitVec 32 := 16#32
  let v49 : BitVec 32 := Scalar.muli arg8 c16_i32
  let v50 : Index := Scalar.indexCast v49
  ![v50.toNat]

def k1_chk1 (i : grid1.Coords) (v51 : IVec S16 32) : Prop :=
  (∀ (k1_h1 : k1_cond1 i = 1#1), ∀ a x, ((![v51] : Fin 1 → IVec S16 32) a x).toNat < S528.size a)
theorem k1_idx1_inb : ∀ (i : grid1.Coords) (v51 : IVec S16 32) (k1_hw1 : k1_chk1 i v51), ∀ (k1_h1 : k1_cond1 i = 1#1), ∀ a x, ((![v51] : Fin 1 → IVec S16 32) a x).toNat < S528.size a := fun i v51 k1_hw1 k1_h1 => k1_hw1 k1_h1
def k1_off4 (k1_t1 : Fin k1_t1_loop.trips) : Fin 1 → Nat :=
  let c0_i32_19 : BitVec 32 := 0#32
  let c1_i32_21 : BitVec 32 := 1#32
  let arg8 : BitVec 32 := Scf.iv c0_i32_19 c1_i32_21 k1_t1
  let c16_i32_23 : BitVec 32 := 16#32
  let v53 : BitVec 32 := Scalar.muli arg8 c16_i32_23
  let v54 : Index := Scalar.indexCast v53
  ![v54.toNat]
def k1_cond2 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v6 : BitVec 32 := Scalar.addi v1 c32_i32
  let c80_i32_1 : BitVec 32 := 80#32
  let v7 : BitVec 1 := Scalar.cmpi .slt v6 c80_i32_1
  let v8 : BitVec 32 := Scalar.extui v7
  let c0_i32_2 : BitVec 32 := 0#32
  let v9 : BitVec 1 := Scalar.cmpi .ne v8 c0_i32_2
  v9

def k1_off5 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v6 : BitVec 32 := Scalar.addi v1 c32_i32
  let c0_i32_24_r3 : BitVec 32 := 0#32
  ![v6.toNat, 0]
def k1_off6 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v6 : BitVec 32 := Scalar.addi v1 c32_i32
  let c0_i32_5 : BitVec 32 := 0#32
  let v15 : BitVec 1 := Scalar.cmpi .sgt v6 c0_i32_5
  let v16 : BitVec 32 := Scalar.extui v15
  let c0_i32_6 : BitVec 32 := 0#32
  let v17 : BitVec 1 := Scalar.cmpi .slt v6 c0_i32_6
  let v18 : BitVec 32 := Scalar.extui v17
  let v19 : BitVec 32 := Scalar.subi v16 v18
  let c5_i32 : BitVec 32 := 5#32
  let c0_i32_7 : BitVec 32 := 0#32
  let v20 : BitVec 1 := Scalar.cmpi .sgt c5_i32 c0_i32_7
  let v21 : BitVec 32 := Scalar.extui v20
  let c0_i32_8 : BitVec 32 := 0#32
  let v22 : BitVec 1 := Scalar.cmpi .slt c5_i32 c0_i32_8
  let v23 : BitVec 32 := Scalar.extui v22
  let v24 : BitVec 32 := Scalar.subi v21 v23
  let v25 : BitVec 1 := Scalar.cmpi .ne v19 v24
  let v26 : BitVec 32 := Scalar.remsi v6 c5_i32
  let c0_i32_9 : BitVec 32 := 0#32
  let v27 : BitVec 1 := Scalar.cmpi .ne v26 c0_i32_9
  let v28 : BitVec 1 := Scalar.andi v25 v27
  let v14 : BitVec 32 := Scalar.divsi v6 c5_i32
  let c1_i32 : BitVec 32 := 1#32
  let v29 : BitVec 32 := Scalar.subi v14 c1_i32
  let v30 : BitVec 32 := Scalar.select v28 v29 v14
  let c0_i32_23_r4 : BitVec 32 := 0#32
  ![v30.toNat, 0]
@[reducible] def k1_t2_loop : Scf.Loop 32 :=
  let c0_i32_19 : BitVec 32 := 0#32
  let c32_i32_20 : BitVec 32 := 32#32
  let v47 : BitVec 32 := Scalar.addi c0_i32_19 c32_i32_20
  let c1_i32_21 : BitVec 32 := 1#32
  ⟨c0_i32_19, v47, c1_i32_21⟩
def k1_off7 (k1_t2 : Fin k1_t2_loop.trips) : Fin 1 → Nat :=
  let c0_i32_19 : BitVec 32 := 0#32
  let c1_i32_21 : BitVec 32 := 1#32
  let arg8 : BitVec 32 := Scf.iv c0_i32_19 c1_i32_21 k1_t2
  let c16_i32 : BitVec 32 := 16#32
  let v49 : BitVec 32 := Scalar.muli arg8 c16_i32
  let v50 : Index := Scalar.indexCast v49
  ![v50.toNat]

def k1_chk2 (i : grid1.Coords) (v51 : IVec S16 32) : Prop :=
  (∀ (k1_h2 : k1_cond2 i = 1#1), ∀ a x, ((![v51] : Fin 1 → IVec S16 32) a x).toNat < S528.size a)
theorem k1_idx2_inb : ∀ (i : grid1.Coords) (v51 : IVec S16 32) (k1_hw2 : k1_chk2 i v51), ∀ (k1_h2 : k1_cond2 i = 1#1), ∀ a x, ((![v51] : Fin 1 → IVec S16 32) a x).toNat < S528.size a := fun i v51 k1_hw2 k1_h2 => k1_hw2 k1_h2
def k1_off8 (k1_t2 : Fin k1_t2_loop.trips) : Fin 1 → Nat :=
  let c0_i32_19 : BitVec 32 := 0#32
  let c1_i32_21 : BitVec 32 := 1#32
  let arg8 : BitVec 32 := Scf.iv c0_i32_19 c1_i32_21 k1_t2
  let c16_i32_23 : BitVec 32 := 16#32
  let v53 : BitVec 32 := Scalar.muli arg8 c16_i32_23
  let v54 : Index := Scalar.indexCast v53
  ![v54.toNat]
def k1_cond3 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v10 : BitVec 32 := Scalar.addi v1 c64_i32
  let c80_i32_3 : BitVec 32 := 80#32
  let v11 : BitVec 1 := Scalar.cmpi .slt v10 c80_i32_3
  let v12 : BitVec 32 := Scalar.extui v11
  let c0_i32_4 : BitVec 32 := 0#32
  let v13 : BitVec 1 := Scalar.cmpi .ne v12 c0_i32_4
  v13

def k1_off9 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v10 : BitVec 32 := Scalar.addi v1 c64_i32
  let c0_i32_24_r6 : BitVec 32 := 0#32
  ![v10.toNat, 0]
def k1_off10 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v10 : BitVec 32 := Scalar.addi v1 c64_i32
  let c0_i32_5 : BitVec 32 := 0#32
  let v15 : BitVec 1 := Scalar.cmpi .sgt v10 c0_i32_5
  let v16 : BitVec 32 := Scalar.extui v15
  let c0_i32_6 : BitVec 32 := 0#32
  let v17 : BitVec 1 := Scalar.cmpi .slt v10 c0_i32_6
  let v18 : BitVec 32 := Scalar.extui v17
  let v19 : BitVec 32 := Scalar.subi v16 v18
  let c5_i32 : BitVec 32 := 5#32
  let c0_i32_7 : BitVec 32 := 0#32
  let v20 : BitVec 1 := Scalar.cmpi .sgt c5_i32 c0_i32_7
  let v21 : BitVec 32 := Scalar.extui v20
  let c0_i32_8 : BitVec 32 := 0#32
  let v22 : BitVec 1 := Scalar.cmpi .slt c5_i32 c0_i32_8
  let v23 : BitVec 32 := Scalar.extui v22
  let v24 : BitVec 32 := Scalar.subi v21 v23
  let v25 : BitVec 1 := Scalar.cmpi .ne v19 v24
  let v26 : BitVec 32 := Scalar.remsi v10 c5_i32
  let c0_i32_9 : BitVec 32 := 0#32
  let v27 : BitVec 1 := Scalar.cmpi .ne v26 c0_i32_9
  let v28 : BitVec 1 := Scalar.andi v25 v27
  let v14 : BitVec 32 := Scalar.divsi v10 c5_i32
  let c1_i32 : BitVec 32 := 1#32
  let v29 : BitVec 32 := Scalar.subi v14 c1_i32
  let v30 : BitVec 32 := Scalar.select v28 v29 v14
  let c0_i32_23_r7 : BitVec 32 := 0#32
  ![v30.toNat, 0]
@[reducible] def k1_t3_loop : Scf.Loop 32 :=
  let c0_i32_19 : BitVec 32 := 0#32
  let c32_i32_20 : BitVec 32 := 32#32
  let v47 : BitVec 32 := Scalar.addi c0_i32_19 c32_i32_20
  let c1_i32_21 : BitVec 32 := 1#32
  ⟨c0_i32_19, v47, c1_i32_21⟩
def k1_off11 (k1_t3 : Fin k1_t3_loop.trips) : Fin 1 → Nat :=
  let c0_i32_19 : BitVec 32 := 0#32
  let c1_i32_21 : BitVec 32 := 1#32
  let arg8 : BitVec 32 := Scf.iv c0_i32_19 c1_i32_21 k1_t3
  let c16_i32 : BitVec 32 := 16#32
  let v49 : BitVec 32 := Scalar.muli arg8 c16_i32
  let v50 : Index := Scalar.indexCast v49
  ![v50.toNat]

def k1_chk3 (i : grid1.Coords) (v51 : IVec S16 32) : Prop :=
  (∀ (k1_h3 : k1_cond3 i = 1#1), ∀ a x, ((![v51] : Fin 1 → IVec S16 32) a x).toNat < S528.size a)
theorem k1_idx3_inb : ∀ (i : grid1.Coords) (v51 : IVec S16 32) (k1_hw3 : k1_chk3 i v51), ∀ (k1_h3 : k1_cond3 i = 1#1), ∀ a x, ((![v51] : Fin 1 → IVec S16 32) a x).toNat < S528.size a := fun i v51 k1_hw3 k1_h3 => k1_hw3 k1_h3
def k1_off12 (k1_t3 : Fin k1_t3_loop.trips) : Fin 1 → Nat :=
  let c0_i32_19 : BitVec 32 := 0#32
  let c1_i32_21 : BitVec 32 := 1#32
  let arg8 : BitVec 32 := Scf.iv c0_i32_19 c1_i32_21 k1_t3
  let c16_i32_23 : BitVec 32 := 16#32
  let v53 : BitVec 32 := Scalar.muli arg8 c16_i32_23
  let v54 : Index := Scalar.indexCast v53
  ![v54.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x512x2 : Shape := ⟨3, ![16, 512, 2]⟩
abbrev S16x512 : Shape := ⟨2, ![16, 512]⟩
abbrev S_ : Shape := ⟨0, ![]⟩
abbrev S16x512x1 : Shape := ⟨3, ![16, 512, 1]⟩
abbrev S16x1x512 : Shape := ⟨3, ![16, 1, 512]⟩
abbrev S16x512x512 : Shape := ⟨3, ![16, 512, 512]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x512x512 : Shape := ⟨3, ![1, 512, 512]⟩
abbrev S16 : Shape := ⟨1, ![16]⟩
abbrev S16x1 : Shape := ⟨2, ![16, 1]⟩
abbrev S16x512x9 : Shape := ⟨3, ![16, 512, 9]⟩
abbrev S16x1x1 : Shape := ⟨3, ![16, 1, 1]⟩
abbrev S16x1x9 : Shape := ⟨3, ![16, 1, 9]⟩
abbrev S1x1x512 : Shape := ⟨3, ![1, 1, 512]⟩
abbrev S16x3x3 : Shape := ⟨3, ![16, 3, 3]⟩

abbrev nBuf : Space → Nat
  | .hbm => 208
  | .vmem => 0
  | .smem => 0
  | _ => 0

abbrev hbmTy0_0 (i : Nat) : BufTy := match i % 128 with
  | 0 => ⟨S16x512x2, .f32⟩
  | 1 => ⟨S16x512x2, .f32⟩
  | 2 => ⟨S16x512, .f32⟩
  | 3 => ⟨S16x512, .f32⟩
  | 4 => ⟨S16x512x2, .f32⟩
  | 5 => ⟨S_, .f32⟩
  | 6 => ⟨S16x512x2, .f32⟩
  | 7 => ⟨S16x512x2, .f32⟩
  | 8 => ⟨S_, .f32⟩
  | 9 => ⟨S16x512x2, .f32⟩
  | 10 => ⟨S16x512x2, .f32⟩
  | 11 => ⟨S16x512x1, .f32⟩
  | 12 => ⟨S16x512, .f32⟩
  | 13 => ⟨S16x512x1, .f32⟩
  | 14 => ⟨S16x512, .f32⟩
  | 15 => ⟨S16x512x1, .f32⟩
  | 16 => ⟨S16x512, .f32⟩
  | 17 => ⟨S16x512x1, .f32⟩
  | 18 => ⟨S16x512, .f32⟩
  | 19 => ⟨S16x512x1, .f32⟩
  | 20 => ⟨S16x512, .f32⟩
  | 21 => ⟨S16x512, .f32⟩
  | 22 => ⟨S16x512x1, .f32⟩
  | 23 => ⟨S16x512, .f32⟩
  | 24 => ⟨S16x512, .f32⟩
  | 25 => ⟨S16x512, .f32⟩
  | 26 => ⟨S16x512, .f32⟩
  | 27 => ⟨S16x512, .f32⟩
  | 28 => ⟨S16x512, .f32⟩
  | 29 => ⟨S16x512, .f32⟩
  | 30 => ⟨S16x512, .f32⟩
  | 31 => ⟨S16x512, .f32⟩
  | 32 => ⟨S16x512, .f32⟩
  | 33 => ⟨S16x512, .f32⟩
  | 34 => ⟨S16x1x512, .f32⟩
  | 35 => ⟨S16x512x1, .f32⟩
  | 36 => ⟨S16x1x512, .f32⟩
  | 37 => ⟨S16x512x512, .f32⟩
  | 38 => ⟨S16x512x512, .f32⟩
  | 39 => ⟨S16x512x512, .f32⟩
  | 40 => ⟨S16x512, .f32⟩
  | 41 => ⟨S16x512x1, .f32⟩
  | 42 => ⟨S16x1x512, .f32⟩
  | 43 => ⟨S16x512x512, .f32⟩
  | 44 => ⟨S16x512x512, .f32⟩
  | 45 => ⟨S16x512x512, .f32⟩
  | 46 => ⟨S16x512x512, .f32⟩
  | 47 => ⟨S16x512x1, .f32⟩
  | 48 => ⟨S16x512x512, .f32⟩
  | 49 => ⟨S16x512x512, .f32⟩
  | 50 => ⟨S16x512x512, .f32⟩
  | 51 => ⟨S16x512x512, .f32⟩
  | 52 => ⟨S16x1x512, .f32⟩
  | 53 => ⟨S16x512x1, .f32⟩
  | 54 => ⟨S16x1x512, .f32⟩
  | 55 => ⟨S16x512x512, .f32⟩
  | 56 => ⟨S16x512x512, .f32⟩
  | 57 => ⟨S16x512x512, .f32⟩
  | 58 => ⟨S16x512x1, .f32⟩
  | 59 => ⟨S16x1x512, .f32⟩
  | 60 => ⟨S16x512x512, .f32⟩
  | 61 => ⟨S16x512x512, .f32⟩
  | 62 => ⟨S16x512x512, .f32⟩
  | 63 => ⟨S16x512x512, .f32⟩
  | 64 => ⟨S16x512x1, .f32⟩
  | 65 => ⟨S16x512x512, .f32⟩
  | 66 => ⟨S16x512x512, .f32⟩
  | 67 => ⟨S16x512x512, .f32⟩
  | 68 => ⟨S16x512x512, .f32⟩
  | 69 => ⟨S16x512x512, .f32⟩
  | 70 => ⟨S16x512x512, .f32⟩
  | 71 => ⟨S16x512x512, .f32⟩
  | 72 => ⟨S512, .i32⟩
  | 73 => ⟨S512x1, .i32⟩
  | 74 => ⟨S512, .i32⟩
  | 75 => ⟨S1x512, .i32⟩
  | 76 => ⟨S512x512, .i32⟩
  | 77 => ⟨S512x512, .i32⟩
  | 78 => ⟨S512x512, .i1⟩
  | 79 => ⟨S_, .f32⟩
  | 80 => ⟨S16x512x512, .f32⟩
  | 81 => ⟨S16x512x512, .i1⟩
  | 82 => ⟨S1x512x512, .i1⟩
  | 83 => ⟨S16x512x512, .i1⟩
  | 84 => ⟨S16x512x512, .i1⟩
  | 85 => ⟨S16x1x512, .f32⟩
  | 86 => ⟨S_, .f32⟩
  | 87 => ⟨S_, .f32⟩
  | 88 => ⟨S16x512x512, .f32⟩
  | 89 => ⟨S16x512x512, .f32⟩
  | 90 => ⟨S16x512x512, .f32⟩
  | 91 => ⟨S_, .f32⟩
  | 92 => ⟨S16x512, .f32⟩
  | 93 => ⟨S_, .f32⟩
  | 94 => ⟨S16, .f32⟩
  | 95 => ⟨S16x1, .f32⟩
  | 96 => ⟨S16x512, .f32⟩
  | 97 => ⟨S16x512, .i1⟩
  | 98 => ⟨S512, .i32⟩
  | 99 => ⟨S1x512, .i32⟩
  | 100 => ⟨S_, .i32⟩
  | 101 => ⟨S_, .i32⟩
  | 102 => ⟨S16x512, .i32⟩
  | 103 => ⟨S16x512, .i32⟩
  | 104 => ⟨S16x512, .i32⟩
  | 105 => ⟨S_, .i32⟩
  | 106 => ⟨S16, .i32⟩
  | 107 => ⟨S16, .f32⟩
  | 108 => ⟨S_, .f32⟩
  | 109 => ⟨S16, .f32⟩
  | 110 => ⟨S16, .i1⟩
  | 111 => ⟨S_, .f32⟩
  | 112 => ⟨S16x512, .f32⟩
  | 113 => ⟨S_, .f32⟩
  | 114 => ⟨S16x512, .f32⟩
  | 115 => ⟨S16x512, .f32⟩
  | 116 => ⟨S16x512x1, .f32⟩
  | 117 => ⟨S16x512x1, .f32⟩
  | 118 => ⟨S16x512x1, .f32⟩
  | 119 => ⟨S16x512x1, .f32⟩
  | 120 => ⟨S16x512x1, .f32⟩
  | 121 => ⟨S16x512x1, .f32⟩
  | 122 => ⟨S16x512x1, .f32⟩
  | 123 => ⟨S16x512x1, .f32⟩
  | 124 => ⟨S16x512x1, .f32⟩
  | 125 => ⟨S16x512x9, .f32⟩
  | 126 => ⟨S16x1x1, .i32⟩
  | 127 => ⟨S_, .i32⟩
  | _ => ⟨S16x512x2, .f32⟩

abbrev hbmTy0_1 (i : Nat) : BufTy := match i % 128 with
  | 0 => ⟨S16x1x1, .i32⟩
  | 1 => ⟨S16x1x1, .i1⟩
  | 2 => ⟨S_, .i32⟩
  | 3 => ⟨S16x1x1, .i32⟩
  | 4 => ⟨S16x1x1, .i32⟩
  | 5 => ⟨S16x1x1, .i32⟩
  | 6 => ⟨S16x1x9, .f32⟩
  | 7 => ⟨S512, .i32⟩
  | 8 => ⟨S1x1x512, .i32⟩
  | 9 => ⟨S_, .i32⟩
  | 10 => ⟨S_, .i32⟩
  | 11 => ⟨S16x512x512, .i32⟩
  | 12 => ⟨S16x512x512, .i32⟩
  | 13 => ⟨S16x512x512, .i32⟩
  | 14 => ⟨S16x1x1, .i32⟩
  | 15 => ⟨S_, .i32⟩
  | 16 => ⟨S16x1x1, .i32⟩
  | 17 => ⟨S16x1x1, .i1⟩
  | 18 => ⟨S_, .i32⟩
  | 19 => ⟨S16x1x1, .i32⟩
  | 20 => ⟨S16x1x1, .i32⟩
  | 21 => ⟨S16x1x1, .i32⟩
  | 22 => ⟨S16x1x512, .i32⟩
  | 23 => ⟨S16x1x512, .i32⟩
  | 24 => ⟨S16x512, .i32⟩
  | 25 => ⟨S_, .i32⟩
  | 26 => ⟨S16x512, .i32⟩
  | 27 => ⟨S16x512, .i1⟩
  | 28 => ⟨S_, .i32⟩
  | 29 => ⟨S_, .i32⟩
  | 30 => ⟨S_, .i32⟩
  | 31 => ⟨S16x512, .i32⟩
  | 32 => ⟨S16x512, .i32⟩
  | 33 => ⟨S_, .i32⟩
  | 34 => ⟨S16x512, .i32⟩
  | 35 => ⟨S16x512, .i32⟩
  | 36 => ⟨S16x512x1, .i1⟩
  | 37 => ⟨S16x512x1, .i32⟩
  | 38 => ⟨S_, .i32⟩
  | 39 => ⟨S16x512x1, .i32⟩
  | 40 => ⟨S16x512x1, .i1⟩
  | 41 => ⟨S_, .i32⟩
  | 42 => ⟨S16x512x1, .i32⟩
  | 43 => ⟨S16x512x1, .i32⟩
  | 44 => ⟨S16x512x1, .i32⟩
  | 45 => ⟨S16x512x2, .f32⟩
  | 46 => ⟨S_, .f32⟩
  | 47 => ⟨S_, .f32⟩
  | 48 => ⟨S16x512x2, .i1⟩
  | 49 => ⟨S16x512x2, .f32⟩
  | 50 => ⟨S16x512x2, .f32⟩
  | 51 => ⟨S16x512x1, .i1⟩
  | 52 => ⟨S16x512x1, .i32⟩
  | 53 => ⟨S_, .i32⟩
  | 54 => ⟨S16x512x1, .i32⟩
  | 55 => ⟨S16x512x1, .i1⟩
  | 56 => ⟨S_, .i32⟩
  | 57 => ⟨S16x512x1, .i32⟩
  | 58 => ⟨S16x512x1, .i32⟩
  | 59 => ⟨S16x512x1, .i32⟩
  | 60 => ⟨S16x512x2, .f32⟩
  | 61 => ⟨S_, .f32⟩
  | 62 => ⟨S_, .f32⟩
  | 63 => ⟨S16x512x2, .i1⟩
  | 64 => ⟨S16x512x2, .f32⟩
  | 65 => ⟨S16x512x2, .f32⟩
  | 66 => ⟨S_, .i32⟩
  | 67 => ⟨S16x512, .i32⟩
  | 68 => ⟨S16x512, .i1⟩
  | 69 => ⟨S_, .i32⟩
  | 70 => ⟨S16x512, .i32⟩
  | 71 => ⟨S16x512, .i32⟩
  | 72 => ⟨S16x512, .i32⟩
  | 73 => ⟨S16x512x1, .i32⟩
  | 74 => ⟨S16x512, .f32⟩
  | 75 => ⟨S_, .f32⟩
  | 76 => ⟨S_, .f32⟩
  | 77 => ⟨S16x512, .f32⟩
  | 78 => ⟨S16x512, .f32⟩
  | 79 => ⟨S16x3x3, .f32⟩
  | _ => ⟨S16x512x2, .f32⟩

abbrev hbmTy (i : Nat) : BufTy := match i / 128 with
  | 0 => hbmTy0_0 i
  | 1 => hbmTy0_1 i
  | _ => ⟨S16x512x2, .f32⟩

abbrev bufTy : (tb : Table) → Fin (tcTables nBuf tb) → BufTy
  | .hbm, ⟨i, _⟩ => hbmTy i
  | _, _ => ⟨S16x512x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_cst_1 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_cst_2 : Ref sig .tc := ⟨.hbm, 86, rfl⟩
abbrev main_call0_v0 : Ref sig .tc := ⟨.hbm, 87, rfl⟩
abbrev main_call0_v1 : Ref sig .tc := ⟨.hbm, 88, rfl⟩
abbrev main_call0_v2 : Ref sig .tc := ⟨.hbm, 89, rfl⟩
abbrev main_v78 : Ref sig .tc := ⟨.hbm, 90, rfl⟩
abbrev main_cst_3 : Ref sig .tc := ⟨.hbm, 91, rfl⟩
abbrev main_v79 : Ref sig .tc := ⟨.hbm, 92, rfl⟩
abbrev main_cst_4 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_c : Ref sig .tc := ⟨.hbm, 100, rfl⟩
abbrev main_call1_v0 : Ref sig .tc := ⟨.hbm, 101, rfl⟩
abbrev main_call1_v1 : Ref sig .tc := ⟨.hbm, 102, rfl⟩
abbrev main_call1_v2 : Ref sig .tc := ⟨.hbm, 103, rfl⟩
abbrev main_v86 : Ref sig .tc := ⟨.hbm, 104, rfl⟩
abbrev main_c_5 : Ref sig .tc := ⟨.hbm, 105, rfl⟩
abbrev main_v87 : Ref sig .tc := ⟨.hbm, 106, rfl⟩
abbrev main_v88 : Ref sig .tc := ⟨.hbm, 107, rfl⟩
abbrev main_cst_6 : Ref sig .tc := ⟨.hbm, 108, rfl⟩
abbrev main_v89 : Ref sig .tc := ⟨.hbm, 109, rfl⟩
abbrev main_v90 : Ref sig .tc := ⟨.hbm, 110, rfl⟩
abbrev main_cst_7 : Ref sig .tc := ⟨.hbm, 111, rfl⟩
abbrev main_v91 : Ref sig .tc := ⟨.hbm, 112, rfl⟩
abbrev main_cst_8 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_call2_c : Ref sig .tc := ⟨.hbm, 127, rfl⟩
abbrev main_call2_v0 : Ref sig .tc := ⟨.hbm, 128, rfl⟩
abbrev main_call2_v1 : Ref sig .tc := ⟨.hbm, 129, rfl⟩
abbrev main_call2_c_0 : Ref sig .tc := ⟨.hbm, 130, rfl⟩
abbrev main_call2_v2 : Ref sig .tc := ⟨.hbm, 131, rfl⟩
abbrev main_call2_v3 : Ref sig .tc := ⟨.hbm, 132, rfl⟩
abbrev main_call2_v4 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_c_9 : Ref sig .tc := ⟨.hbm, 137, rfl⟩
abbrev main_call3_v0 : Ref sig .tc := ⟨.hbm, 138, rfl⟩
abbrev main_call3_v1 : Ref sig .tc := ⟨.hbm, 139, rfl⟩
abbrev main_call3_v2 : Ref sig .tc := ⟨.hbm, 140, rfl⟩
abbrev main_v108 : Ref sig .tc := ⟨.hbm, 141, rfl⟩
abbrev main_v109 : Ref sig .tc := ⟨.hbm, 142, rfl⟩
abbrev main_call4_c : Ref sig .tc := ⟨.hbm, 143, rfl⟩
abbrev main_call4_v0 : Ref sig .tc := ⟨.hbm, 144, rfl⟩
abbrev main_call4_v1 : Ref sig .tc := ⟨.hbm, 145, rfl⟩
abbrev main_call4_c_0 : Ref sig .tc := ⟨.hbm, 146, rfl⟩
abbrev main_call4_v2 : Ref sig .tc := ⟨.hbm, 147, rfl⟩
abbrev main_call4_v3 : Ref sig .tc := ⟨.hbm, 148, rfl⟩
abbrev main_call4_v4 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_c_10 : Ref sig .tc := ⟨.hbm, 153, rfl⟩
abbrev main_v113 : Ref sig .tc := ⟨.hbm, 154, rfl⟩
abbrev main_v114 : Ref sig .tc := ⟨.hbm, 155, rfl⟩
abbrev main_c_11 : Ref sig .tc := ⟨.hbm, 156, rfl⟩
abbrev main_c_12 : Ref sig .tc := ⟨.hbm, 157, rfl⟩
abbrev main_call6_v0 : Ref sig .tc := ⟨.hbm, 158, rfl⟩
abbrev main_call6_v1 : Ref sig .tc := ⟨.hbm, 159, rfl⟩
abbrev main_call6_v2 : Ref sig .tc := ⟨.hbm, 160, rfl⟩
abbrev main_call6_v3 : Ref sig .tc := ⟨.hbm, 161, rfl⟩
abbrev main_call6_v4 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_call7_c : Ref sig .tc := ⟨.hbm, 166, rfl⟩
abbrev main_call7_v0 : Ref sig .tc := ⟨.hbm, 167, rfl⟩
abbrev main_call7_v1 : Ref sig .tc := ⟨.hbm, 168, rfl⟩
abbrev main_call7_c_0 : Ref sig .tc := ⟨.hbm, 169, rfl⟩
abbrev main_call7_v2 : Ref sig .tc := ⟨.hbm, 170, rfl⟩
abbrev main_call7_v3 : Ref sig .tc := ⟨.hbm, 171, rfl⟩
abbrev main_call7_v4 : Ref sig .tc := ⟨.hbm, 172, rfl⟩
abbrev main_v118 : Ref sig .tc := ⟨.hbm, 173, rfl⟩
abbrev main_cst_13 : Ref sig .tc := ⟨.hbm, 174, rfl⟩
abbrev main_call8_v0 : Ref sig .tc := ⟨.hbm, 175, rfl⟩
abbrev main_call8_v1 : Ref sig .tc := ⟨.hbm, 176, rfl⟩
abbrev main_call8_v2 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_call9_c : Ref sig .tc := ⟨.hbm, 181, rfl⟩
abbrev main_call9_v0 : Ref sig .tc := ⟨.hbm, 182, rfl⟩
abbrev main_call9_v1 : Ref sig .tc := ⟨.hbm, 183, rfl⟩
abbrev main_call9_c_0 : Ref sig .tc := ⟨.hbm, 184, rfl⟩
abbrev main_call9_v2 : Ref sig .tc := ⟨.hbm, 185, rfl⟩
abbrev main_call9_v3 : Ref sig .tc := ⟨.hbm, 186, rfl⟩
abbrev main_call9_v4 : Ref sig .tc := ⟨.hbm, 187, rfl⟩
abbrev main_v122 : Ref sig .tc := ⟨.hbm, 188, rfl⟩
abbrev main_cst_14 : Ref sig .tc := ⟨.hbm, 189, rfl⟩
abbrev main_call10_v0 : Ref sig .tc := ⟨.hbm, 190, rfl⟩
abbrev main_call10_v1 : Ref sig .tc := ⟨.hbm, 191, rfl⟩
abbrev main_call10_v2 : Ref sig .tc := ⟨.hbm, 192, rfl⟩
abbrev main_v123 : Ref sig .tc := ⟨.hbm, 193, rfl⟩
abbrev main_call11_c : Ref sig .tc := ⟨.hbm, 194, rfl⟩
abbrev main_call11_v0 : Ref sig .tc := ⟨.hbm, 195, rfl⟩
abbrev main_call11_v1 : Ref sig .tc := ⟨.hbm, 196, rfl⟩
abbrev main_call11_c_0 : Ref sig .tc := ⟨.hbm, 197, rfl⟩
abbrev main_call11_v2 : Ref sig .tc := ⟨.hbm, 198, rfl⟩
abbrev main_call11_v3 : Ref sig .tc := ⟨.hbm, 199, rfl⟩
abbrev main_call11_v4 : Ref sig .tc := ⟨.hbm, 200, rfl⟩
abbrev main_call11_v5 : Ref sig .tc := ⟨.hbm, 201, rfl⟩
abbrev main_v124 : Ref sig .tc := ⟨.hbm, 202, rfl⟩
abbrev main_cst_15 : Ref sig .tc := ⟨.hbm, 203, rfl⟩
abbrev main_call12_v0 : Ref sig .tc := ⟨.hbm, 204, rfl⟩
abbrev main_call12_v1 : Ref sig .tc := ⟨.hbm, 205, rfl⟩
abbrev main_v125 : Ref sig .tc := ⟨.hbm, 206, rfl⟩
abbrev main_v126 : Ref sig .tc := ⟨.hbm, 207, rfl⟩

abbrev nD : Nat := 1
abbrev τ : Topo := Topo.v7x

variable {F : FTy → Type} [FloatOps F]
-- ==== Best.lean ====
abbrev S16x512x2 : Shape := ⟨3, ![16, 512, 2]⟩
abbrev S16x512 : Shape := ⟨2, ![16, 512]⟩
abbrev S16x2x512 : Shape := ⟨3, ![16, 2, 512]⟩
abbrev S16x512x1 : Shape := ⟨3, ![16, 512, 1]⟩
abbrev S16x1x512 : Shape := ⟨3, ![16, 1, 512]⟩
abbrev S16x3x3 : Shape := ⟨3, ![16, 3, 3]⟩
abbrev S16x1x1 : Shape := ⟨3, ![16, 1, 1]⟩
abbrev S1x2x512 : Shape := ⟨3, ![1, 2, 512]⟩
abbrev S1x512x2 : Shape := ⟨3, ![1, 512, 2]⟩
abbrev S1x512x1 : Shape := ⟨3, ![1, 512, 1]⟩
abbrev S1x1x512 : Shape := ⟨3, ![1, 1, 512]⟩
abbrev S1x3x3 : Shape := ⟨3, ![1, 3, 3]⟩
abbrev S1x1x1 : Shape := ⟨3, ![1, 1, 1]⟩
abbrev S512x512 : Shape := ⟨2, ![512, 512]⟩
abbrev S1x512 : Shape := ⟨2, ![1, 512]⟩
abbrev S1x64x1 : Shape := ⟨3, ![1, 64, 1]⟩
abbrev S64x1 : Shape := ⟨2, ![64, 1]⟩
abbrev S64x512 : Shape := ⟨2, ![64, 512]⟩
abbrev S512 : Shape := ⟨1, ![512]⟩
abbrev S1 : Shape := ⟨1, ![1]⟩
abbrev S512x1 : Shape := ⟨2, ![512, 1]⟩

abbrev nBuf : Space → Nat
  | .hbm => 18
  | .vmem => 26
  | .smem => 0
  | _ => 0

abbrev bufTy : (tb : Table) → Fin (tcTables nBuf tb) → BufTy
  | .hbm, ⟨0, _⟩ => ⟨S16x512x2, .f32⟩
  | .hbm, ⟨1, _⟩ => ⟨S16x512x2, .f32⟩
  | .hbm, ⟨2, _⟩ => ⟨S16x512, .f32⟩
  | .hbm, ⟨3, _⟩ => ⟨S16x512, .f32⟩
  | .hbm, ⟨4, _⟩ => ⟨S16x512x2, .f32⟩
  | .hbm, ⟨5, _⟩ => ⟨S16x2x512, .f32⟩
  | .hbm, ⟨6, _⟩ => ⟨S16x2x512, .f32⟩
  | .hbm, ⟨7, _⟩ => ⟨S16x512x1, .f32⟩
  | .hbm, ⟨8, _⟩ => ⟨S16x1x512, .f32⟩
  | .hbm, ⟨9, _⟩ => ⟨S16x512x1, .f32⟩
  | .hbm, ⟨10, _⟩ => ⟨S16x512, .f32⟩
  | .hbm, ⟨11, _⟩ => ⟨S16x1x512, .f32⟩
  | .hbm, ⟨12, _⟩ => ⟨S16x512x1, .f32⟩
  | .hbm, ⟨13, _⟩ => ⟨S16x512, .f32⟩
  | .hbm, ⟨14, _⟩ => ⟨S16x1x512, .f32⟩
  | .hbm, ⟨15, _⟩ => ⟨S16x3x3, .f32⟩
  | .hbm, ⟨16, _⟩ => ⟨S16x1x1, .f32⟩
  | .hbm, ⟨17, _⟩ => ⟨S16x1x512, .i32⟩
  | .local _ .vmem, ⟨0, _⟩ => ⟨S1x2x512, .f32⟩
  | .local _ .vmem, ⟨1, _⟩ => ⟨S1x2x512, .f32⟩
  | .local _ .vmem, ⟨2, _⟩ => ⟨S1x2x512, .f32⟩
  | .local _ .vmem, ⟨3, _⟩ => ⟨S1x2x512, .f32⟩
  | .local _ .vmem, ⟨4, _⟩ => ⟨S1x512x2, .f32⟩
  | .local _ .vmem, ⟨5, _⟩ => ⟨S1x512x2, .f32⟩
  | .local _ .vmem, ⟨6, _⟩ => ⟨S1x512x2, .f32⟩
  | .local _ .vmem, ⟨7, _⟩ => ⟨S1x512x2, .f32⟩
  | .local _ .vmem, ⟨8, _⟩ => ⟨S1x512x1, .f32⟩
  | .local _ .vmem, ⟨9, _⟩ => ⟨S1x512x1, .f32⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S1x1x512, .f32⟩
  | .local _ .vmem, ⟨15, _⟩ => ⟨S1x1x512, .f32⟩
  | .local _ .vmem, ⟨16, _⟩ => ⟨S1x3x3, .f32⟩
  | .local _ .vmem, ⟨17, _⟩ => ⟨S1x3x3, .f32⟩
  | .local _ .vmem, ⟨18, _⟩ => ⟨S1x1x1, .f32⟩
  | .local _ .vmem, ⟨19, _⟩ => ⟨S1x1x1, .f32⟩
  | .local _ .vmem, ⟨20, _⟩ => ⟨S1x1x512, .i32⟩
  | .local _ .vmem, ⟨21, _⟩ => ⟨S1x1x512, .i32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | _, _ => ⟨S16x512x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x3x3 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x512 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== BestReferenceIdeal.lean ====
abbrev S16x512x2 : Shape := ⟨3, ![16, 512, 2]⟩
abbrev S16x512 : Shape := ⟨2, ![16, 512]⟩
abbrev S_ : Shape := ⟨0, ![]⟩
abbrev S16x512x1 : Shape := ⟨3, ![16, 512, 1]⟩
abbrev S16x1x512 : Shape := ⟨3, ![16, 1, 512]⟩
abbrev S16x512x512 : Shape := ⟨3, ![16, 512, 512]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x512x512 : Shape := ⟨3, ![1, 512, 512]⟩
abbrev S16 : Shape := ⟨1, ![16]⟩
abbrev S16x1 : Shape := ⟨2, ![16, 1]⟩
abbrev S16x512x9 : Shape := ⟨3, ![16, 512, 9]⟩
abbrev S16x1x1 : Shape := ⟨3, ![16, 1, 1]⟩
abbrev S16x1x9 : Shape := ⟨3, ![16, 1, 9]⟩
abbrev S1x1x512 : Shape := ⟨3, ![1, 1, 512]⟩
abbrev S16x3x3 : Shape := ⟨3, ![16, 3, 3]⟩

abbrev nBuf : Space → Nat
  | .hbm => 159
  | .vmem => 0
  | .smem => 0
  | _ => 0

abbrev hbmTy0_0 (i : Nat) : BufTy := match i % 128 with
  | 0 => ⟨S16x512x2, .f32⟩
  | 1 => ⟨S16x512x2, .f32⟩
  | 2 => ⟨S16x512, .f32⟩
  | 3 => ⟨S16x512, .f32⟩
  | 4 => ⟨S16x512x2, .f32⟩
  | 5 => ⟨S_, .f32⟩
  | 6 => ⟨S16x512x2, .f32⟩
  | 7 => ⟨S16x512x2, .f32⟩
  | 8 => ⟨S_, .f32⟩
  | 9 => ⟨S16x512x2, .f32⟩
  | 10 => ⟨S16x512x2, .f32⟩
  | 11 => ⟨S16x512x1, .f32⟩
  | 12 => ⟨S16x512, .f32⟩
  | 13 => ⟨S16x512x1, .f32⟩
  | 14 => ⟨S16x512, .f32⟩
  | 15 => ⟨S16x512x1, .f32⟩
  | 16 => ⟨S16x512, .f32⟩
  | 17 => ⟨S16x512x1, .f32⟩
  | 18 => ⟨S16x512, .f32⟩
  | 19 => ⟨S16x512x1, .f32⟩
  | 20 => ⟨S16x512, .f32⟩
  | 21 => ⟨S16x512, .f32⟩
  | 22 => ⟨S16x512x1, .f32⟩
  | 23 => ⟨S16x512, .f32⟩
  | 24 => ⟨S16x512, .f32⟩
  | 25 => ⟨S16x512, .f32⟩
  | 26 => ⟨S16x512, .f32⟩
  | 27 => ⟨S16x512, .f32⟩
  | 28 => ⟨S16x512, .f32⟩
  | 29 => ⟨S16x512, .f32⟩
  | 30 => ⟨S16x512, .f32⟩
  | 31 => ⟨S16x512, .f32⟩
  | 32 => ⟨S16x512, .f32⟩
  | 33 => ⟨S16x512, .f32⟩
  | 34 => ⟨S16x1x512, .f32⟩
  | 35 => ⟨S16x512x1, .f32⟩
  | 36 => ⟨S16x1x512, .f32⟩
  | 37 => ⟨S16x512x512, .f32⟩
  | 38 => ⟨S16x512x512, .f32⟩
  | 39 => ⟨S16x512x512, .f32⟩
  | 40 => ⟨S16x512, .f32⟩
  | 41 => ⟨S16x512x1, .f32⟩
  | 42 => ⟨S16x1x512, .f32⟩
  | 43 => ⟨S16x512x512, .f32⟩
  | 44 => ⟨S16x512x512, .f32⟩
  | 45 => ⟨S16x512x512, .f32⟩
  | 46 => ⟨S16x512x512, .f32⟩
  | 47 => ⟨S16x512x1, .f32⟩
  | 48 => ⟨S16x512x512, .f32⟩
  | 49 => ⟨S16x512x512, .f32⟩
  | 50 => ⟨S16x512x512, .f32⟩
  | 51 => ⟨S16x512x512, .f32⟩
  | 52 => ⟨S16x1x512, .f32⟩
  | 53 => ⟨S16x512x1, .f32⟩
  | 54 => ⟨S16x1x512, .f32⟩
  | 55 => ⟨S16x512x512, .f32⟩
  | 56 => ⟨S16x512x512, .f32⟩
  | 57 => ⟨S16x512x512, .f32⟩
  | 58 => ⟨S16x512x1, .f32⟩
  | 59 => ⟨S16x1x512, .f32⟩
  | 60 => ⟨S16x512x512, .f32⟩
  | 61 => ⟨S16x512x512, .f32⟩
  | 62 => ⟨S16x512x512, .f32⟩
  | 63 => ⟨S16x512x512, .f32⟩
  | 64 => ⟨S16x512x1, .f32⟩
  | 65 => ⟨S16x512x512, .f32⟩
  | 66 => ⟨S16x512x512, .f32⟩
  | 67 => ⟨S16x512x512, .f32⟩
  | 68 => ⟨S16x512x512, .f32⟩
  | 69 => ⟨S16x512x512, .f32⟩
  | 70 => ⟨S16x512x512, .f32⟩
  | 71 => ⟨S16x512x512, .f32⟩
  | 72 => ⟨S512, .i32⟩
  | 73 => ⟨S512x1, .i32⟩
  | 74 => ⟨S512, .i32⟩
  | 75 => ⟨S1x512, .i32⟩
  | 76 => ⟨S512x512, .i32⟩
  | 77 => ⟨S512x512, .i32⟩
  | 78 => ⟨S512x512, .i1⟩
  | 79 => ⟨S_, .f32⟩
  | 80 => ⟨S16x512x512, .f32⟩
  | 81 => ⟨S16x512x512, .i1⟩
  | 82 => ⟨S1x512x512, .i1⟩
  | 83 => ⟨S16x512x512, .i1⟩
  | 84 => ⟨S16x512x512, .i1⟩
  | 85 => ⟨S16x1x512, .f32⟩
  | 86 => ⟨S_, .f32⟩
  | 87 => ⟨S_, .f32⟩
  | 88 => ⟨S16x512x512, .f32⟩
  | 89 => ⟨S16x512x512, .f32⟩
  | 90 => ⟨S16x512x512, .f32⟩
  | 91 => ⟨S_, .f32⟩
  | 92 => ⟨S16x512, .f32⟩
  | 93 => ⟨S_, .f32⟩
  | 94 => ⟨S16, .f32⟩
  | 95 => ⟨S16x1, .f32⟩
  | 96 => ⟨S16x512, .f32⟩
  | 97 => ⟨S16x512, .i1⟩
  | 98 => ⟨S512, .i32⟩
  | 99 => ⟨S1x512, .i32⟩
  | 100 => ⟨S_, .i32⟩
  | 101 => ⟨S_, .i32⟩
  | 102 => ⟨S16x512, .i32⟩
  | 103 => ⟨S16x512, .i32⟩
  | 104 => ⟨S16x512, .i32⟩
  | 105 => ⟨S_, .i32⟩
  | 106 => ⟨S16, .i32⟩
  | 107 => ⟨S16, .f32⟩
  | 108 => ⟨S_, .f32⟩
  | 109 => ⟨S16, .f32⟩
  | 110 => ⟨S16, .i1⟩
  | 111 => ⟨S_, .f32⟩
  | 112 => ⟨S16x512, .f32⟩
  | 113 => ⟨S_, .f32⟩
  | 114 => ⟨S16x512, .f32⟩
  | 115 => ⟨S16x512, .f32⟩
  | 116 => ⟨S16x512x1, .f32⟩
  | 117 => ⟨S16x512x1, .f32⟩
  | 118 => ⟨S16x512x1, .f32⟩
  | 119 => ⟨S16x512x1, .f32⟩
  | 120 => ⟨S16x512x1, .f32⟩
  | 121 => ⟨S16x512x1, .f32⟩
  | 122 => ⟨S16x512x1, .f32⟩
  | 123 => ⟨S16x512x1, .f32⟩
  | 124 => ⟨S16x512x1, .f32⟩
  | 125 => ⟨S16x512x9, .f32⟩
  | 126 => ⟨S16x1x1, .i32⟩
  | 127 => ⟨S_, .i32⟩
  | _ => ⟨S16x512x2, .f32⟩

abbrev hbmTy0_1 (i : Nat) : BufTy := match i % 128 with
  | 0 => ⟨S16x1x1, .i32⟩
  | 1 => ⟨S16x1x1, .i1⟩
  | 2 => ⟨S_, .i32⟩
  | 3 => ⟨S16x1x1, .i32⟩
  | 4 => ⟨S16x1x1, .i32⟩
  | 5 => ⟨S16x1x1, .i32⟩
  | 6 => ⟨S16x1x9, .f32⟩
  | 7 => ⟨S512, .i32⟩
  | 8 => ⟨S1x1x512, .i32⟩
  | 9 => ⟨S_, .i32⟩
  | 10 => ⟨S_, .i32⟩
  | 11 => ⟨S16x512x512, .i32⟩
  | 12 => ⟨S16x512x512, .i32⟩
  | 13 => ⟨S16x512x512, .i32⟩
  | 14 => ⟨S16x1x1, .i32⟩
  | 15 => ⟨S_, .i32⟩
  | 16 => ⟨S16x1x1, .i32⟩
  | 17 => ⟨S16x1x1, .i1⟩
  | 18 => ⟨S_, .i32⟩
  | 19 => ⟨S16x1x1, .i32⟩
  | 20 => ⟨S16x1x1, .i32⟩
  | 21 => ⟨S16x1x1, .i32⟩
  | 22 => ⟨S16x1x512, .i32⟩
  | 23 => ⟨S16x1x512, .i32⟩
  | 24 => ⟨S16x3x3, .f32⟩
  | 25 => ⟨S_, .f32⟩
  | 26 => ⟨S_, .f32⟩
  | 27 => ⟨S16, .f32⟩
  | 28 => ⟨S16, .f32⟩
  | 29 => ⟨S16, .f32⟩
  | 30 => ⟨S16x1x1, .f32⟩
  | _ => ⟨S16x512x2, .f32⟩

abbrev hbmTy (i : Nat) : BufTy := match i / 128 with
  | 0 => hbmTy0_0 i
  | 1 => hbmTy0_1 i
  | _ => ⟨S16x512x2, .f32⟩

abbrev bufTy : (tb : Table) → Fin (tcTables nBuf tb) → BufTy
  | .hbm, ⟨i, _⟩ => hbmTy i
  | _, _ => ⟨S16x512x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_cst_1 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_cst_2 : Ref sig .tc := ⟨.hbm, 86, rfl⟩
abbrev main_call0_v0 : Ref sig .tc := ⟨.hbm, 87, rfl⟩
abbrev main_call0_v1 : Ref sig .tc := ⟨.hbm, 88, rfl⟩
abbrev main_call0_v2 : Ref sig .tc := ⟨.hbm, 89, rfl⟩
abbrev main_v78 : Ref sig .tc := ⟨.hbm, 90, rfl⟩
abbrev main_cst_3 : Ref sig .tc := ⟨.hbm, 91, rfl⟩
abbrev main_v79 : Ref sig .tc := ⟨.hbm, 92, rfl⟩
abbrev main_cst_4 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_c : Ref sig .tc := ⟨.hbm, 100, rfl⟩
abbrev main_call1_v0 : Ref sig .tc := ⟨.hbm, 101, rfl⟩
abbrev main_call1_v1 : Ref sig .tc := ⟨.hbm, 102, rfl⟩
abbrev main_call1_v2 : Ref sig .tc := ⟨.hbm, 103, rfl⟩
abbrev main_v86 : Ref sig .tc := ⟨.hbm, 104, rfl⟩
abbrev main_c_5 : Ref sig .tc := ⟨.hbm, 105, rfl⟩
abbrev main_v87 : Ref sig .tc := ⟨.hbm, 106, rfl⟩
abbrev main_v88 : Ref sig .tc := ⟨.hbm, 107, rfl⟩
abbrev main_cst_6 : Ref sig .tc := ⟨.hbm, 108, rfl⟩
abbrev main_v89 : Ref sig .tc := ⟨.hbm, 109, rfl⟩
abbrev main_v90 : Ref sig .tc := ⟨.hbm, 110, rfl⟩
abbrev main_cst_7 : Ref sig .tc := ⟨.hbm, 111, rfl⟩
abbrev main_v91 : Ref sig .tc := ⟨.hbm, 112, rfl⟩
abbrev main_cst_8 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_call2_c : Ref sig .tc := ⟨.hbm, 127, rfl⟩
abbrev main_call2_v0 : Ref sig .tc := ⟨.hbm, 128, rfl⟩
abbrev main_call2_v1 : Ref sig .tc := ⟨.hbm, 129, rfl⟩
abbrev main_call2_c_0 : Ref sig .tc := ⟨.hbm, 130, rfl⟩
abbrev main_call2_v2 : Ref sig .tc := ⟨.hbm, 131, rfl⟩
abbrev main_call2_v3 : Ref sig .tc := ⟨.hbm, 132, rfl⟩
abbrev main_call2_v4 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_c_9 : Ref sig .tc := ⟨.hbm, 137, rfl⟩
abbrev main_call3_v0 : Ref sig .tc := ⟨.hbm, 138, rfl⟩
abbrev main_call3_v1 : Ref sig .tc := ⟨.hbm, 139, rfl⟩
abbrev main_call3_v2 : Ref sig .tc := ⟨.hbm, 140, rfl⟩
abbrev main_v108 : Ref sig .tc := ⟨.hbm, 141, rfl⟩
abbrev main_v109 : Ref sig .tc := ⟨.hbm, 142, rfl⟩
abbrev main_call4_c : Ref sig .tc := ⟨.hbm, 143, rfl⟩
abbrev main_call4_v0 : Ref sig .tc := ⟨.hbm, 144, rfl⟩
abbrev main_call4_v1 : Ref sig .tc := ⟨.hbm, 145, rfl⟩
abbrev main_call4_c_0 : Ref sig .tc := ⟨.hbm, 146, rfl⟩
abbrev main_call4_v2 : Ref sig .tc := ⟨.hbm, 147, rfl⟩
abbrev main_call4_v3 : Ref sig .tc := ⟨.hbm, 148, rfl⟩
abbrev main_call4_v4 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_10 : Ref sig .tc := ⟨.hbm, 153, rfl⟩
abbrev main_cst_11 : Ref sig .tc := ⟨.hbm, 154, rfl⟩
abbrev main_call6_v0 : Ref sig .tc := ⟨.hbm, 155, rfl⟩
abbrev main_call6_v1 : Ref sig .tc := ⟨.hbm, 156, rfl⟩
abbrev main_v113 : Ref sig .tc := ⟨.hbm, 157, rfl⟩
abbrev main_v114 : Ref sig .tc := ⟨.hbm, 158, rfl⟩

abbrev nD : Nat := 1
abbrev τ : Topo := Topo.v7x

variable {F : FTy → Type} [FloatOps F]
-- ==== Proof.Base.lean ====
/-
  What the modules of this certificate share: the resource algebra (the SparseCore handshakes' rounds, the TensorCore
  pipeline's rounds, the transfers' counters) and where each factor sits in it.
-/
module

public import proofs.«01_k».proof.Proof.Gen.KernelIdeal.Launch
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.RegionArraysS
public import Idealize.ShloMosaic.Lib.Tactic

@[expose] public section

noncomputable section

namespace Cert.Proof.Base

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The SparseCore handshakes' rounds. -/
abbrev UH : Type := URounds (GSem nD τ sig) ℕ
/-- The TensorCore pipeline's rounds. -/
abbrev UP : Type := URounds (GSem nD τ sig) Unit
/-- The certificate's own algebra. -/
abbrev UU : Type := UH × (UP × Counters)

/-- The whole machine's algebra over the certificate's. -/
abbrev 𝕄 : Type := MT nD τ sig (HIx 1) (Elt F) ℕ UU ℕ

/-- The certificate's algebra inside the machine's. -/
abbrev UE : Emb UU (𝕄 (F := F)) := (uEmb (nD := nD) (sig := sig) (τ := τ) (Ix := HIx 1) (Val := Elt F) (Name := ℕ) (U := UU) (Lvl := ℕ)).toEmb

/-- Where the handshakes' rounds sit. -/
def EH : Emb UH (𝕄 (F := F)) := (Emb.inl : Emb UH UU).trans UE
/-- Where the pipeline's rounds sit. -/
def EP : Emb UP (𝕄 (F := F)) := ((Emb.inl : Emb UP (UP × Counters)).trans (Emb.inr : Emb (UP × Counters) UU)).trans UE

instance EH_landsIn : (EH (F := F)).LandsIn (upEmb : UEmb _ (𝕄 (F := F))) := by unfold EH; infer_instance
instance EP_landsIn : (EP (F := F)).LandsIn (upEmb : UEmb _ (𝕄 (F := F))) := by unfold EP; infer_instance

/-- The launch's element of the certificate's algebra, taken apart into the two rounds'. -/
theorem ownU_split (a : UH) (b : UP) (k : Counters) :
    (ownU ((a, (b, k)) : UU) : sProp (𝕄 (F := F))) ⊢ iprop(BI.own (EH (F := F) a) ∗ BI.own (EP (F := F) b)) := by
  have h1 : (ownU ((a, (b, k)) : UU) : sProp (𝕄 (F := F))) ⊢ iprop(BI.own (EH (F := F) a) ∗ BI.own (UE (F := F) ((1 : UH), (b, k)))) :=
    BI.own_op_elim ((UE (F := F)).op_of_mem (Prod.mk_mem_op (URA.mem_op_one a) (URA.mem_one_op (b, k))))
  have h2 : (BI.own (UE (F := F) ((1 : UH), (b, k))) : sProp (𝕄 (F := F)))
      ⊢ iprop(BI.own (EP (F := F) b) ∗ BI.own (UE (F := F) ((1 : UH), ((1 : UP), k)))) :=
    BI.own_op_elim ((UE (F := F)).op_of_mem (Prod.mk_mem_op (URA.mem_op_one (1 : UH))
      (Prod.mk_mem_op (URA.mem_op_one b) (URA.mem_one_op k))))
  refine h1.trans (sep_mono_right (h2.trans sep_elim_left))

end Cert.Proof.Base

end
-- ==== Proof.TcBody.lean ====
/-
  The TensorCore kernel's body, run once for every grid point: from the eight input blocks, the three tables in scratch
  and the other buffers at anything, it runs to its end and leaves the outputs at a value named here.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Base
public import Idealize.ShloMosaic.Lib.WholeRead

@[expose] public section

set_option Elab.async false

noncomputable section

namespace Cert.Proof.Tc

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Base

variable {F : FTy → Type} [FloatOps F]

/-- Memref `M`'s buffer on core `c`: its contents, and the buffer held whole at `f`. -/
abbrev Bf (F : FTy → Type) (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf F c M) : sProp (𝕄 (F := F)) :=
  M.view.loc (c : Thread nD τ) ↦{fullShare} f

/-- The table fill the body does at the first grid point only: the printed conditional of its first part. -/
abbrev fillTables (i : grid0.Coords) (M13 : Memref sig .tc .vmem S512x512 .f32) (M14 : Memref sig .tc .vmem S512x512 .f32) (M15 : Memref sig .tc .vmem S512x512 .f32) :
    Prog (TpuEff nD τ sig (Elt F) Λ₀ .tc) PUnit :=
  if Scalar.cmpi .ne (Scalar.extui (Scalar.cmpi .eq (BitVec.ofNat 32 (i 0).val) 0#32) : BitVec 32) 0#32 = 1#1 then do
    let _ : Vec F S512x512 .f32 ← Prog.lift (.load M13 (Rect.unit (s := S512x512) ![0, 0] S512x512.size inb_S512x512_S512x512_0_0).toLoadRect (View.loadsAt_vmem h_S512x512))
    Prog.lift (.store M13 (Rect.unit (s := S512x512) ![0, 0] S512x512.size inb_S512x512_S512x512_0_0) (k0_pay2 (F := F)) Finset.univ (View.stores_vmem_bits_univ h_S512x512 rfl) (.inl rfl))
    let _ : Vec F S512x512 .f32 ← Prog.lift (.load M14 (Rect.unit (s := S512x512) ![0, 0] S512x512.size inb_S512x512_S512x512_0_0).toLoadRect (View.loadsAt_vmem h_S512x512))
    Prog.lift (.store M14 (Rect.unit (s := S512x512) ![0, 0] S512x512.size inb_S512x512_S512x512_0_0) (k0_pay3 (F := F)) Finset.univ (View.stores_vmem_bits_univ h_S512x512 rfl) (.inl rfl))
    let _ : Vec F S512x512 .f32 ← Prog.lift (.load M15 (Rect.unit (s := S512x512) ![0, 0] S512x512.size inb_S512x512_S512x512_0_0).toLoadRect (View.loadsAt_vmem h_S512x512))
    Prog.lift (.store M15 (Rect.unit (s := S512x512) ![0, 0] S512x512.size inb_S512x512_S512x512_0_0) (k0_pay4 (F := F)) Finset.univ (View.stores_vmem_bits_univ h_S512x512 rfl) (.inl rfl))
    pure ⟨⟩
  else do
    pure ⟨⟩

/-- The rest of the body's first part: seven rows loaded, and the values made of them. -/
noncomputable abbrev part1Rest (M1 : Memref sig .tc .vmem S1x2x512 .f32) (M2 : Memref sig .tc .vmem S1x2x512 .f32) (M3 : Memref sig .tc .vmem S1x512x2 .f32) (M4 : Memref sig .tc .vmem S1x512x2 .f32) (M5 : Memref sig .tc .vmem S1x512x1 .f32) (M6 : Memref sig .tc .vmem S1x1x512 .f32) (M7 : Memref sig .tc .vmem S1x1x512 .f32) (M8 : Memref sig .tc .vmem S1x1x512 .f32) :
    Prog (TpuEff nD τ sig (Elt F) Λ₀ .tc) (Σ' (v6 : FVec F S1x512 .f32) (v10 : FVec F S1x512 .f32) (v14 : FVec F S1x512 .f32) (v18 : FVec F S1x512 .f32) (v25 : FVec F S1x512 .f32) (v28 : FVec F S1x512 .f32), FVec F S1x512 .f32) := do
  let v3 : Vec F S1x1x512 .f32 ← Prog.lift (.load M1 (Rect.unit (s := S1x2x512) ![0, 0, 0] S1x1x512.size inb_S1x2x512_S1x1x512_0_0_0).toLoadRect (View.loadsAt_vmem h_S1x1x512))
  let v7 : Vec F S1x1x512 .f32 ← Prog.lift (.load M1 (Rect.unit (s := S1x2x512) ![0, 1, 0] S1x1x512.size inb_S1x2x512_S1x1x512_0_1_0).toLoadRect (View.loadsAt_vmem h_S1x1x512))
  let v11 : Vec F S1x1x512 .f32 ← Prog.lift (.load M2 (Rect.unit (s := S1x2x512) ![0, 0, 0] S1x1x512.size inb_S1x2x512_S1x1x512_0_0_0).toLoadRect (View.loadsAt_vmem h_S1x1x512))
  let v15 : Vec F S1x1x512 .f32 ← Prog.lift (.load M2 (Rect.unit (s := S1x2x512) ![0, 1, 0] S1x1x512.size inb_S1x2x512_S1x1x512_0_1_0).toLoadRect (View.loadsAt_vmem h_S1x1x512))
  let v19 : Vec F S1x1x512 .f32 ← Prog.lift (.load M7 (Rect.unit (s := S1x1x512) ![0, 0, 0] S1x1x512.size inb_S1x1x512_S1x1x512_0_0_0).toLoadRect (View.loadsAt_vmem h_S1x1x512))
  let v21 : Vec F S1x1x512 .f32 ← Prog.lift (.load M8 (Rect.unit (s := S1x1x512) ![0, 0, 0] S1x1x512.size inb_S1x1x512_S1x1x512_0_0_0).toLoadRect (View.loadsAt_vmem h_S1x1x512))
  let v23 : Vec F S1x1x512 .f32 ← Prog.lift (.load M6 (Rect.unit (s := S1x1x512) ![0, 0, 0] S1x1x512.size inb_S1x1x512_S1x1x512_0_0_0).toLoadRect (View.loadsAt_vmem h_S1x1x512))
  pure ⟨k0_pay5 v3, k0_pay6 v7, k0_pay7 v11, k0_pay8 v15, k0_pay11 v19 v23, k0_pay12 v21 v23, k0_pay13 v21 v23⟩

/-- The first part is the table fill, then the rest. -/
theorem part1_eq (i : grid0.Coords) (M1 : Memref sig .tc .vmem S1x2x512 .f32) (h1 : M1.IsWhole) (M2 : Memref sig .tc .vmem S1x2x512 .f32) (h2 : M2.IsWhole) (M3 : Memref sig .tc .vmem S1x512x2 .f32) (h3 : M3.IsWhole) (M4 : Memref sig .tc .vmem S1x512x2 .f32) (h4 : M4.IsWhole) (M5 : Memref sig .tc .vmem S1x512x1 .f32) (h5 : M5.IsWhole) (M6 : Memref sig .tc .vmem S1x1x512 .f32) (h6 : M6.IsWhole) (M7 : Memref sig .tc .vmem S1x1x512 .f32) (h7 : M7.IsWhole) (M8 : Memref sig .tc .vmem S1x1x512 .f32) (h8 : M8.IsWhole) (M9 : Memref sig .tc .vmem S1x3x3 .f32) (h9 : M9.IsWhole) (M10 : Memref sig .tc .vmem S1x1x1 .f32) (h10 : M10.IsWhole) (M11 : Memref sig .tc .vmem S1x1x512 .i32) (h11 : M11.IsWhole) (M12 : Memref sig .tc .vmem S512x512 .f32) (h12 : M12.IsWhole) (M13 : Memref sig .tc .vmem S512x512 .f32) (h13 : M13.IsWhole) (M14 : Memref sig .tc .vmem S512x512 .f32) (h14 : M14.IsWhole) (M15 : Memref sig .tc .vmem S512x512 .f32) (h15 : M15.IsWhole) :
    k0_part1 (F := F) i M1 h1 M2 h2 M3 h3 M4 h4 M5 h5 M6 h6 M7 h7 M8 h8 M9 h9 M10 h10 M11 h11 M12 h12 M13 h13 M14 h14 M15 h15 = fillTables (F := F) i M13 M14 M15 >>= fun _ => part1Rest (F := F) M1 M2 M3 M4 M5 M6 M7 M8 := by
  rw [k0_part1_eq_skeleton]
  unfold k0_part1_skel fillTables
  dsimp only
  split
  · rfl
  · rfl

/-- What the body leaves in its three outputs and its distance scratch, with the proof that it runs: `J` is what the
    table fill is run from, and `hJ` says it leaves the three tables. -/
noncomputable def bodyRun (c : Dev nD) (i : grid0.Coords) (M1 : Memref sig .tc .vmem S1x2x512 .f32) (h1 : M1.IsWhole) (M2 : Memref sig .tc .vmem S1x2x512 .f32) (h2 : M2.IsWhole) (M3 : Memref sig .tc .vmem S1x512x2 .f32) (h3 : M3.IsWhole) (M4 : Memref sig .tc .vmem S1x512x2 .f32) (h4 : M4.IsWhole) (M5 : Memref sig .tc .vmem S1x512x1 .f32) (h5 : M5.IsWhole) (M6 : Memref sig .tc .vmem S1x1x512 .f32) (h6 : M6.IsWhole) (M7 : Memref sig .tc .vmem S1x1x512 .f32) (h7 : M7.IsWhole) (M8 : Memref sig .tc .vmem S1x1x512 .f32) (h8 : M8.IsWhole) (M9 : Memref sig .tc .vmem S1x3x3 .f32) (h9 : M9.IsWhole) (M10 : Memref sig .tc .vmem S1x1x1 .f32) (h10 : M10.IsWhole) (M11 : Memref sig .tc .vmem S1x1x512 .i32) (h11 : M11.IsWhole) (M12 : Memref sig .tc .vmem S512x512 .f32) (h12 : M12.IsWhole) (M13 : Memref sig .tc .vmem S512x512 .f32) (h13 : M13.IsWhole) (M14 : Memref sig .tc .vmem S512x512 .f32) (h14 : M14.IsWhole) (M15 : Memref sig .tc .vmem S512x512 .f32) (h15 : M15.IsWhole)
    (X1 : S1x2x512.Idx → Elt F .f32) (X2 : S1x2x512.Idx → Elt F .f32) (X3 : S1x512x2.Idx → Elt F .f32) (X4 : S1x512x2.Idx → Elt F .f32) (X5 : S1x512x1.Idx → Elt F .f32) (X6 : S1x1x512.Idx → Elt F .f32) (X7 : S1x1x512.Idx → Elt F .f32) (X8 : S1x1x512.Idx → Elt F .f32) :
    { W : Bf F c M9 × Bf F c M10 × Bf F c M11 × Bf F c M12 // ∀ (J : sProp (𝕄 (F := F)))
        (_ : ∀ (E : Set ℕ) (Q : PUnit → sProp (𝕄 (F := F))), iprop(J ∗ (iprop(pt c M13 (h13.unread (k0_pay2 (F := F))) ∗ pt c M14 (h14.unread (k0_pay3 (F := F))) ∗ pt c M15 (h15.unread (k0_pay4 (F := F)))) -∗ Q ⟨⟩))
          ⊢ wp frame (wpE (defs₀ (F := F)) Variants.none c none) E (fillTables (F := F) i M13 M14 M15) Q)
        (f9 : Bf F c M9) (f10 : Bf F c M10) (f11 : Bf F c M11) (f12 : Bf F c M12) (E : Set ℕ) (Q : PUnit → sProp (𝕄 (F := F))),
        iprop(pt c M1 (h1.unread X1) ∗ pt c M2 (h2.unread X2) ∗ pt c M3 (h3.unread X3) ∗ pt c M4 (h4.unread X4) ∗ pt c M5 (h5.unread X5) ∗ pt c M6 (h6.unread X6) ∗ pt c M7 (h7.unread X7) ∗ pt c M8 (h8.unread X8) ∗ pt c M9 f9 ∗ pt c M10 f10 ∗ pt c M11 f11 ∗ pt c M12 f12 ∗ J
            ∗ (iprop(pt c M1 (h1.unread X1) ∗ pt c M2 (h2.unread X2) ∗ pt c M3 (h3.unread X3) ∗ pt c M4 (h4.unread X4) ∗ pt c M5 (h5.unread X5) ∗ pt c M6 (h6.unread X6) ∗ pt c M7 (h7.unread X7) ∗ pt c M8 (h8.unread X8) ∗ pt c M9 W.1 ∗ pt c M10 W.2.1 ∗ pt c M11 W.2.2.1 ∗ pt c M12 W.2.2.2 ∗ pt c M13 (h13.unread (k0_pay2 (F := F))) ∗ pt c M14 (h14.unread (k0_pay3 (F := F))) ∗ pt c M15 (h15.unread (k0_pay4 (F := F)))) -∗ Q ⟨⟩))
          ⊢ wp frame (wpE (defs₀ (F := F)) Variants.none c none) E (cc0__ransac_tc_kernel (F := F) i M1 h1 M2 h2 M3 h3 M4 h4 M5 h5 M6 h6 M7 h7 M8 h8 M9 h9 M10 h10 M11 h11 M12 h12 M13 h13 M14 h14 M15 h15) Q } := by
  refine ⟨(?_, ?_, ?_, ?_), fun J hJ f9 f10 f11 f12 E Q => ?run⟩
  case run =>
    simp only [cc0__ransac_tc_kernel_eq_skeleton]
    unfold cc0__ransac_tc_kernel_skel
    simp only [part1_eq, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    iintro ⟨H1, H2, H3, H4, H5, H6, H7, H8, H9, H10, H11, H12, HJ, Hk⟩
    rw [Idealize.SL.Sem.wp_bind, Idealize.SL.Sem.wp_bind]
    iapply (hJ _ _)
    isplitl [HJ]; · iexact HJ
    iintro ⟨H13, H14, H15⟩
    sl_exec!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.Proof.Tc

end
-- ==== Proof.TcRegion.lean ====
/-
  The TensorCore kernel's region: the proof data of its pipeline at an entry valuation, the body at every grid point,
  and the region's record, entered and left while the core owes the SparseCore its start signals.
-/
module

public import proofs.«01_k».proof.Proof.TcBody
public import Idealize.ShloMosaic.Lib.VecWindow

@[expose] public section

set_option Elab.async false

noncomputable section

namespace Cert.Proof.Tc

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Base

variable {F : FTy → Type} [FloatOps F]

/-! ## The table fill at a grid point -/

/-- The three tables in three whole buffers. -/
abbrev tablesIn (c : Dev nD) (M13 : Memref sig .tc .vmem S512x512 .f32) (h13 : M13.IsWhole) (M14 : Memref sig .tc .vmem S512x512 .f32)
    (h14 : M14.IsWhole) (M15 : Memref sig .tc .vmem S512x512 .f32) (h15 : M15.IsWhole) : sProp (𝕄 (F := F)) :=
  iprop(pt c M13 (h13.unread (k0_pay2 (F := F))) ∗ pt c M14 (h14.unread (k0_pay3 (F := F))) ∗ pt c M15 (h15.unread (k0_pay4 (F := F))))

/-- The tables the first grid point leaves in scratch. -/
abbrev tables (c : Dev nD) : sProp (𝕄 (F := F)) :=
  tablesIn c (Memref.whole cc0_scratch1) (Memref.isWhole_whole _) (Memref.whole cc0_scratch2) (Memref.isWhole_whole _) (Memref.whole cc0_scratch3) (Memref.isWhole_whole _)

/-- The three table scratches before grid point `n`: at anything before the first, at the tables from then on. -/
def tabsAt (c : Dev nD) (n : ℕ) : sProp (𝕄 (F := F)) :=
  if n = 0 then iprop((∃ f, pt c (Memref.whole cc0_scratch1) f) ∗ (∃ f, pt c (Memref.whole cc0_scratch2) f) ∗ ∃ f, pt c (Memref.whole cc0_scratch3) f)
  else tables c

omit [FloatOps F] in
/-- The body's condition holds at the first grid point and at no other. -/
theorem cond_iff (t : Fin cfg0.N) :
    Scalar.cmpi .ne (Scalar.extui (Scalar.cmpi .eq (BitVec.ofNat 32 (grid0.coords t 0).val) 0#32) : BitVec 32) 0#32 = 1#1 ↔ t.val = 0 := by
  rcases fin_N0 t with h | h | h | h | h | h | h | h | h | h | h | h | h | h | h | h <;> subst h <;> decide +kernel

/-- A whole buffer owned at `X` is it held at the contents that read `X`. -/
theorem owns_isWhole (c : Dev nD) {sp : Space} {S : Shape} {e : EltTy} (M : Memref sig .tc sp S e) (h : M.IsWhole) (X : S.Idx → Elt F e) :
    (owns (c : Thread nD τ) M fullShare X : sProp (𝕄 (F := F))) ⊣⊢ pt c M (h.unread X) := by
  unfold owns
  rw [h.set_eq_univ]
  constructor
  · iintro ⟨%f, %hf, H⟩
    obtain rfl := h.eq_unread hf
    iexact H
  · iintro H
    iexists _
    isplitr; swap; · iexact H
    ipureintro; exact h.read_unread X

/-- A whole buffer held is it owned at what it reads. -/
theorem owns_of_pt (c : Dev nD) {sp : Space} {S : Shape} {e : EltTy} (M : Memref sig .tc sp S e) (h : M.IsWhole) (f : Bf F c M) :
    pt c M f ⊢ (owns (c : Thread nD τ) M fullShare (M.view.read (Elt F) f) : sProp (𝕄 (F := F))) := by
  rw [show f = h.unread (M.view.read (Elt F) f) from (h.unread_read f).symm, h.read_unread]
  exact (owns_isWhole c M h _).2

/-- The fill leaves the tables, whatever it is run from. -/
theorem fill_run (c : Dev nD) (t : Fin cfg0.N) (E : Set ℕ) (Q : PUnit → sProp (𝕄 (F := F))) :
    iprop(tabsAt (F := F) c t.val ∗ (tables c -∗ Q ⟨⟩))
      ⊢ wp frame (wpE (defs₀ (F := F)) Variants.none c none) E
        (fillTables (F := F) (grid0.coords t) (Memref.whole cc0_scratch1) (Memref.whole cc0_scratch2) (Memref.whole cc0_scratch3)) Q := by
  unfold tabsAt fillTables tables tablesIn
  by_cases h : t.val = 0
  · rw [if_pos h, if_pos ((cond_iff t).mpr h)]
    iintro ⟨⟨⟨%f1, H1⟩, ⟨%f2, H2⟩, ⟨%f3, H3⟩⟩, Hk⟩
    sl_exec!
    sl_step
    iapply Hk
    rw [show (Memref.whole cc0_scratch1).view.writes (Elt F) (Memref.whole cc0_scratch1).view.junk fill_run.sl.H1_1 = (Memref.isWhole_whole cc0_scratch1).unread (k0_pay2 (F := F)) from
        (Memref.isWhole_whole cc0_scratch1).eq_unread (View.read_writes_full _ _ _ _ _),
      show (Memref.whole cc0_scratch2).view.writes (Elt F) (Memref.whole cc0_scratch2).view.junk fill_run.sl.H2_1 = (Memref.isWhole_whole cc0_scratch2).unread (k0_pay3 (F := F)) from
        (Memref.isWhole_whole cc0_scratch2).eq_unread (View.read_writes_full _ _ _ _ _),
      show (Memref.whole cc0_scratch3).view.writes (Elt F) (Memref.whole cc0_scratch3).view.junk fill_run.sl.H3_1 = (Memref.isWhole_whole cc0_scratch3).unread (k0_pay4 (F := F)) from
        (Memref.isWhole_whole cc0_scratch3).eq_unread (View.read_writes_full _ _ _ _ _)]
    isplitl [H1]; · iexact H1
    isplitl [H2]; · iexact H2
    iexact H3
  · rw [if_neg h, if_neg (fun h' => h ((cond_iff t).mp h'))]
    iintro ⟨HT, Hk⟩
    sl_step
    iapply Hk
    iexact HT

/-! ## The proof data, at an entry valuation -/

variable (V : Dev nD → Valuation τ sig (Elt F)) (D : Dev nD → CellTallies nD τ sig (HIx 1)) (S0 : Dev nD → Set (SemLoc sig × HIx 1))

/-- Window `w`'s block at point `t`, read from the entry contents of its array. -/
abbrev stg (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The body's run at point `t`. -/
abbrev runAt (c : Dev nD) (t : Fin cfg0.N) :=
  bodyRun (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (stg V c 0 t) (stg V c 1 t) (stg V c 2 t) (stg V c 3 t) (stg V c 4 t) (stg V c 5 t) (stg V c 6 t) (stg V c 7 t)

/-- The proof data: arrays at the entry valuation; inputs as fetched and outputs at the run's values after the body; the
    scratch buffers between points; what the core owes, and the waits it has recorded. -/
def dat (c : Dev nD) : Dat τ (Elt F) (HIx 1) ℕ UU ℕ cfg0 c where
  A w := V c (Proc.devRef .tc (Pipeline.arrRef spec0 w))
  after w t := match w with
    | ⟨0, _⟩ => stg V c 0 t
    | ⟨1, _⟩ => stg V c 1 t
    | ⟨2, _⟩ => stg V c 2 t
    | ⟨3, _⟩ => stg V c 3 t
    | ⟨4, _⟩ => stg V c 4 t
    | ⟨5, _⟩ => stg V c 5 t
    | ⟨6, _⟩ => stg V c 6 t
    | ⟨7, _⟩ => stg V c 7 t
    | ⟨8, _⟩ => (st0_8 t).view.read (Elt F) (runAt V c t).1.1
    | ⟨9, _⟩ => (st0_9 t).view.read (Elt F) (runAt V c t).1.2.1
    | ⟨10, _⟩ => (st0_10 t).view.read (Elt F) (runAt V c t).1.2.2.1
  Φ t := iprop((∃ f, pt c (Memref.whole cc0_scratch0) f) ∗ tabsAt (F := F) c t.val)
  q _ := fullShare
  owed _ := D c
  recorded _ := S0 c

theorem before_0 (c : Dev nD) (t : Fin cfg0.N) (d : (cfg0.win 0).block.Idx → Elt F (cfg0.win 0).elt) : (dat V D S0 c).before 0 t d = stg V c 0 t := by
  unfold Dat.before; rw [if_pos (fetch0_0 t)]; rfl
theorem before_1 (c : Dev nD) (t : Fin cfg0.N) (d : (cfg0.win 1).block.Idx → Elt F (cfg0.win 1).elt) : (dat V D S0 c).before 1 t d = stg V c 1 t := by
  unfold Dat.before; rw [if_pos (fetch0_1 t)]; rfl
theorem before_2 (c : Dev nD) (t : Fin cfg0.N) (d : (cfg0.win 2).block.Idx → Elt F (cfg0.win 2).elt) : (dat V D S0 c).before 2 t d = stg V c 2 t := by
  unfold Dat.before; rw [if_pos (fetch0_2 t)]; rfl
theorem before_3 (c : Dev nD) (t : Fin cfg0.N) (d : (cfg0.win 3).block.Idx → Elt F (cfg0.win 3).elt) : (dat V D S0 c).before 3 t d = stg V c 3 t := by
  unfold Dat.before; rw [if_pos (fetch0_3 t)]; rfl
theorem before_4 (c : Dev nD) (t : Fin cfg0.N) (d : (cfg0.win 4).block.Idx → Elt F (cfg0.win 4).elt) : (dat V D S0 c).before 4 t d = stg V c 4 t := by
  unfold Dat.before; rw [if_pos (fetch0_4 t)]; rfl
theorem before_5 (c : Dev nD) (t : Fin cfg0.N) (d : (cfg0.win 5).block.Idx → Elt F (cfg0.win 5).elt) : (dat V D S0 c).before 5 t d = stg V c 5 t := by
  unfold Dat.before; rw [if_pos (fetch0_5 t)]; rfl
theorem before_6 (c : Dev nD) (t : Fin cfg0.N) (d : (cfg0.win 6).block.Idx → Elt F (cfg0.win 6).elt) : (dat V D S0 c).before 6 t d = stg V c 6 t := by
  unfold Dat.before; rw [if_pos (fetch0_6 t)]; rfl
theorem before_7 (c : Dev nD) (t : Fin cfg0.N) (d : (cfg0.win 7).block.Idx → Elt F (cfg0.win 7).elt) : (dat V D S0 c).before 7 t d = stg V c 7 t := by
  unfold Dat.before; rw [if_pos (fetch0_7 t)]; rfl

set_option maxHeartbeats 4000000 in
/-- The body at every point: the run at the blocks the fetches staged. -/
theorem body_obligation (c : Dev nD) : BodyObligation (dat V D S0 c) (defs₀ (F := F)) Variants.none (none : HIx 1) Set.univ := fun t => by
  rw [bigSep_W0, bigSep_W0]
  rw [show (dat V D S0 c).Φ t.castSucc = iprop((∃ f, pt c (Memref.whole cc0_scratch0) f) ∗ tabsAt (F := F) c t.val) from rfl,
    show (dat V D S0 c).Φ t.succ = iprop((∃ f, pt c (Memref.whole cc0_scratch0) f) ∗ tables (F := F) c) from rfl,
    show (dat V D S0 c).owesAt none t.succ = (dat V D S0 c).owesAt none t.castSucc from rfl]
  iintro ⟨⟨⟨%fs, Hs⟩, HT⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before_0]
  ihave H0 := (owns_isWhole c (st0_0 t) (hstage0_0 ((cfg0.slots t 0).cast nbuf0_0)) _).1 $$ H0
  rw [before_1]
  ihave H1 := (owns_isWhole c (st0_1 t) (hstage0_1 ((cfg0.slots t 1).cast nbuf0_1)) _).1 $$ H1
  rw [before_2]
  ihave H2 := (owns_isWhole c (st0_2 t) (hstage0_2 ((cfg0.slots t 2).cast nbuf0_2)) _).1 $$ H2
  rw [before_3]
  ihave H3 := (owns_isWhole c (st0_3 t) (hstage0_3 ((cfg0.slots t 3).cast nbuf0_3)) _).1 $$ H3
  rw [before_4]
  ihave H4 := (owns_isWhole c (st0_4 t) (hstage0_4 ((cfg0.slots t 4).cast nbuf0_4)) _).1 $$ H4
  rw [before_5]
  ihave H5 := (owns_isWhole c (st0_5 t) (hstage0_5 ((cfg0.slots t 5).cast nbuf0_5)) _).1 $$ H5
  rw [before_6]
  ihave H6 := (owns_isWhole c (st0_6 t) (hstage0_6 ((cfg0.slots t 6).cast nbuf0_6)) _).1 $$ H6
  rw [before_7]
  ihave H7 := (owns_isWhole c (st0_7 t) (hstage0_7 ((cfg0.slots t 7).cast nbuf0_7)) _).1 $$ H7
  ihave H8 := (owns_isWhole c (st0_8 t) (hstage0_8 ((cfg0.slots t 8).cast nbuf0_8)) _).1 $$ H8
  ihave H9 := (owns_isWhole c (st0_9 t) (hstage0_9 ((cfg0.slots t 9).cast nbuf0_9)) _).1 $$ H9
  ihave H10 := (owns_isWhole c (st0_10 t) (hstage0_10 ((cfg0.slots t 10).cast nbuf0_10)) _).1 $$ H10
  iapply ((runAt V c t).2 (tabsAt (F := F) c t.val) (fun E Q => fill_run c t E Q) _ _ _ fs Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [Hs]; · iexact Hs
  isplitl [HT]; · iexact HT
  iintro ⟨H0, H1, H2, H3, H4, H5, H6, H7, H8, H9, H10, Hs, HT1, HT2, HT3⟩
  isplitl [Hs HT1 HT2 HT3]
  · isplitl [Hs]; · iexists _; iexact Hs
    unfold tables tablesIn
    isplitl [HT1]; · iexact HT1
    isplitl [HT2]; · iexact HT2
    iexact HT3
  isplitl [Howes]; · iexact Howes
  isplitl [H0]; · iapply (owns_isWhole c (st0_0 t) (hstage0_0 ((cfg0.slots t 0).cast nbuf0_0)) _).2 $$ H0
  isplitl [H1]; · iapply (owns_isWhole c (st0_1 t) (hstage0_1 ((cfg0.slots t 1).cast nbuf0_1)) _).2 $$ H1
  isplitl [H2]; · iapply (owns_isWhole c (st0_2 t) (hstage0_2 ((cfg0.slots t 2).cast nbuf0_2)) _).2 $$ H2
  isplitl [H3]; · iapply (owns_isWhole c (st0_3 t) (hstage0_3 ((cfg0.slots t 3).cast nbuf0_3)) _).2 $$ H3
  isplitl [H4]; · iapply (owns_isWhole c (st0_4 t) (hstage0_4 ((cfg0.slots t 4).cast nbuf0_4)) _).2 $$ H4
  isplitl [H5]; · iapply (owns_isWhole c (st0_5 t) (hstage0_5 ((cfg0.slots t 5).cast nbuf0_5)) _).2 $$ H5
  isplitl [H6]; · iapply (owns_isWhole c (st0_6 t) (hstage0_6 ((cfg0.slots t 6).cast nbuf0_6)) _).2 $$ H6
  isplitl [H7]; · iapply (owns_isWhole c (st0_7 t) (hstage0_7 ((cfg0.slots t 7).cast nbuf0_7)) _).2 $$ H7
  isplitl [H8]; · iapply (owns_of_pt c (st0_8 t) (hstage0_8 ((cfg0.slots t 8).cast nbuf0_8)) _) $$ H8
  isplitl [H9]; · iapply (owns_of_pt c (st0_9 t) (hstage0_9 ((cfg0.slots t 9).cast nbuf0_9)) _) $$ H9
  · iapply (owns_of_pt c (st0_10 t) (hstage0_10 ((cfg0.slots t 10).cast nbuf0_10)) _) $$ H10

end Cert.Proof.Tc

end
-- ==== Proof.Region.lean ====
/-
  The TensorCore kernel's call as one step of the TensorCore's program: it is entered with every unscoped buffer at a
  valuation, and left with the windows' arrays at what the run of the grid leaves in them.
-/
module

public import proofs.«01_k».proof.Proof.TcRegion

@[expose] public section

set_option Elab.async false

noncomputable section

namespace Cert.Proof.Tc

open Cert.KernelIdeal Cert.KernelIdeal.Gen
open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Base

variable {F : FTy → Type} [FloatOps F]

/-- The label signature of the program with its pipeline, and the SparseCore's configuration over it. -/
abbrev ΛP (F : FTy → Type) [FloatOps F] := Pipeline.Sig Λ₀ (Fin 1) fun p => (pcfgs (F := F) p).Adm
abbrev K (F : FTy → Type) [FloatOps F] : SparseCore.Cfg τ sig (ΛP F) 1 := sc
abbrev DD (F : FTy → Type) [FloatOps F] : Defs nD τ sig (Elt F) (ΛP F) := Pipeline.defs pcfgs defs₀

/-- The one admissible (empty) table of each pipeline. -/
abbrev adm : (p : Fin 1) → (pcfgs (F := F) p).Adm := fun p => (cfgs p).toPCfg_adm

/-- The recorded waits of device `c`'s TensorCore that lie at level zero. -/
abbrev lowWaits (F : FTy → Type) [FloatOps F] (c : Dev nD) : Set (SemLoc sig × HIx 1) := {p | (K F).lev (T c, p.1) p.2 ≤ 0}

/-- What device `c`'s TensorCore owes before its one SparseCore launch. -/
abbrev owed₀ (F : FTy → Type) [FloatOps F] (c : Dev nD) : CellTallies nD τ sig (HIx 1) := (K F).Otc c 0

variable (V : Dev nD → Valuation τ sig (Elt F))

abbrev dat₀ (c : Dev nD) : Dat τ (Elt F) (HIx 1) ℕ UU ℕ cfg0 c := dat V (owed₀ F) (lowWaits F) c

/-- The proof data of the program's pipelines: the one. -/
def pdats : (p : Fin 1) → (c : Dev nD) → Dat τ (Elt F) (HIx 1) ℕ UU ℕ (Pipeline.pin (pcfgs (F := F)) adm p) c
  | ⟨0, _⟩ => fun c => dat₀ V c

/-- The valuation after the call. -/
abbrev after₀ (c : Dev nD) : Valuation τ sig (Elt F) := Pipeline.afterRegion (dat₀ V c) (V c)

theorem low_of_bound (c : Dev nD) (W : Finset (SemLoc sig × HIx 1)) (n : Fin (cfg0.N + 1)) (h : (↑W : Set _) ⊆ (dat₀ V c).bound none n) :
    (K F).WBelow (T c) W 0 := by
  intro p hp
  rcases h hp with h' | ⟨w, s, h'⟩
  · exact h'
  · have : p.2 = none := by exact congrArg Prod.snd h'
    rw [this]; exact le_of_eq ((K F).lev_none _)

/-- The layout facts of the pipeline, over these values. -/
theorem kit : Pipeline.PLaunchFacts (nD := nD) (τ := τ) (pcfgs (F := F)) 0 := launch0.toP

theorem share_full (c : Dev nD) (w : Fin (Pipeline.pin (pcfgs (F := F)) adm 0).W) : (pdats V 0 c).share w = fullShare := by
  unfold Dat.share; split <;> rfl

/-- The call's record: what it is entered with and left with, sorted. -/
def seg : Pipeline.RegionSeg (pcfgs (F := F)) adm (pdats V) (none : HIx 1) defs₀ Variants.none (K F).L (K F).lev (0 : Fin 1) where
  win := (kit (F := F)).to₀.win
  block_pos := (kit (F := F)).to₀.block_pos
  stage_whole := (kit (F := F)).to₀.stage_whole
  K := PEmpty
  osem k := k.elim
  ho := Pipeline.OwnSemFacts.none _
  hbody c := (body_obligation V (owed₀ F) (lowWaits F) c).loose
  hwaits c := Pipeline.cellsWaits_of_cut (Pipeline.pin (pcfgs (F := F)) adm) (pdats V) none 0 c 0 (owed₀ F c) (fun _ => rfl)
    (fun _ _ => Finset.mem_univ _) (fun w s => le_of_eq ((K F).lev_none _)) (fun g i h => ⟨Finset.mem_univ _, by have := SparseCore.Cfg.lev_of_Otc_pos h; omega⟩)
  pre c := iprop(StableHlo.held (c.tc : Thread nD τ) (Pipeline.arrRefs (pcfgs (F := F) 0).spec) (V c)
    ∗ ∃ W, ⌜(K F).WBelow (T c) W 0⌝ ∗ owes (T c) (owed₀ F c) W)
  post c := iprop(StableHlo.held (c.tc : Thread nD τ) (Pipeline.arrRefs (pcfgs (F := F) 0).spec) (after₀ V c)
    ∗ ∃ W, ⌜(K F).WBelow (T c) W 0⌝ ∗ owes (T c) (owed₀ F c) W)
  X _ := BI.emp
  Y _ := BI.emp
  Z _ := BI.emp
  hentry c := by
    rw [Pipeline.ownSems0_none, Pipeline.prefHeld_of_none _ rfl,
      ← Pipeline.arrays_held (pcfgs (F := F)) adm (pdats V) 0 (kit (F := F)) c (share_full V c) ((pdats V 0 c).arrAt · 0) (V c) (fun _ => rfl)]
    iintro ⟨⟨Ha, %W, %hW, HO⟩, -, -⟩
    imodintro
    isplitl [Ha]; · iexact Ha
    isplitr; · iempintro
    isplitl [HO]
    · unfold Dat.owesAt Pipeline.owesWithin Dat.bound
      iexists W; isplitr; · ipureintro; exact fun p hp => Or.inl (hW p hp)
      iexact HO
    isplitr <;> iempintro
  hin c := by
    rw [show Pipeline.scopedRest (Pipeline.pin (pcfgs (F := F)) adm 0).spec c = _ from scopedRest0_eq c]
    show _ ⊢ iprop((∃ f, pt c (Memref.whole cc0_scratch0) f) ∗ tabsAt (F := F) c 0)
    unfold tabsAt
    rw [if_pos rfl]
    iintro ⟨-, -, H0, H1, H2, H3⟩
    isplitl [H0]; · iexact H0
    isplitl [H1]; · iexact H1
    isplitl [H2]; · iexact H2
    iexact H3
  hout c := by
    rw [show Pipeline.scopedRest (Pipeline.pin (pcfgs (F := F)) adm 0).spec c = _ from scopedRest0_eq c, Pipeline.ownSems0_none]
    show iprop((∃ f, pt c (Memref.whole cc0_scratch0) f) ∗ tabsAt (F := F) c cfg0.N) ⊢ _
    rw [show cfg0.N = 16 from N_0]
    unfold tabsAt tables tablesIn
    rw [if_neg (by decide)]
    iintro ⟨H0, H1, H2, H3⟩
    isplitr; · iempintro
    isplitr; · iempintro
    isplitl [H0]; · iexact H0
    isplitl [H1]; · iexists _; iexact H1
    isplitl [H2]; · iexists _; iexact H2
    iexists _; iexact H3
  hexit c := by
    rw [← Pipeline.arrays_held (pcfgs (F := F)) adm (pdats V) 0 (kit (F := F)) c (share_full V c) ((pdats V 0 c).arrAt · (Pipeline.pin (pcfgs (F := F)) adm 0).N) (after₀ V c)
      (fun w => (Pipeline.afterRegion_arr (dat₀ V c) (V c) launch0.win.arr_inj w).symm)]
    iintro ⟨Ha, ⟨%W, %hW, HO⟩, -, -⟩
    imodintro
    isplitl [Ha]; · iexact Ha
    iexists W; isplitr; · ipureintro; exact low_of_bound V c W _ hW
    iexact HO

abbrev 𝒱₀ : Variants := Variants.none
abbrev 𝒱 : Variants := 𝒱₀.lift

/-- The TensorCore's unscoped references: what its thread state holds at a valuation. -/
def ucRefs : Finset (DevRef τ sig) := (StableHlo.tcRefs τ sig).filter fun b => ¬ b.isScoped

omit [FloatOps F] in
/-- The launch's unscoped buffers at a valuation are that set held at it. -/
theorem unscoped_held (c : Dev nD) (W : Valuation τ sig (Elt F)) :
    (unscopedBufs c (fun b => W b) : sProp (𝕄 (F := F))) = StableHlo.held (c : Thread nD τ) ucRefs W := by
  unfold unscopedBufs StableHlo.held ucRefs StableHlo.tcRefs
  rw [Finset.filter_map, bigSep_map]
  rfl

theorem arr_uc : ∀ w : Fin 11, (Proc.tc.devRef (Pipeline.arrRef spec0 w) : DevRef τ sig) ∈ ucRefs := by
  intro w
  refine Finset.mem_filter.mpr ⟨Finset.mem_map_of_mem _ (Finset.mem_univ _), ?_⟩
  revert w
  decide +kernel

theorem arrRefs_sub : Pipeline.arrRefs (pcfgs (F := F) 0).spec ⊆ ucRefs := by
  intro b hb
  obtain ⟨r, hr, rfl⟩ := Finset.mem_map.mp hb
  obtain ⟨w, -, rfl⟩ := Finset.mem_image.mp hr
  exact arr_uc w

/-- After the call: the windows' arrays as the run leaves them and the other buffers as they were are all of them at `after₀`. -/
theorem after_split (c : Dev nD) :
    (iprop(StableHlo.held (T c) (Pipeline.arrRefs (pcfgs (F := F) 0).spec) (after₀ V c)
        ∗ StableHlo.held (T c) (ucRefs \ Pipeline.arrRefs (pcfgs (F := F) 0).spec) (V c)) : sProp (𝕄 (F := F)))
      = StableHlo.held (T c) ucRefs (after₀ V c) := by
  rw [StableHlo.held_sub_split (T c) (arrRefs_sub (F := F)) (after₀ V c),
    StableHlo.held_congr (T c) (V := after₀ V c) (V' := V c) (S := ucRefs \ Pipeline.arrRefs (pcfgs (F := F) 0).spec) (Pipeline.afterRegion_off (dat₀ V c) (V c) ucRefs)]

/-- The call as a step of the TensorCore's program: from the unscoped buffers at `V c`, the core owing its SparseCore
    launch with only level-zero waits recorded, and the pipeline's ghost state, it goes on with the buffers at `after₀ V c`. -/
theorem region_step (c : Dev nD) (Q : PUnit → sProp (𝕄 (F := F))) :
    iprop(boundary (T c) ∗ StableHlo.held (T c) ucRefs (V c) ∗ (∃ W, ⌜(K F).WBelow (T c) W 0⌝ ∗ owes (T c) (owed₀ F c) W)
        ∗ levAts (K F).L (K F).lev ∗ Pipeline.cellsGhost (Pipeline.pin (pcfgs (F := F)) adm) EP 0 c ∗ Pipeline.toksInit (Pipeline.pin (pcfgs (F := F)) adm) EP 0 c
        ∗ (iprop(boundary (T c) ∗ StableHlo.held (T c) ucRefs (after₀ V c) ∗ ∃ W, ⌜(K F).WBelow (T c) W 0⌝ ∗ owes (T c) (owed₀ F c) W) -∗ Q ⟨⟩))
      ⊢ wp frame (wpE (DD F) 𝒱 (T c) none) Set.univ (Prog.lift (.customCall (Pipeline.entry 0) ())) Q := by
  iintro ⟨Hb, Hh, HO, Hlv, Hg, Ht, Hk⟩
  icases (Entails.of_eq (StableHlo.held_sub_split (T c) (arrRefs_sub (F := F)) (V c))) $$ Hh with ⟨Ha, Hr⟩
  unfold Prog.lift
  iapply ((seg V).wp (pcfgs (F := F)) adm (pdats V) (none : HIx 1) cellOf_inj EP defs₀ 𝒱₀ (K F).L (K F).lev c none (fun u h => by cases h) _ Q)
  isplitl [Hk Hr]
  · show _ ⊢ iprop((boundary (T c) ∗ StableHlo.held (T c) (Pipeline.arrRefs (pcfgs (F := F) 0).spec) (after₀ V c)
      ∗ ∃ W, ⌜(K F).WBelow (T c) W 0⌝ ∗ owes (T c) (owed₀ F c) W) -∗ _)
    iintro ⟨Hk, Hr⟩ ⟨Hb, Ha, HO⟩
    sl_step
    iapply Hk
    isplitl [Hb]; · iexact Hb
    isplitl [Ha Hr]
    · iapply (Entails.of_eq (after_split V c))
      isplitl [Ha]; · iexact Ha
      iexact Hr
    iexact HO
  isplitl [Hb]; · iexact Hb
  isplitl [Ha HO]
  · show _ ⊢ iprop(StableHlo.held (T c) (Pipeline.arrRefs (pcfgs (F := F) 0).spec) (V c) ∗ ∃ W, ⌜(K F).WBelow (T c) W 0⌝ ∗ owes (T c) (owed₀ F c) W)
    iintro ⟨HO, Ha⟩
    isplitl [Ha]; · iexact Ha
    iexact HO
  isplitl [Hlv]; · iexact Hlv
  isplitl [Hg]; · iexact Hg
  iexact Ht

end Cert.Proof.Tc

end
-- ==== Proof.Tile.lean ====
/-
  The SparseCore task. Each vector subcore moves up to three rows of scores: it fetches the row into the first 512 words
  of a scratch of 528 whose last words it fills, fetches the row of positions, reads the scratch at each position, and
  writes the row out. The three rows run the same program at different offsets and semaphores, so one lemma runs a row.
-/
module

public import proofs.«01_k».proof.Proof.Region
public import Idealize.ShloMosaic.Lib.ValueIdxCore
public import Idealize.ShloMosaic.Lib.WritesUnit

@[expose] public section

set_option Elab.async false

noncomputable section

namespace Cert.Proof.Tile

open Cert.KernelIdeal Cert.KernelIdeal.Gen
open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Base
open Idealize.ShloMosaic.ValueIdx (ix1 ix2)
open Cert.Proof.Tc (ΛP K DD 𝒱₀ 𝒱)

variable {F : FTy → Type} [FloatOps F]

abbrev valsV : Memref sig .scVector .hbm S80x512 .f32 := Memref.whole main_v15_scv
abbrev idxV : Memref sig .scVector .hbm S16x512 .i32 := Memref.whole main_v17_scv
abbrev outV : Memref sig .scVector .hbm S80x512 .f32 := Memref.whole main_v18_scv
abbrev sA : Memref sig .scVector .vmem S528 .f32 := Memref.whole cc1_scratch0
abbrev sB : Memref sig .scVector .vmem S512 .i32 := Memref.whole cc1_scratch1
abbrev sC : Memref sig .scVector .vmem S512 .f32 := Memref.whole cc1_scratch2

abbrev vV : Memref.IsWhole valsV := Memref.isWhole_whole _
abbrev vI : Memref.IsWhole idxV := Memref.isWhole_whole _
abbrev vO : Memref.IsWhole outV := Memref.isWhole_whole _
abbrev vA : Memref.IsWhole sA := Memref.isWhole_whole _
abbrev vB : Memref.IsWhole sB := Memref.isWhole_whole _
abbrev vC : Memref.IsWhole sC := Memref.isWhole_whole _

variable (i : grid1.Coords)

abbrev cV : Fin τ.nSC := (i 0).castLE hcore1
abbrev jV : Fin τ.nSub := (i 1).castLE hsub1

/-- What distinguishes the program of one row: where its row of values and of positions lie, the trips' offsets, the
    check on the loaded positions, the fill, the three semaphores. -/
structure Row where
  o1 : Fin 2 → ℕ
  b1 : ∀ a, o1 a + S1x512.size a ≤ S80x512.size a
  o2 : Fin 2 → ℕ
  b2 : ∀ a, o2 a + S1x512.size a ≤ S16x512.size a
  o3 : Fin k1_t1_loop.trips → Fin 1 → ℕ
  b3 : ∀ t a, o3 t a + S16.size a ≤ S512.size a
  o4 : Fin k1_t1_loop.trips → Fin 1 → ℕ
  b4 : ∀ t a, o4 t a + S16.size a ≤ S512.size a
  chk : IVec S16 32 → Prop
  dec : ∀ v, Decidable (chk v)
  hchk : ∀ v, chk v → ∀ a x, ((![v] : Fin 1 → IVec S16 32) a x).toNat < S528.size a
  fill : F .f32
  s0 : DmaSems sig S_
  s1 : DmaSems sig S_
  s2 : DmaSems sig S_

/-- A row of an array, as a vector of 512. -/
abbrev valsRow (o : Fin 2 → ℕ) (b : ∀ a, o a + S1x512.size a ≤ S80x512.size a) : Memref sig .scVector .hbm S512 .f32 :=
  (valsV.slice (Rect.unit (s := S80x512) o S1x512.size b) (fun _ => rfl)).squeeze S512 squeezes_S1x512_S512
abbrev outRow (o : Fin 2 → ℕ) (b : ∀ a, o a + S1x512.size a ≤ S80x512.size a) : Memref sig .scVector .hbm S512 .f32 :=
  (outV.slice (Rect.unit (s := S80x512) o S1x512.size b) (fun _ => rfl)).squeeze S512 squeezes_S1x512_S512
abbrev idxRow (o : Fin 2 → ℕ) (b : ∀ a, o a + S1x512.size a ≤ S16x512.size a) : Memref sig .scVector .hbm S512 .i32 :=
  (idxV.slice (Rect.unit (s := S16x512) o S1x512.size b) (fun _ => rfl)).squeeze S512 squeezes_S1x512_S512
abbrev headA : Memref sig .scVector .vmem S512 .f32 := sA.slice (Rect.unit (s := S528) ![0] S512.size inb_S528_S512_0) (fun _ => rfl)
abbrev tailA : Rect S528 := Rect.unit (s := S528) ![512] S16.size inb_S528_S16_512
abbrev chunk (o : Fin 1 → ℕ) (b : ∀ a, o a + S16.size a ≤ S512.size a) : Rect S512 := Rect.unit (s := S512) o S16.size b

/-- One trip: sixteen positions are loaded and checked, and the scratch read there. -/
def trip (R : Row (F := F)) : Fin k1_t1_loop.trips → BitVec 32 →
    Prog (TpuEff nD τ sig (Elt F) Λ₀ (.scVector (cV i) (jV i))) (BitVec 32) := fun t _ => do
  let v : Vec F S16 .i32 ← Prog.lift (.load sB (chunk (R.o3 t) (R.b3 t)).toLoadRect (View.loadsAt_vmem h_S16))
  have hw : R.chk v := (← Prog.lift (TpuEff.assume (R.chk v) (R.dec v))).down
  let w : Vec F S16 .f32 ← SparseCore.vectorLoadIdx sA ![v] (R.hchk v hw) (View.loads_vmem h_S528)
  let _ : Vec F S16 .f32 ← Prog.lift (.load sC (chunk (R.o4 t) (R.b4 t)).toLoadRect (View.loadsAt_vmem h_S16))
  Prog.lift (.store sC (chunk (R.o4 t) (R.b4 t)) w Finset.univ (View.stores_vmem_bits_univ h_S16 rfl) (.inl rfl))
  pure 0#32

/-- The program of one row. -/
def rowProg (R : Row (F := F)) (ok : k1_t1_loop.OK) : Prog (TpuEff nD τ sig (Elt F) Λ₀ (.scVector (cV i) (jV i))) PUnit := do
  Prog.lift (.enqueueDma (valsRow R.o1 R.b1) (.here headA) (.dma R.s0.sem) ((View.wordExact_bits rfl).reshape _ _) (View.wordExact_bits rfl) ⟨Or.inl rfl, trivial⟩)
  Prog.lift (.waitDma2 R.s0.sem (valsRow R.o1 R.b1) headA ((View.wordExact_bits rfl).reshape _ _) (View.wordExact_bits rfl))
  let _ : Vec F S16 .f32 ← Prog.lift (.load sA tailA.toLoadRect (View.loadsAt_vmem h_S16))
  Prog.lift (.store sA tailA (broadcast S16 R.fill) Finset.univ (View.stores_vmem_bits_univ h_S16 rfl) (.inl rfl))
  Prog.lift (.enqueueDma (idxRow R.o2 R.b2) (.here sB) (.dma R.s1.sem) ((View.wordExact_bits rfl).reshape _ _) vB.wordExact ⟨Or.inl rfl, trivial⟩)
  Prog.lift (.waitDma2 R.s1.sem (idxRow R.o2 R.b2) sB ((View.wordExact_bits rfl).reshape _ _) vB.wordExact)
  let _ : BitVec 32 ← Scf.Loop.for k1_t1_loop ok 0#32 (trip i R)
  Prog.lift (.enqueueDma sC (.here (outRow R.o1 R.b1)) (.dma R.s2.sem) vC.wordExact ((View.wordExact_bits rfl).reshape _ _) ⟨Or.inl rfl, trivial⟩)
  Prog.lift (.waitDma2 R.s2.sem sC (outRow R.o1 R.b1) vC.wordExact ((View.wordExact_bits rfl).reshape _ _))
  pure ⟨⟩

/-- The row counted from zero (of the first 80) and what its residue by five is, as the kernel's words compute it. -/
def laneWord (v : BitVec 32) : BitVec 32 :=
  let v32 : BitVec 32 := Scalar.select (Scalar.cmpi .eq 5#32 0#32) 1#32 5#32
  let v33 : BitVec 32 := Scalar.remsi v v32
  Scalar.select (Scalar.andi (Scalar.xori (Scalar.cmpi .slt v33 0#32) (Scalar.cmpi .slt v32 0#32)) (Scalar.cmpi .ne v33 0#32)) (Scalar.addi v33 v32) v33

/-- The word of a subcore's first row. -/
def baseWord : BitVec 32 := Scalar.addi (Scalar.muli (BitVec.ofNat 32 (i 1).val) 2#32) (BitVec.ofNat 32 (i 0).val)

/-- The fill of a row, from its residue by five: zero in every fifth row, minus one in the others. -/
def fillOf (v : BitVec 32) : F .f32 :=
  FloatOps.addf (Scalar.ofBits .f32 0x00000000#32) (Scalar.select (Scalar.cmpi .eq v 4#32) (Scalar.ofBits .f32 0x00000000#32) (Scalar.ofBits .f32 0xBF800000#32))

/-- The three rows of a subcore. -/
def row1 (h : k1_cond1 i = 1#1) : Row (F := F) where
  o1 := k1_off1 i
  b1 := k1_off1_inb i h
  o2 := k1_off2 i
  b2 := k1_off2_inb i h
  o3 := k1_off3
  b3 t := k1_off3_inb i t h
  o4 := k1_off4
  b4 t := k1_off4_inb i t h
  chk := k1_chk1 i
  dec := k1_chk1.dec i
  hchk v hv := k1_idx1_inb i v hv h
  fill := fillOf (laneWord (Scalar.addi (baseWord i) 0#32))
  s0 := cc1_scoped0
  s1 := cc1_scoped1
  s2 := cc1_scoped2
def row2 (h : k1_cond2 i = 1#1) : Row (F := F) where
  o1 := k1_off5 i
  b1 := k1_off5_inb i h
  o2 := k1_off6 i
  b2 := k1_off6_inb i h
  o3 := k1_off7
  b3 t := k1_off7_inb i t h
  o4 := k1_off8
  b4 t := k1_off8_inb i t h
  chk := k1_chk2 i
  dec := k1_chk2.dec i
  hchk v hv := k1_idx2_inb i v hv h
  fill := fillOf (laneWord (Scalar.addi (baseWord i) 32#32))
  s0 := cc1_scoped3
  s1 := cc1_scoped4
  s2 := cc1_scoped5
def row3 (h : k1_cond3 i = 1#1) : Row (F := F) where
  o1 := k1_off9 i
  b1 := k1_off9_inb i h
  o2 := k1_off10 i
  b2 := k1_off10_inb i h
  o3 := k1_off11
  b3 t := k1_off11_inb i t h
  o4 := k1_off12
  b4 t := k1_off12_inb i t h
  chk := k1_chk3 i
  dec := k1_chk3.dec i
  hchk v hv := k1_idx3_inb i v hv h
  fill := fillOf (laneWord (Scalar.addi (baseWord i) 64#32))
  s0 := cc1_scoped6
  s1 := cc1_scoped7
  s2 := cc1_scoped8

theorem pay1_eq (v : BitVec 32) : k1_pay1 (F := F) v = broadcast S16 (fillOf v) := rfl
theorem pay2_eq (v : BitVec 32) : k1_pay2 (F := F) v = broadcast S16 (fillOf v) := rfl
theorem pay3_eq (v : BitVec 32) : k1_pay3 (F := F) v = broadcast S16 (fillOf v) := rfl

/-- A row taken when its condition holds. -/
def ifRow (c : BitVec 1) (R : c = 1#1 → Row (F := F)) (ok : c = 1#1 → k1_t1_loop.OK) : Prog (TpuEff nD τ sig (Elt F) Λ₀ (.scVector (cV i) (jV i))) PUnit :=
  if h : c = 1#1 then rowProg i (R h) (ok h) else pure ⟨⟩

set_option maxRecDepth 100000 in
/-- The kernel is its three rows one after another. -/
theorem kernel_rows (h1 : k1_cond1 i = 1#1) (h2 : k1_cond2 i = 1#1) :
    cc1_sc_gather_skel (F := F) i valsV vV idxV vI outV vO sA vA sB vB sC vC cc1_scoped0 cc1_scoped1 cc1_scoped2 cc1_scoped3 cc1_scoped4
        cc1_scoped5 cc1_scoped6 cc1_scoped7 cc1_scoped8
      = rowProg i (row1 i h1) (k1_t1_ok i h1) >>= fun _ => rowProg i (row2 i h2) (k1_t2_ok i h2) >>= fun _ => ifRow i (k1_cond3 i) (row3 i) (k1_t3_ok i) := by
  unfold cc1_sc_gather_skel ifRow
  by_cases h3 : k1_cond3 i = 1#1
  all_goals
    simp only [h1, h2, h3, dif_pos, dif_neg, not_false_eq_true, k1_part1_eq_skeleton, k1_part2_eq_skeleton, k1_part3_eq_skeleton]
    unfold rowProg k1_part1_skel k1_part2_skel
    try unfold k1_part3_skel
    simp only [bind_assoc, pure_bind]
    rfl

variable (d : Dev nD)

theorem trips_eq : k1_t1_loop.trips = 32 := by decide +kernel

abbrev thr : Thread nD τ := V d (cV i) (jV i)

/-- Where a row's element lies in its array. -/
theorem valsRow_emb (o b) (h : o 1 = 0) (y : S512.Idx) :
    (valsRow o b).view.emb y = ix2 (n0 := 80) (n1 := 512) ⟨o 0, b 0⟩ (y 0) := by
  show (Rect.unit (s := S80x512) o S1x512.size b).emb (Shape.reshapeEquiv squeezes_S1x512_S512.numel_eq y) = _
  rw [show Shape.reshapeEquiv squeezes_S1x512_S512.numel_eq y = _ from Shape.reshapeEquiv_cons_one (n := 1) (d := ![512]) _ _]
  funext a; refine Fin.ext ?_
  match a with
  | ⟨0, _⟩ => show o 0 + 1 * 0 = o 0; omega
  | ⟨1, _⟩ => show o 1 + 1 * (y 0).val = (y 0).val; omega
theorem outRow_emb (o b) (h : o 1 = 0) (y : S512.Idx) :
    (outRow o b).view.emb y = ix2 (n0 := 80) (n1 := 512) ⟨o 0, b 0⟩ (y 0) := valsRow_emb o b h y
theorem idxRow_emb (o b) (h : o 1 = 0) (y : S512.Idx) :
    (idxRow o b).view.emb y = ix2 (n0 := 16) (n1 := 512) ⟨o 0, b 0⟩ (y 0) := by
  show (Rect.unit (s := S16x512) o S1x512.size b).emb (Shape.reshapeEquiv squeezes_S1x512_S512.numel_eq y) = _
  rw [show Shape.reshapeEquiv squeezes_S1x512_S512.numel_eq y = _ from Shape.reshapeEquiv_cons_one (n := 1) (d := ![512]) _ _]
  funext a; refine Fin.ext ?_
  match a with
  | ⟨0, _⟩ => show o 0 + 1 * 0 = o 0; omega
  | ⟨1, _⟩ => show o 1 + 1 * (y 0).val = (y 0).val; omega

/-- Word `n` of row `r` of the values, continued by the fill. -/
def padded (fill : F .f32) (f2 : S80x512.Idx → F .f32) (r : Fin 80) (n : ℕ) : F .f32 :=
  if h : n < 512 then f2 (ix2 r ⟨n, h⟩) else fill

/-- What a row is to hold: the padded row of values read at the row's positions. -/
def picked (fill : F .f32) (f2 : S80x512.Idx → F .f32) (f3 : S16x512.Idx → BitVec 32) (r : Fin 80) (r' : Fin 16) (k : Fin 512) : F .f32 :=
  padded fill f2 r (f3 (ix2 r' k)).toNat

/-- The trips' invariant. -/
def inv (X : S528.Idx → F .f32) (Y : S512.Idx → BitVec 32) (k : ℕ) :
    sProp (𝕄 (F := F)) :=
  iprop((sA.view.loc (thr i d) ↦{fullShare} (X : Buf (Elt F) (sA.view.loc (thr i d)))) ∗ (sB.view.loc (thr i d) ↦{fullShare} (Y : Buf (Elt F) (sB.view.loc (thr i d))))
    ∗ ∃ f : Buf (Elt F) (sC.view.loc (thr i d)), ⌜∀ y : S512.Idx, (y 0).val < 16 * k → ∀ h : (Y y).toNat < 528, f y = X (ix1 ⟨(Y y).toNat, h⟩)⌝
        ∗ (sC.view.loc (thr i d) ↦{fullShare} f))

/-- One trip keeps the invariant: the sixteen words read lie under the trip's bound, the others keep. -/
theorem trip_run (R : Row (F := F)) (X : S528.Idx → F .f32) (Y : S512.Idx → BitVec 32)
    (h3 : ∀ t, R.o3 t = ![16 * t.val]) (h4 : ∀ t, R.o4 t = ![16 * t.val]) (hc : ∀ v : IVec S16 32, (∀ x, (v x).toNat < 528) → R.chk v)
    (hY : ∀ y, (Y y).toNat < 528) (k : Fin k1_t1_loop.trips) (acc : BitVec 32) :
    (inv i d X Y k.val : sProp (𝕄 (F := F)))
      ⊢ wp frame (wpE (defs₀ (F := F)) 𝒱₀ (thr i d) none) Set.univ (trip i R k acc) fun _ => inv i d X Y (k.val + 1) := by
  unfold inv trip
  iintro ⟨HA, HB, %f, %hf, HC⟩
  sl_exec
  have hw : R.chk (View.readAt (Elt F) sB.view (chunk (R.o3 k) (R.b3 k)).toLoadRect (Y : Buf (Elt F) (sB.view.loc (thr i d)))) := hc _ fun x => by
    exact hY _
  rw [wp_assume_of _ _ _ _ hw]
  iapply (SparseCore.wp_vectorLoadIdx 𝒱₀ (thr i d) none Set.univ (base := sA) (S := Finset.univ) (q := fullShare) (Finset.subset_univ _)) $$ HA
  iintro HA
  sl_exec
  sl_step
  isplitl [HA]; · iexact HA
  isplitl [HB]; · iexact HB
  iexists _
  isplitr; swap; · iexact HC
  · ipureintro
    intro y hy h
    refine (congrFun (View.read_whole cc1_scratch2 _).symm y).trans ?_
    by_cases hlt : (y 0).val < 16 * k.val
    · refine (View.read_writes_cons_unit_of_not_mem (s := S512) (e := .f32) sC.view _ _ _ _ y (h4 k) (0 : Fin 1) (Or.inl hlt)).trans ?_
      exact hf y hlt h
    · refine (View.read_writes_cons_unit_of_mem (s := S512) (e := .f32) sC.view _ _ _ _ y (ix1 (n := 16) ⟨(y 0).val - 16 * k.val, by omega⟩) (h4 k)
          (fun (a : Fin 1) => by
            obtain rfl : a = 0 := Subsingleton.elim _ _
            show (y 0).val = 16 * k.val + ((y 0).val - 16 * k.val); omega)).trans ?_
      have hy' : (chunk (R.o3 k) (R.b3 k)).toLoadRect.idx (ix1 (n := 16) ⟨(y 0).val - 16 * k.val, by omega⟩) = y := by
        funext a
        obtain rfl : a = 0 := Subsingleton.elim _ _
        refine Fin.ext ?_
        show R.o3 k 0 + 1 * ((y 0).val - 16 * k.val) = (y 0).val
        rw [h3]
        show 16 * k.val + _ = _
        omega
      show X _ = X _
      refine congrArg X (funext fun (a : Fin 1) => ?_)
      obtain rfl : a = 0 := Subsingleton.elim _ _
      refine Fin.ext ?_
      show 0 + 1 * (Y _).toNat = (Y y).toNat
      rw [hy']
      show 0 + 1 * (Y y).toNat = (Y y).toNat
      omega

theorem row_run (R : Row (F := F)) (ok : k1_t1_loop.OK) (O : CellTallies nD τ sig (HIx 1)) (W : Waits sig (HIx 1))
    (q2 q3 : PosShare TreeShare) (f2 : Buf (Elt F) (valsV.view.loc (thr i d))) (f3 : Buf (Elt F) (idxV.view.loc (thr i d)))
    (f4 G : Buf (Elt F) (outV.view.loc (thr i d))) (r : Fin 80) (r' : Fin 16) (h1 : R.o1 = ![r.val, 0]) (h2 : R.o2 = ![r'.val, 0])
    (h3 : ∀ t, R.o3 t = ![16 * t.val]) (h4 : ∀ t, R.o4 t = ![16 * t.val]) (hc : ∀ v : IVec S16 32, (∀ x, (v x).toNat < 528) → R.chk v)
    (hidx : ∀ y : S16x512.Idx, (f3 y : BitVec 32).toNat < 528) (hG : ∀ k : Fin 512, G (ix2 r k) = picked R.fill f2 f3 r r' k) :
    iprop(Transfers.MayWaits (thr i d) (default : HIx 1) O ∗ (valsV.view.loc (thr i d) ↦{q2} f2) ∗ (idxV.view.loc (thr i d) ↦{q3} f3)
        ∗ ((outRow R.o1 R.b1).view.loc (thr i d) ↦[(outRow R.o1 R.b1).view.set]{fullShare} f4)
        ∗ (∃ f, sA.view.loc (thr i d) ↦{fullShare} f) ∗ (∃ f, sB.view.loc (thr i d) ↦{fullShare} f) ∗ (∃ f, sC.view.loc (thr i d) ↦{fullShare} f)
        ∗ semVal (thr i d, .dma R.s0.sem) 0 ∗ semVal (thr i d, .dma R.s1.sem) 0 ∗ semVal (thr i d, .dma R.s2.sem) 0
        ∗ ∃ W', ⌜∀ p ∈ W', p ∈ W ∨ p.2 = none⌝ ∗ owes (thr i d) O W' : sProp (𝕄 (F := F)))
      ⊢ wp frame (wpE (defs₀ (F := F)) 𝒱₀ (thr i d) none) Set.univ (rowProg i R ok) fun _ =>
          iprop((valsV.view.loc (thr i d) ↦{q2} f2) ∗ (idxV.view.loc (thr i d) ↦{q3} f3)
        ∗ ((outRow R.o1 R.b1).view.loc (thr i d) ↦[(outRow R.o1 R.b1).view.set]{fullShare} G)
        ∗ (∃ f, sA.view.loc (thr i d) ↦{fullShare} f) ∗ (∃ f, sB.view.loc (thr i d) ↦{fullShare} f) ∗ (∃ f, sC.view.loc (thr i d) ↦{fullShare} f)
        ∗ semVal (thr i d, .dma R.s0.sem) 0 ∗ semVal (thr i d, .dma R.s1.sem) 0 ∗ semVal (thr i d, .dma R.s2.sem) 0
        ∗ ∃ W', ⌜∀ p ∈ W', p ∈ W ∨ p.2 = none⌝ ∗ owes (thr i d) O W') := by
  unfold rowProg
  iintro ⟨Hmw, Hv, Hi, Ho, ⟨%fa, HA⟩, ⟨%fb, HB⟩, ⟨%fc, HC⟩, Hs0, Hs1, Hs2, %W', %hW', HO⟩
  sl_exec
  have hA : sA.view.writes (Elt F) sA.view.junk (row_run.sl.HA_2 i d R f2)
      = (fun y : S528.Idx => padded R.fill f2 r (y 0).val : Buf (Elt F) (sA.view.loc (thr i d))) := by
    funext y
    unfold row_run.sl.HA_2 row_run.sl.dma0
    have hy : (y 0).val < 528 := (y 0).isLt
    refine (congrFun (View.read_whole cc1_scratch0 _).symm y).trans ?_
    by_cases hlt : (y 0).val < 512
    · refine (View.read_writes_cons_unit_of_not_mem (s := S528) (e := .f32) sA.view _ _ _ _ (y : S528.Idx) rfl (0 : Fin 1) (Or.inl hlt)).trans ?_
      refine (View.read_writes_cons_unit_of_mem (s := S528) (e := .f32) (off' := ![0]) sA.view _ _ _ _ (y : S528.Idx) (ix1 (n := 512) ⟨(y 0).val, hlt⟩) rfl
          (fun (a : Fin 1) => by obtain rfl : a = 0 := Subsingleton.elim _ _; show (y 0).val = 0 + (y 0).val; omega)).trans ?_
      show f2 ((valsRow R.o1 R.b1).view.emb _) = _
      rw [valsRow_emb _ _ (by rw [h1]; rfl), padded, dif_pos hlt]
      exact congrArg f2 (congrArg (fun a => ix2 a _) (Fin.ext (by show R.o1 0 = _; rw [h1]; rfl)))
    · refine (View.read_writes_cons_unit_of_mem (s := S528) (e := .f32) (off' := ![512]) sA.view _ _ _ _ (y : S528.Idx) (ix1 (n := 16) ⟨(y 0).val - 512, by omega⟩) rfl
          (fun (a : Fin 1) => by obtain rfl : a = 0 := Subsingleton.elim _ _; show (y 0).val = 512 + ((y 0).val - 512); omega)).trans ?_
      rw [padded, dif_neg hlt]; rfl
  have hB : View.write (Elt F) sB.view fb (row_run.sl.dma2 i d R f3) Finset.univ
      = (fun y : S512.Idx => f3 (ix2 r' (y 0)) : Buf (Elt F) (sB.view.loc (thr i d))) := by
    rw [View.write_whole_univ]
    funext y
    show f3 ((idxRow R.o2 R.b2).view.emb y) = _
    rw [idxRow_emb _ _ (by rw [h2]; rfl)]
    exact congrArg f3 (congrArg (fun a => ix2 a _) (Fin.ext (by show R.o2 0 = _; rw [h2]; rfl)))
  icases (Entails.of_eq (congrArg (fun f => (sA.view.loc (thr i d) ↦{fullShare} f : sProp (𝕄 (F := F)))) hA)) $$ HA with HA
  icases (Entails.of_eq (congrArg (fun f => (sB.view.loc (thr i d) ↦{fullShare} f : sProp (𝕄 (F := F)))) hB)) $$ HB with HB
  sl_for (fun k _ => inv i d (fun y : S528.Idx => padded R.fill f2 r (y 0).val) (fun y : S512.Idx => f3 (ix2 r' (y 0))) k) $$ [HA HB HC]
  case region =>
    intro k acc
    exact trip_run i d R _ _ h3 h4 hc (fun y => hidx _) k acc
  · unfold inv
    isplitl [HA]; · iexact HA
    isplitl [HB]; · iexact HB
    iexists fc
    isplitr
    · ipureintro; intro y hy; omega
    iexact HC
  unfold inv
  iintro %_ ⟨HA, HB, %f, %hf, HC⟩
  sl_exec
  sl_step
  have hO : ∀ j ∈ (outRow R.o1 R.b1).view.set, (outRow R.o1 R.b1).view.writes (Elt F) f4 [⟨Rect.whole S512, row_run.sl.dma0_1 i d f⟩] j = G j := by
    intro j hj
    obtain ⟨y, -, rfl⟩ := Finset.mem_map.mp hj
    have e1 : (outRow R.o1 R.b1).view.read (Elt F) ((outRow R.o1 R.b1).view.writes (Elt F) f4 [⟨Rect.whole S512, row_run.sl.dma0_1 i d f⟩]) y = f y := by
      rw [View.read_writes_whole]
      unfold row_run.sl.dma0_1
      exact congrFun (View.read_whole cc1_scratch2 f) y
    rw [View.read_apply] at e1
    refine ((cast_eq _ _).symm.trans e1).trans ?_
    rw [outRow_emb _ _ (by rw [h1]; rfl), show (⟨R.o1 0, R.b1 0⟩ : Fin 80) = r from Fin.ext (by show R.o1 0 = _; rw [h1]; rfl)]
    refine Eq.trans ?_ (hG (y 0)).symm
    exact hf y (by have : (y 0).val < 512 := (y 0).isLt; rw [show Scf.trips k1_t1_loop.lb k1_t1_loop.ub k1_t1_loop.st = 32 from trips_eq]; omega) (hidx _)
  icases (Entails.of_eq (pointsTo_congr hO)) $$ Ho with Ho
  isplitl [Hv]; · iexact Hv
  isplitl [Hi]; · iexact Hi
  isplitl [Ho]; · iexact Ho
  isplitl [HA]; · iexists _; iexact HA
  isplitl [HB]; · iexists _; iexact HB
  isplitl [HC]; · iexists _; iexact HC
  isplitl [Hs0]; · iexact Hs0
  isplitl [Hs1]; · iexact Hs1
  isplitl [Hs2]; · iexact Hs2
  iexists _
  isplitr; swap; · iexact HO
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    exact hW' p hp

end Cert.Proof.Tile

end
-- ==== Proof.Task.lean ====
/-
  The SparseCore launch: what each vector subcore is handed and brings back, its task from start to end, and how the
  arrays split over the two SparseCores and their subcores. Both inputs are read through shares; the rows of the output
  are dealt out by their residue by 32.
-/
module

public import proofs.«01_k».proof.Proof.Tile

@[expose] public section

set_option Elab.async false

noncomputable section

namespace Cert.Proof.Tile

open Cert.KernelIdeal Cert.KernelIdeal.Gen
open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Base
open Idealize.ShloMosaic.ValueIdx (ix1 ix2)
open Cert.Proof.Tc (ΛP K DD 𝒱₀ 𝒱)

variable {F : FTy → Type} [FloatOps F]

/-! ## Rows -/

/-- What the call leaves in its output: in row `x`, the padded row of values read at the positions of row `x / 5`. -/
def gathered (f2 : S80x512.Idx → F .f32) (f3 : S16x512.Idx → BitVec 32) : S80x512.Idx → F .f32 := fun x =>
  picked (fillOf (BitVec.ofNat 32 ((x 0).val % 5))) f2 f3 (x 0) ⟨(x 0).val / 5, by have h : (x 0).val < 80 := (x 0).isLt; omega⟩ (x 1)

/-- The elements of one row; of the rows one subcore handles; of the rows one SparseCore handles. -/
def rowSet (r : ℕ) : Finset S80x512.Idx := Finset.univ.filter fun x => (x 0).val = r
def taskSet (w : ℕ) : Finset S80x512.Idx := Finset.univ.filter fun x => (x 0).val % 32 = w
def coreSet (c : ℕ) : Finset S80x512.Idx := Finset.univ.filter fun x => (x 0).val % 2 = c

theorem mem_rowSet {r : ℕ} {x : S80x512.Idx} : x ∈ rowSet r ↔ (x 0).val = r := by simp [rowSet]
theorem mem_taskSet {w : ℕ} {x : S80x512.Idx} : x ∈ taskSet w ↔ (x 0).val % 32 = w := by simp [taskSet]
theorem mem_coreSet {c : ℕ} {x : S80x512.Idx} : x ∈ coreSet c ↔ (x 0).val % 2 = c := by simp [coreSet]

theorem taskSet_rows {w : ℕ} (hw : w < 32) : taskSet w = rowSet w ∪ (rowSet (w + 32) ∪ rowSet (w + 64)) := by
  ext x
  have h : (x 0).val < 80 := (x 0).isLt
  simp only [Finset.mem_union, mem_rowSet, mem_taskSet]
  omega
theorem rowSet_empty {r : ℕ} (h : 80 ≤ r) : rowSet r = ∅ := by
  ext x
  have h' : (x 0).val < 80 := (x 0).isLt
  simp only [mem_rowSet, Finset.notMem_empty, iff_false]
  omega
theorem rowSet_disjoint {r r' : ℕ} (h : r ≠ r') : Disjoint (rowSet r) (rowSet r') :=
  Finset.disjoint_left.mpr fun x h1 h2 => h ((mem_rowSet.mp h1).symm.trans (mem_rowSet.mp h2))

theorem outRow_set (o b) (h : o 1 = 0) : (outRow o b).view.set = rowSet (o 0) := by
  ext x
  rw [mem_rowSet]
  constructor
  · intro hx
    obtain ⟨y, -, rfl⟩ := Finset.mem_map.mp hx
    rw [outRow_emb o b h]
  · intro hx
    refine Finset.mem_map.mpr ⟨ix1 (x 1), Finset.mem_univ _, ?_⟩
    rw [outRow_emb o b h]
    funext a; refine Fin.ext ?_
    match a with
    | ⟨0, _⟩ => exact hx.symm
    | ⟨1, _⟩ => rfl

abbrev vLoc (d : Dev nD) : Loc nD τ sig := (SparseCore.T d).loc main_v15
abbrev iLoc (d : Dev nD) : Loc nD τ sig := (SparseCore.T d).loc main_v17
abbrev oLoc (d : Dev nD) : Loc nD τ sig := (SparseCore.T d).loc main_v18

omit [FloatOps F] in
theorem out_rows (d : Dev nD) {w : ℕ} (hw : w < 32) (f : Buf (Elt F) (oLoc d)) :
    (oLoc d ↦[taskSet w]{fullShare} f : sProp (𝕄 (F := F)))
      ⊣⊢ iprop((oLoc d ↦[rowSet w]{fullShare} f) ∗ (oLoc d ↦[rowSet (w + 32)]{fullShare} f) ∗ oLoc d ↦[rowSet (w + 64)]{fullShare} f) := by
  have hd : Disjoint (rowSet w) (rowSet (w + 32) ∪ rowSet (w + 64)) :=
    Finset.disjoint_union_right.mpr ⟨rowSet_disjoint (by omega), rowSet_disjoint (by omega)⟩
  rw [taskSet_rows hw]
  constructor
  · iintro H
    ihave H' := (pointsTo_union (ℓ := oLoc d) hd).1 $$ H
    icases H' with ⟨H, H'⟩
    isplitl [H]; · iexact H
    iapply (pointsTo_union (ℓ := oLoc d) (rowSet_disjoint (by omega))).1; iexact H'
  · iintro ⟨H, H'⟩
    ihave H' := (pointsTo_union (ℓ := oLoc d) (rowSet_disjoint (by omega))).2 $$ H'
    iapply (pointsTo_union (ℓ := oLoc d) hd).2
    isplitl [H]; · iexact H
    iexact H'

/-! ## A subcore's coordinates -/

section Coords

variable (i : grid1.Coords)

/-- A subcore's number. -/
abbrev wid : ℕ := 2 * (i 1).val + (i 0).val

theorem wid_lt : ∀ i : grid1.Coords, wid i < 32 := by decide +kernel
theorem cond1_all : ∀ i : grid1.Coords, k1_cond1 i = 1#1 := by decide +kernel
theorem cond2_all : ∀ i : grid1.Coords, k1_cond2 i = 1#1 := by decide +kernel
theorem cond3_iff : ∀ i : grid1.Coords, k1_cond3 i = 1#1 ↔ wid i < 16 := by decide +kernel
theorem off2_all : ∀ i : grid1.Coords, k1_off2 i = ![wid i / 5, 0] := by decide +kernel
theorem off6_all : ∀ i : grid1.Coords, k1_off6 i = ![(wid i + 32) / 5, 0] := by decide +kernel
theorem off10_all : ∀ i : grid1.Coords, k1_cond3 i = 1#1 → k1_off10 i = ![(wid i + 64) / 5, 0] := by decide +kernel
theorem lane1 : ∀ i : grid1.Coords, laneWord (Scalar.addi (baseWord i) 0#32) = BitVec.ofNat 32 (wid i % 5) := by decide +kernel
theorem lane2 : ∀ i : grid1.Coords, laneWord (Scalar.addi (baseWord i) 32#32) = BitVec.ofNat 32 ((wid i + 32) % 5) := by decide +kernel
theorem lane3 : ∀ i : grid1.Coords, laneWord (Scalar.addi (baseWord i) 64#32) = BitVec.ofNat 32 ((wid i + 64) % 5) := by decide +kernel

end Coords

/-! ## One row as a step -/

section Step

variable (i : grid1.Coords) (d : Dev nD)

/-- What the rows of one subcore share: its shares of the inputs, its scratch, what it owes. -/
def common (O : CellTallies nD τ sig (HIx 1)) (W : Waits sig (HIx 1)) (q2 q3 : PosShare TreeShare) (f2 : Buf (Elt F) (vLoc d)) (f3 : Buf (Elt F) (iLoc d)) :
    sProp (𝕄 (F := F)) :=
  iprop((vLoc d ↦{q2} f2) ∗ (iLoc d ↦{q3} f3)
    ∗ (∃ f, sA.view.loc (thr i d) ↦{fullShare} f) ∗ (∃ f, sB.view.loc (thr i d) ↦{fullShare} f) ∗ (∃ f, sC.view.loc (thr i d) ↦{fullShare} f)
    ∗ ∃ W', ⌜∀ p ∈ W', p ∈ W ∨ p.2 = none⌝ ∗ owes (thr i d) O W')

/-- The three semaphores of a row, at zero. -/
def sems (a b c : DmaSems sig S_) : sProp (𝕄 (F := F)) :=
  iprop(semVal (thr i d, .dma a.sem) 0 ∗ semVal (thr i d, .dma b.sem) 0 ∗ semVal (thr i d, .dma c.sem) 0)

theorem row_step (R : Row (F := F)) (ok : k1_t1_loop.OK) (O : CellTallies nD τ sig (HIx 1)) (W : Waits sig (HIx 1))
    (q2 q3 : PosShare TreeShare) (f2 : Buf (Elt F) (vLoc d)) (f3 : Buf (Elt F) (iLoc d))
    (f4 : Buf (Elt F) (oLoc d)) (n : ℕ) (hn : n < 80) (h1 : R.o1 = ![n, 0]) (h2 : R.o2 = ![n / 5, 0])
    (h3 : ∀ t, R.o3 t = ![16 * t.val]) (h4 : ∀ t, R.o4 t = ![16 * t.val]) (hc : ∀ v : IVec S16 32, (∀ x, (v x).toNat < 528) → R.chk v)
    (hidx : ∀ y : S16x512.Idx, (f3 y : BitVec 32).toNat < 528) (hfill : R.fill = fillOf (BitVec.ofNat 32 (n % 5))) (Q : PUnit → sProp (𝕄 (F := F))) :
    iprop(Transfers.MayWaits (thr i d) (default : HIx 1) O ∗ common i d O W q2 q3 f2 f3 ∗ (oLoc d ↦[rowSet n]{fullShare} f4) ∗ sems i d R.s0 R.s1 R.s2
        ∗ (iprop(common i d O W q2 q3 f2 f3 ∗ (oLoc d ↦[rowSet n]{fullShare} (gathered f2 f3 : Buf (Elt F) (oLoc d))) ∗ sems i d R.s0 R.s1 R.s2) -∗ Q ⟨⟩))
      ⊢ wp frame (wpE (defs₀ (F := F)) 𝒱₀ (thr i d) none) Set.univ (rowProg i R ok) Q := by
  have hset : (outRow R.o1 R.b1).view.set = rowSet n := by exact (outRow_set _ _ (by rw [h1]; rfl)).trans (congrArg rowSet (by rw [h1]; rfl))
  have hn5 : n / 5 < 16 := by omega
  have key := row_run i d R ok O W q2 q3 f2 f3 f4 (gathered f2 f3) ⟨n, hn⟩ ⟨n / 5, hn5⟩ h1 h2 h3 h4 hc hidx
    (fun k => by rw [hfill]; rfl)
  rw [hset] at key
  unfold common sems
  iintro ⟨Hmw, ⟨Hv, Hi, HA, HB, HC, HO⟩, Ho, ⟨Hs0, Hs1, Hs2⟩, HQ⟩
  iapply (wp_wand_r frame (wpE (defs₀ (F := F)) 𝒱₀ (thr i d) none) Set.univ)
  isplitr [HQ]
  · iapply key
    isplitl [Hmw]; · iexact Hmw
    isplitl [Hv]; · iexact Hv
    isplitl [Hi]; · iexact Hi
    isplitl [Ho]; · iexact Ho
    isplitl [HA]; · iexact HA
    isplitl [HB]; · iexact HB
    isplitl [HC]; · iexact HC
    isplitl [Hs0]; · iexact Hs0
    isplitl [Hs1]; · iexact Hs1
    isplitl [Hs2]; · iexact Hs2
    iexact HO
  · iintro %_
    iintro ⟨Hv, Hi, Ho, HA, HB, HC, Hs0, Hs1, Hs2, HO⟩
    iapply HQ
    isplitl [Hv Hi HA HB HC HO]
    · isplitl [Hv]; · iexact Hv
      isplitl [Hi]; · iexact Hi
      isplitl [HA]; · iexact HA
      isplitl [HB]; · iexact HB
      isplitl [HC]; · iexact HC
      iexact HO
    isplitl [Ho]; · iexact Ho
    isplitl [Hs0]; · iexact Hs0
    isplitl [Hs1]; · iexact Hs1
    iexact Hs2

/-! ## A subcore's own semaphores and buffers -/

/-- The nine transfer semaphores of the kernel. -/
def semOf : Fin 9 → DmaSems sig S_ :=
  ![cc1_scoped0, cc1_scoped1, cc1_scoped2, cc1_scoped3, cc1_scoped4, cc1_scoped5, cc1_scoped6, cc1_scoped7, cc1_scoped8]

theorem semOf_inj : ∀ a b : Fin 9, (SemLoc.dma (semOf a).sem : SemLoc sig) = SemLoc.dma (semOf b).sem → a = b := by decide
theorem semOf_scoped : ∀ a : Fin 9, (SemLoc.dma (semOf a).sem : SemLoc sig).isScoped .scVector = true := by decide

/-- Their cells on one subcore. -/
def cellsOf : Fin 9 ↪ GSem nD τ sig := ⟨fun k => (thr i d, .dma (semOf k).sem), fun a b h => semOf_inj a b (congrArg Prod.snd h)⟩

omit [FloatOps F] in
theorem ownSems0_V :
    (ownSems0 (thr i d) : sProp (𝕄 (F := F)))
      = iprop((sems i d cc1_scoped0 cc1_scoped1 cc1_scoped2 ∗ sems i d cc1_scoped3 cc1_scoped4 cc1_scoped5 ∗ sems i d cc1_scoped6 cc1_scoped7 cc1_scoped8)
          ∗ bigSep (ownCells (thr i d) \ Finset.univ.map (cellsOf i d)) fun g => semVal g 0) := by
  unfold SparseCore.Cfg.ownSems0
  have hsub : Finset.univ.map (cellsOf i d) ⊆ ownCells (thr i d) := by
    intro g hg
    obtain ⟨k, -, rfl⟩ := Finset.mem_map.mp hg
    exact (mem_ownCells (g := cellsOf i d k)).mpr ⟨rfl, semOf_scoped k⟩
  rw [SparseCore.bigSep_sdiff_split' hsub, SparseCore.bigSep_map,
    show (Finset.univ : Finset (Fin 9)) = {0, 1, 2, 3, 4, 5, 6, 7, 8} from by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  unfold sems
  have assoc (P Q R : sProp (𝕄 (F := F))) : iprop((P ∗ Q) ∗ R) = iprop(P ∗ Q ∗ R) := equiv_iff.mp ⟨BI.sep_assoc, BI.sep_assoc'⟩
  simp only [assoc]
  rfl

omit [FloatOps F] in
/-- The three scratch buffers are among the subcore's own: they are them, at some contents, and the rest. -/
theorem ownBufs_V :
    (ownBufs (thr i d) : sProp (𝕄 (F := F)))
      = iprop((∃ f, sA.view.loc (thr i d) ↦{fullShare} f) ∗ (∃ f, sB.view.loc (thr i d) ↦{fullShare} f) ∗ (∃ f, sC.view.loc (thr i d) ↦{fullShare} f)
          ∗ bigSep ((((ownRefs (τ := τ) (.scVector (cV i) (jV i))).erase ((Proc.scVector (cV i) (jV i)).devRef cc1_scratch0)).erase
              ((Proc.scVector (cV i) (jV i)).devRef cc1_scratch1)).erase ((Proc.scVector (cV i) (jV i)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV i) (jV i))
    (b := (Proc.scVector (cV i) (jV i)).devRef cc1_scratch0) rfl)).trans ?_
  rw [SparseCore.bigSep_erase' (Finset.mem_erase.mpr ⟨fun e => absurd (Proc.devRef_injective _ e) (show (cc1_scratch1 : Ref sig .scVector) ≠ cc1_scratch0 by decide),
      SparseCore.Cfg.mem_ownRefs_of_owner (p := Proc.scVector (cV i) (jV i)) (b := (Proc.scVector (cV i) (jV i)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
      SparseCore.Cfg.mem_ownRefs_of_owner (p := Proc.scVector (cV i) (jV i)) (b := (Proc.scVector (cV i) (jV i)).devRef cc1_scratch2) rfl⟩⟩)]

/-! ## The task -/

theorem chk_row {P : Prop} (v : IVec S16 32) (h : ∀ x, (v x).toNat < 528) : P → ∀ a x, ((![v] : Fin 1 → IVec S16 32) a x).toNat < S528.size a :=
  fun _ a x => by obtain rfl : a = 0 := Subsingleton.elim _ _; exact h x

/-- The third row's step, taken by the first half of the subcores; the others hold no element of it. -/
theorem row3_step (O : CellTallies nD τ sig (HIx 1)) (W : Waits sig (HIx 1))
    (q2 q3 : PosShare TreeShare) (f2 : Buf (Elt F) (vLoc d)) (f3 : Buf (Elt F) (iLoc d)) (f4 : Buf (Elt F) (oLoc d))
    (hidx : ∀ y : S16x512.Idx, (f3 y : BitVec 32).toNat < 528) (Q : PUnit → sProp (𝕄 (F := F))) :
    iprop(Transfers.MayWaits (thr i d) (default : HIx 1) O ∗ common i d O W q2 q3 f2 f3 ∗ (oLoc d ↦[rowSet (wid i + 64)]{fullShare} f4) ∗ sems i d cc1_scoped6 cc1_scoped7 cc1_scoped8
        ∗ (iprop(common i d O W q2 q3 f2 f3 ∗ (oLoc d ↦[rowSet (wid i + 64)]{fullShare} (gathered f2 f3 : Buf (Elt F) (oLoc d))) ∗ sems i d cc1_scoped6 cc1_scoped7 cc1_scoped8) -∗ Q ⟨⟩))
      ⊢ wp frame (wpE (defs₀ (F := F)) 𝒱₀ (thr i d) none) Set.univ (ifRow i (k1_cond3 i) (row3 i) (k1_t3_ok i)) Q := by
  unfold ifRow
  by_cases h : k1_cond3 i = 1#1
  · rw [dif_pos h]
    have hw := (cond3_iff i).mp h
    exact row_step i d (row3 i h) (k1_t3_ok i h) O W q2 q3 f2 f3 f4 (wid i + 64) (by omega) (k1_off9_eq i) (off10_all i h)
      (k1_off11_eq) (k1_off12_eq) (fun v hv => chk_row v hv) hidx (congrArg fillOf (lane3 i)) Q
  · rw [dif_neg h]
    have hw : ¬ wid i < 16 := fun hw => h ((cond3_iff i).mpr hw)
    rw [rowSet_empty (by omega : 80 ≤ wid i + 64)]
    iintro ⟨-, Hc, Ho, Hs, HQ⟩
    rw [wp_pure]
    imodintro
    iapply HQ
    isplitl [Hc]; · iexact Hc
    isplitl [Ho]
    · iapply (Entails.of_eq ((pointsTo_empty (ℓ := oLoc d) (Val := Elt F)).trans (pointsTo_empty (ℓ := oLoc d)).symm)) $$ Ho
    iexact Hs

/-- The task on a subcore: its two or three rows, one after the other. -/
theorem tile_body (hF : (K F).Facts) (O : CellTallies nD τ sig (HIx 1)) (W : Waits sig (HIx 1)) (hO : ∀ g, O g none = 0)
    (q2 q3 : PosShare TreeShare) (f2 : Buf (Elt F) (vLoc d)) (f3 : Buf (Elt F) (iLoc d)) (f4 : Buf (Elt F) (oLoc d))
    (hidx : ∀ y : S16x512.Idx, (f3 y : BitVec 32).toNat < 528) :
    iprop(levAts (K F).L (K F).lev ∗ emp
        ∗ ((vLoc d ↦{q2} f2) ∗ (iLoc d ↦{q3} f3) ∗ oLoc d ↦[taskSet (wid i)]{fullShare} f4)
        ∗ scopedBufs (thr i d) ∗ scopedSems0 (thr i d) ∗ owes (thr i d) O W)
      ⊢ wp frame (wpE (defs₀ (F := F)) 𝒱₀ (thr i d) none) Set.univ
          (cc1_sc_gather (F := F) i valsV vV idxV vI outV vO sA vA sB vB sC vC cc1_scoped0 cc1_scoped1 cc1_scoped2 cc1_scoped3 cc1_scoped4
            cc1_scoped5 cc1_scoped6 cc1_scoped7 cc1_scoped8)
          fun _ => iprop(((vLoc d ↦{q2} f2) ∗ (iLoc d ↦{q3} f3) ∗ oLoc d ↦[taskSet (wid i)]{fullShare} (gathered f2 f3 : Buf (Elt F) (oLoc d)))
            ∗ scopedBufs (thr i d) ∗ scopedSems0 (thr i d)
            ∗ ∃ W', ⌜∀ p ∈ W', p ∈ W ∨ p.2 = none⌝ ∗ owes (thr i d) O W' : sProp (𝕄 (F := F))) := by
  rw [cc1_sc_gather_eq_skeleton, kernel_rows i (cond1_all i) (cond2_all i),
    (K F).scopedBufs_V hF d (cV i) (jV i), SparseCore.Cfg.scopedSems0_V (Val := Elt F) d (cV i) (jV i), ownSems0_V, ownBufs_V]
  have hw := wid_lt i
  iintro ⟨#Hlv, -, ⟨Hv, Hi, Ho⟩, ⟨HA, HB, HC, Hbufs⟩, ⟨⟨Hs1, Hs2, Hs3⟩, Hsems⟩, HO⟩
  ihave #Hmw := (show levAts (K F).L (K F).lev ⊢ Transfers.MayWaits (thr i d) (default : HIx 1) O from
    (K F).mayWaits_none (thr := thr i d) hO) $$ Hlv
  ihave Ho' := (out_rows d hw f4).1 $$ Ho
  icases Ho' with ⟨Ho1, Ho2, Ho3⟩
  rw [wp_bind]
  iapply (row_step i d (row1 i (cond1_all i)) (k1_t1_ok i (cond1_all i)) O W q2 q3 f2 f3 f4 (wid i) (by omega) (k1_off1_eq i) (off2_all i)
      (k1_off3_eq) (k1_off4_eq) (fun v hv => chk_row v hv) hidx (congrArg fillOf (lane1 i)))
  isplitr; · iexact Hmw
  isplitl [Hv Hi HA HB HC HO]
  · unfold common
    isplitl [Hv]; · iexact Hv
    isplitl [Hi]; · iexact Hi
    isplitl [HA]; · iexact HA
    isplitl [HB]; · iexact HB
    isplitl [HC]; · iexact HC
    iexists W; isplitr
    · ipureintro; exact fun p hp => Or.inl hp
    · iexact HO
  isplitl [Ho1]; · iexact Ho1
  isplitl [Hs1]; · iexact Hs1
  iintro ⟨Hc, Ho1, Hs1⟩
  rw [wp_bind]
  iapply (row_step i d (row2 i (cond2_all i)) (k1_t2_ok i (cond2_all i)) O W q2 q3 f2 f3 f4 (wid i + 32) (by omega) (k1_off5_eq i) (off6_all i)
      (k1_off7_eq) (k1_off8_eq) (fun v hv => chk_row v hv) hidx (congrArg fillOf (lane2 i)))
  isplitr; · iexact Hmw
  isplitl [Hc]; · iexact Hc
  isplitl [Ho2]; · iexact Ho2
  isplitl [Hs2]; · iexact Hs2
  iintro ⟨Hc, Ho2, Hs2⟩
  iapply (row3_step i d O W q2 q3 f2 f3 f4 hidx)
  isplitr; · iexact Hmw
  isplitl [Hc]; · iexact Hc
  isplitl [Ho3]; · iexact Ho3
  isplitl [Hs3]; · iexact Hs3
  iintro ⟨Hc, Ho3, Hs3⟩
  ihave Ho := (out_rows d hw (gathered f2 f3)).2 $$ [Ho1 Ho2 Ho3]
  · isplitl [Ho1]; · iexact Ho1
    isplitl [Ho2]; · iexact Ho2
    iexact Ho3
  unfold common
  icases Hc with ⟨Hv, Hi, HA, HB, HC, HO⟩
  isplitl [Hv Hi Ho]
  · isplitl [Hv]; · iexact Hv
    isplitl [Hi]; · iexact Hi
    iexact Ho
  isplitl [HA HB HC Hbufs]
  · isplitl [HA]; · iexact HA
    isplitl [HB]; · iexact HB
    isplitl [HC]; · iexact HC
    iexact Hbufs
  isplitl [Hs1 Hs2 Hs3 Hsems]
  · isplitl [Hs1 Hs2 Hs3]
    · isplitl [Hs1]; · iexact Hs1
      isplitl [Hs2]; · iexact Hs2
      iexact Hs3
    iexact Hsems
  iexact HO

end Step

/-! ## What the call hands out and takes back -/

variable (f2 : (d : Dev nD) → Buf (Elt F) (vLoc d)) (f3 : (d : Dev nD) → Buf (Elt F) (iLoc d)) (f4 : (d : Dev nD) → Buf (Elt F) (oLoc d))

theorem nCore_zero : (K F).nCore 0 = 2 := rfl
theorem nSub_zero : (K F).nSub 0 = 16 := rfl

abbrev coreSh (c : Fin 2) : PosShare TreeShare := pieceOf fullShare 2 (by decide) c
abbrev taskSh (c : Fin 2) (j : Fin 16) : PosShare TreeShare := pieceOf (coreSh c) 16 (by decide) j

/-- A SparseCore's part, with the output at `g`; a subcore's. -/
abbrev corePts (d : Dev nD) (c : Fin 2) (g : Buf (Elt F) (oLoc d)) : sProp (𝕄 (F := F)) :=
  iprop((vLoc d ↦{coreSh c} f2 d) ∗ (iLoc d ↦{coreSh c} f3 d) ∗ oLoc d ↦[coreSet c.val]{fullShare} g)
abbrev taskPts (d : Dev nD) (c : Fin 2) (j : Fin 16) (g : Buf (Elt F) (oLoc d)) : sProp (𝕄 (F := F)) :=
  iprop((vLoc d ↦{taskSh c j} f2 d) ∗ (iLoc d ↦{taskSh c j} f3 d) ∗ oLoc d ↦[taskSet (2 * j.val + c.val)]{fullShare} g)

/-- The output's contents after the call. -/
abbrev outG (d : Dev nD) : Buf (Elt F) (oLoc d) := gathered (f2 d) (f3 d)

def P : (K F).Pay (nD := nD) (Val := Elt F) (Name := ℕ) (U := UU) where
  st := fun q d c => match q with | 0 => corePts f2 f3 d (Fin.cast (nCore_zero (F := F)) c) (f4 d)
  dn := fun q d c => match q with | 0 => corePts f2 f3 d (Fin.cast (nCore_zero (F := F)) c) (outG f2 f3 d)
  go := fun q d c i => match q with | 0 => taskPts f2 f3 d (Fin.cast (nCore_zero (F := F)) c) (Fin.cast (nSub_zero (F := F)) i) (f4 d)
  td := fun q d c i => match q with | 0 => taskPts f2 f3 d (Fin.cast (nCore_zero (F := F)) c) (Fin.cast (nSub_zero (F := F)) i) (outG f2 f3 d)
  x := fun _ _ => iprop(emp)

instance P_storable : (P f2 f3 f4).IsStorable where
  st q d c := match q with
    | 0 => (inferInstance : BI.Storable (upEmb : UEmb _ (𝕄 (F := F))) (corePts f2 f3 d (Fin.cast (nCore_zero (F := F)) c) (f4 d)))
  dn q d c := match q with
    | 0 => (inferInstance : BI.Storable (upEmb : UEmb _ (𝕄 (F := F))) (corePts f2 f3 d (Fin.cast (nCore_zero (F := F)) c) (outG f2 f3 d)))
  go q d c i := match q with
    | 0 => (inferInstance : BI.Storable (upEmb : UEmb _ (𝕄 (F := F))) (taskPts f2 f3 d (Fin.cast (nCore_zero (F := F)) c) (Fin.cast (nSub_zero (F := F)) i) (f4 d)))
  td q d c i := match q with
    | 0 => (inferInstance : BI.Storable (upEmb : UEmb _ (𝕄 (F := F))) (taskPts f2 f3 d (Fin.cast (nCore_zero (F := F)) c) (Fin.cast (nSub_zero (F := F)) i) (outG f2 f3 d)))

theorem facts : (K F).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_sc_gather (F := F) (coordsV c s) valsV vV idxV vI outV vO sA vA sB vB sC vC
          cc1_scoped0 cc1_scoped1 cc1_scoped2 cc1_scoped3 cc1_scoped4 cc1_scoped5 cc1_scoped6 cc1_scoped7 cc1_scoped8) ⟨⟩ c s := rfl

omit [FloatOps F] in
theorem obl_post {thr : Thread nD τ} {A B C : sProp (𝕄 (F := F))} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

abbrev v₀ : 𝒱.V := Sum.inl none

set_option maxRecDepth 16384 in
theorem tileObl (hidx : ∀ d, ∀ y : S16x512.Idx, (f3 d y : BitVec 32).toNat < 528) : (K F).TileObl (DD F) 𝒱 (P f2 f3 f4) v₀ 0 := by
  intro d c i O W hO _ _
  simp only [show (P f2 f3 f4).ox = fun _ _ => 0 from rfl, add_zero]
  have hci : ((K F).core 0 c).val < grid1.bound 0 ∧ ((K F).sub 0 i).val < grid1.bound 1 := ⟨c.isLt, i.isLt⟩
  change _ ⊢ wp _ _ _ (Pipeline.liftProg (defs₀ (F := F) (.scVector ((K F).core 0 c) ((K F).sub 0 i)) 1 ())) _
  refine BI.Entails.trans ?_ (Pipeline.wp_liftProg (DD F) (Pipeline.defs_kernel pcfgs defs₀) 𝒱₀ _ Set.univ none _ _)
  rw [defs₀_vector]; simp only [SparseCore.onTile, hci, and_self, ↓reduceDIte]
  exact (tile_body (coordsV ⟨_, hci.1⟩ ⟨_, hci.2⟩) d facts O W hO _ _ (f2 d) (f3 d) (f4 d) (hidx d)).trans (wp_mono frame _ _ fun _ => obl_post)

/-! ## The arrays split and join -/

theorem coreSet_tasks (c : Fin 2) : (Finset.univ : Finset (Fin 16)).biUnion (fun j => taskSet (2 * j.val + c.val)) = coreSet c.val := by
  ext x
  simp only [Finset.mem_biUnion, Finset.mem_univ, true_and, mem_taskSet, mem_coreSet]
  constructor
  · rintro ⟨j, hj⟩; omega
  · intro h
    exact ⟨⟨(x 0).val % 32 / 2, by omega⟩, by show (x 0).val % 32 = 2 * ((x 0).val % 32 / 2) + c.val; omega⟩
theorem tasks_disjoint (c : Fin 2) : ∀ j ∈ (Finset.univ : Finset (Fin 16)), ∀ j' ∈ (Finset.univ : Finset (Fin 16)), j ≠ j' →
    Disjoint (taskSet (2 * j.val + c.val)) (taskSet (2 * j'.val + c.val)) :=
  fun j _ j' _ h => Finset.disjoint_left.mpr fun x h1 h2 => h (Fin.ext (by
    have a := mem_taskSet.mp h1
    have b := mem_taskSet.mp h2
    omega))
theorem univ_cores : (Finset.univ : Finset (Fin 2)).biUnion (fun c => coreSet c.val) = Finset.univ := by
  ext x
  simp only [Finset.mem_biUnion, Finset.mem_univ, true_and, iff_true, mem_coreSet]
  exact ⟨⟨(x 0).val % 2, by omega⟩, rfl⟩
theorem cores_disjoint : ∀ c ∈ (Finset.univ : Finset (Fin 2)), ∀ c' ∈ (Finset.univ : Finset (Fin 2)), c ≠ c' →
    Disjoint (coreSet c.val) (coreSet c'.val) :=
  fun c _ c' _ h => Finset.disjoint_left.mpr fun x h1 h2 => h (Fin.ext ((mem_coreSet.mp h1).symm.trans (mem_coreSet.mp h2)))

omit [FloatOps F] in
theorem out_tasks (d : Dev nD) (c : Fin 2) (g : Buf (Elt F) (oLoc d)) :
    (oLoc d ↦[coreSet c.val]{fullShare} g : sProp (𝕄 (F := F))) = bigSep Finset.univ fun j : Fin 16 => oLoc d ↦[taskSet (2 * j.val + c.val)]{fullShare} g := by
  rw [← pointsTo_biUnion Finset.univ (ℓ := oLoc d) (fun j : Fin 16 => taskSet (2 * j.val + c.val)) (tasks_disjoint c)]
  exact congrArg (fun I => (oLoc d ↦[I]{fullShare} g : sProp (𝕄 (F := F)))) (coreSet_tasks c).symm
omit [FloatOps F] in
theorem out_cores (d : Dev nD) (g : Buf (Elt F) (oLoc d)) :
    (oLoc d ↦{fullShare} g : sProp (𝕄 (F := F))) = bigSep Finset.univ fun c : Fin 2 => oLoc d ↦[coreSet c.val]{fullShare} g := by
  rw [← pointsTo_biUnion Finset.univ (ℓ := oLoc d) (fun c : Fin 2 => coreSet c.val) cores_disjoint]
  exact congrArg (fun I => (oLoc d ↦[I]{fullShare} g : sProp (𝕄 (F := F)))) univ_cores.symm

omit [FloatOps F] in
theorem corePts_tasks (d : Dev nD) (c : Fin 2) (g : Buf (Elt F) (oLoc d)) :
    corePts f2 f3 d c g = bigSep Finset.univ fun j : Fin 16 => taskPts f2 f3 d c j g := by
  unfold corePts taskPts
  rw [bigSep_sep', bigSep_sep', out_tasks, ← pointsTo_piecesOf, ← pointsTo_piecesOf]
omit [FloatOps F] in
/-- The three arrays whole are the two SparseCores' parts. -/
theorem whole_cores (d : Dev nD) (g : Buf (Elt F) (oLoc d)) :
    iprop((vLoc d ↦{fullShare} f2 d) ∗ (iLoc d ↦{fullShare} f3 d) ∗ oLoc d ↦{fullShare} g : sProp (𝕄 (F := F)))
      = bigSep Finset.univ fun c : Fin 2 => corePts f2 f3 d c g := by
  unfold corePts
  rw [bigSep_sep', bigSep_sep', out_cores, ← pointsTo_piecesOf, ← pointsTo_piecesOf]

theorem bigSep_tasks (Φ : Fin 16 → sProp (𝕄 (F := F))) :
    (bigSep Finset.univ fun i : Fin ((K F).nSub 0) => Φ (Fin.cast (nSub_zero (F := F)) i)) = bigSep Finset.univ Φ :=
  bigSep_congr fun _ _ => congrArg Φ (Fin.ext rfl)
theorem bigSep_cores (Φ : Fin 2 → sProp (𝕄 (F := F))) :
    (bigSep Finset.univ fun i : Fin ((K F).nCore 0) => Φ (Fin.cast (nCore_zero (F := F)) i)) = bigSep Finset.univ Φ :=
  bigSep_congr fun _ _ => congrArg Φ (Fin.ext rfl)

theorem vecSplit : (K F).VecSplit' (P f2 f3 f4) 0 := by
  intro d c
  show corePts f2 f3 d (Fin.cast (nCore_zero (F := F)) c) (f4 d) ⊢ |={Set.univ}=> iprop(
      (bigSep Finset.univ fun i : Fin ((K F).nSub 0) => taskPts f2 f3 d (Fin.cast (nCore_zero (F := F)) c) (Fin.cast (nSub_zero (F := F)) i) (f4 d))
      ∗ ((bigSep Finset.univ fun i : Fin ((K F).nSub 0) => taskPts f2 f3 d (Fin.cast (nCore_zero (F := F)) c) (Fin.cast (nSub_zero (F := F)) i) (outG f2 f3 d))
          -∗ corePts f2 f3 d (Fin.cast (nCore_zero (F := F)) c) (outG f2 f3 d)))
  rw [bigSep_tasks (F := F) (fun i => taskPts f2 f3 d (Fin.cast (nCore_zero (F := F)) c) i (f4 d)),
    bigSep_tasks (F := F) (fun i => taskPts f2 f3 d (Fin.cast (nCore_zero (F := F)) c) i (outG f2 f3 d)), ← corePts_tasks, ← corePts_tasks]
  iintro H; imodintro
  isplitl [H]; · iexact H
  iintro H; iexact H

theorem st0_eq (d : Dev nD) : (bigSep Finset.univ fun c : Fin ((K F).nCore 0) => (P f2 f3 f4).st 0 d c)
    = iprop((vLoc d ↦{fullShare} f2 d) ∗ (iLoc d ↦{fullShare} f3 d) ∗ oLoc d ↦{fullShare} f4 d) :=
  (bigSep_cores (fun c => corePts f2 f3 d c (f4 d))).trans (whole_cores f2 f3 d (f4 d)).symm
theorem dn0_eq (d : Dev nD) : (bigSep Finset.univ fun c : Fin ((K F).nCore 0) => (P f2 f3 f4).dn 0 d c)
    = iprop((vLoc d ↦{fullShare} f2 d) ∗ (iLoc d ↦{fullShare} f3 d) ∗ oLoc d ↦{fullShare} outG f2 f3 d) :=
  (bigSep_cores (fun c => corePts f2 f3 d c (outG f2 f3 d))).trans (whole_cores f2 f3 d (outG f2 f3 d)).symm

end Cert.Proof.Tile

end
-- ==== Proof.Main.lean ====
/-
  The program on the TensorCore: its operations, the TensorCore kernel's call and the SparseCore launch, one after the
  other, each device's unscoped buffers held at a valuation throughout; and the program's run from any launch memory.
-/
module

public import proofs.«01_k».proof.Proof.Task

@[expose] public section

set_option Elab.async false

noncomputable section

namespace Cert.Proof.Main

open Cert.KernelIdeal Cert.KernelIdeal.Gen
open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Base
open Cert.Proof.Tc (ΛP K DD 𝒱₀ 𝒱 ucRefs adm)
open Cert.Proof.Tile (P vLoc iLoc oLoc outG)

variable {F : FTy → Type} [FloatOps F]

/-- The operations before the TensorCore kernel, -/
def ops1 : List (HloOp τ sig (Elt F)) :=
  [ StableHlo.unary main_arg0 main_v0 ((transpose S16x2x512 [0, 2, 1] · transposes_S16x512x2_S16x2x512_0_2_1) : (⟨S16x512x2, .f32⟩ : BufTy).Contents (Elt F) → (⟨S16x2x512, .f32⟩ : BufTy).Contents (Elt F)),
    StableHlo.unary main_arg1 main_v1 ((transpose S16x2x512 [0, 2, 1] · transposes_S16x512x2_S16x2x512_0_2_1) : (⟨S16x512x2, .f32⟩ : BufTy).Contents (Elt F) → (⟨S16x2x512, .f32⟩ : BufTy).Contents (Elt F)),
    StableHlo.reshape main_arg2 main_v2 (rfl : (.f32 : EltTy) = .f32) shapeCasts_S16x512_S16x512x1,
    StableHlo.reshape main_arg3 main_v3 (rfl : (.f32 : EltTy) = .f32) shapeCasts_S16x512_S16x1x512,
    StableHlo.unary main_arg4 main_v4 ((extractStridedSlice S16x512x1 ![0, 0, 0] · slices_S16x512x2_S16x512x1_0_0_0) : (⟨S16x512x2, .f32⟩ : BufTy).Contents (Elt F) → (⟨S16x512x1, .f32⟩ : BufTy).Contents (Elt F)),
    StableHlo.reshape main_v4 main_v5 (rfl : (.f32 : EltTy) = .f32) shapeCasts_S16x512x1_S16x512,
    StableHlo.reshape main_v5 main_v6 (rfl : (.f32 : EltTy) = .f32) shapeCasts_S16x512_S16x1x512,
    StableHlo.unary main_arg4 main_v7 ((extractStridedSlice S16x512x1 ![0, 0, 1] · slices_S16x512x2_S16x512x1_0_0_1) : (⟨S16x512x2, .f32⟩ : BufTy).Contents (Elt F) → (⟨S16x512x1, .f32⟩ : BufTy).Contents (Elt F)),
    StableHlo.reshape main_v7 main_v8 (rfl : (.f32 : EltTy) = .f32) shapeCasts_S16x512x1_S16x512,
    StableHlo.reshape main_v8 main_v9 (rfl : (.f32 : EltTy) = .f32) shapeCasts_S16x512_S16x1x512 ]
/-- between the two kernels, -/
def ops2 : List (HloOp τ sig (Elt F)) :=
  [ StableHlo.unary main_arg0 main_v11 ((transpose S16x2x512 [0, 2, 1] · transposes_S16x512x2_S16x2x512_0_2_1) : (⟨S16x512x2, .f32⟩ : BufTy).Contents (Elt F) → (⟨S16x2x512, .f32⟩ : BufTy).Contents (Elt F)),
    StableHlo.unary main_arg1 main_v12 ((transpose S16x2x512 [0, 2, 1] · transposes_S16x512x2_S16x2x512_0_2_1) : (⟨S16x512x2, .f32⟩ : BufTy).Contents (Elt F) → (⟨S16x2x512, .f32⟩ : BufTy).Contents (Elt F)),
    StableHlo.reshape main_arg2 main_v13 (rfl : (.f32 : EltTy) = .f32) shapeCasts_S16x512_S16x1x512,
    StableHlo.nary ![main_v11, main_v12, main_v13] main_v14 (fun u => (concatenate S16x5x512 1 [⟨S16x2x512, (u 0 : (⟨S16x2x512, .f32⟩ : BufTy).Contents (Elt F))⟩, ⟨S16x2x512, (u 1 : (⟨S16x2x512, .f32⟩ : BufTy).Contents (Elt F))⟩, ⟨S16x1x512, (u 2 : (⟨S16x1x512, .f32⟩ : BufTy).Contents (Elt F))⟩] concatenates_S16x2x512_S16x2x512_S16x1x512_S16x5x512_d1 : (⟨S16x5x512, .f32⟩ : BufTy).Contents (Elt F))),
    StableHlo.reshape main_v14 main_v15 (rfl : (.f32 : EltTy) = .f32) shapeCasts_S16x5x512_S80x512,
    StableHlo.reshape main_v10_2 main_v16 (rfl : (.i32 : EltTy) = .i32) shapeCasts_S16x1x512_S16x512,
    StableHlo.nullary main_c (constantI S_ 32 0#32),
    StableHlo.nullary main_c_0 (constantI S_ 32 512#32),
    StableHlo.TRef.unary (.of main_c) (.of main_call0_v0) id,
    StableHlo.TRef.unary main_call0.v0 main_call0.v1 (broadcastInDim S16x512 ![] bcast_S_S16x512),
    StableHlo.TRef.binary main_call0.v1 (.of main_v16) main_call0.v2 maxsi,
    StableHlo.TRef.unary (.of main_c_0) main_call0.v3 id,
    StableHlo.TRef.unary main_call0.v3 main_call0.v4 (broadcastInDim S16x512 ![] bcast_S_S16x512),
    StableHlo.TRef.binary main_call0.v4 main_call0.v2 main_call0.v5 minsi ]
/-- and after the SparseCore kernel. -/
def ops3 : List (HloOp τ sig (Elt F)) :=
  [ StableHlo.reshape main_v18 main_v19 (rfl : (.f32 : EltTy) = .f32) shapeCasts_S80x512_S16x5x512,
    StableHlo.unary main_v19 main_v20 ((extractStridedSlice S16x2x512 ![0, 0, 0] · slices_S16x5x512_S16x2x512_0_0_0) : (⟨S16x5x512, .f32⟩ : BufTy).Contents (Elt F) → (⟨S16x2x512, .f32⟩ : BufTy).Contents (Elt F)),
    StableHlo.unary main_v20 main_v21 ((transpose S16x512x2 [0, 2, 1] · transposes_S16x2x512_S16x512x2_0_2_1) : (⟨S16x2x512, .f32⟩ : BufTy).Contents (Elt F) → (⟨S16x512x2, .f32⟩ : BufTy).Contents (Elt F)),
    StableHlo.unary main_v19 main_v22 ((extractStridedSlice S16x2x512 ![0, 2, 0] · slices_S16x5x512_S16x2x512_0_2_0) : (⟨S16x5x512, .f32⟩ : BufTy).Contents (Elt F) → (⟨S16x2x512, .f32⟩ : BufTy).Contents (Elt F)),
    StableHlo.unary main_v22 main_v23 ((transpose S16x512x2 [0, 2, 1] · transposes_S16x2x512_S16x512x2_0_2_1) : (⟨S16x2x512, .f32⟩ : BufTy).Contents (Elt F) → (⟨S16x512x2, .f32⟩ : BufTy).Contents (Elt F)),
    StableHlo.unary main_v19 main_v24 ((extractStridedSlice S16x1x512 ![0, 4, 0] · slices_S16x5x512_S16x1x512_0_4_0) : (⟨S16x5x512, .f32⟩ : BufTy).Contents (Elt F) → (⟨S16x1x512, .f32⟩ : BufTy).Contents (Elt F)),
    StableHlo.reshape main_v24 main_v25 (rfl : (.f32 : EltTy) = .f32) shapeCasts_S16x1x512_S16x512,
    StableHlo.reshape main_v10_1 main_v26 (rfl : (.f32 : EltTy) = .f32) shapeCasts_S16x1x1_S16,
    StableHlo.nullary main_cst (constant S_ .f32 0x00000000#32),
    StableHlo.unary main_cst main_v27 (broadcastInDim S16 ![] bcast_S_S16 : (⟨S_, .f32⟩ : BufTy).Contents (Elt F) → (⟨S16, .f32⟩ : BufTy).Contents (Elt F)),
    StableHlo.binary main_v26 main_v27 main_v28 (cmpf .une : (⟨S16, .f32⟩ : BufTy).Contents (Elt F) → (⟨S16, .f32⟩ : BufTy).Contents (Elt F) → (⟨S16, .i1⟩ : BufTy).Contents (Elt F)) ]

/-- The program is its operations around the two kernels. -/
theorem main_eq (d : Dev nD) :
    main (F := F) d = (StableHlo.seq ops1 >>= fun _ => Prog.lift (.customCall (SparseCore.inner (Pipeline.entry 0)) ()) >>= fun _ =>
      StableHlo.seq ops2 >>= fun _ => sc.run d 0 >>= fun _ => StableHlo.seq ops3 >>= fun _ => pure ⟨⟩) := by
  simp only [main, fn_clip.body, ops1, ops2, ops3, StableHlo.seq, bind_assoc, pure_bind]

/-! ## What the buffers hold along the program -/

variable (m : (ℓ : Loc nD τ sig) → Buf (Elt F) ℓ) (ρ : Dev nD → PrngReg)

abbrev V0 (d : Dev nD) : Valuation τ sig (Elt F) := fun b => m (d, b)
def V1 (d : Dev nD) : Valuation τ sig (Elt F) := StableHlo.after ops1 (V0 m d)
def V2 (d : Dev nD) : Valuation τ sig (Elt F) := Tc.after₀ (V1 m) d
def V3 (d : Dev nD) : Valuation τ sig (Elt F) := StableHlo.after ops2 (V2 m d)

abbrev r15 : DevRef τ sig := Proc.devRef .tc main_v15
abbrev r17 : DevRef τ sig := Proc.devRef .tc main_v17
abbrev r18 : DevRef τ sig := Proc.devRef .tc main_v18

abbrev f2 (d : Dev nD) : Buf (Elt F) (vLoc d) := V3 m d r15
abbrev f3 (d : Dev nD) : Buf (Elt F) (iLoc d) := V3 m d r17
abbrev f4 (d : Dev nD) : Buf (Elt F) (oLoc d) := V3 m d r18

def V4 (d : Dev nD) : Valuation τ sig (Elt F) := Function.update (V3 m d) r18 (outG (f2 m) (f3 m) d)
def V5 (d : Dev nD) : Valuation τ sig (Elt F) := StableHlo.after ops3 (V4 m d)

abbrev PP : (K F).Pay (nD := nD) (Val := Elt F) (Name := ℕ) (U := UU) := P (f2 m) (f3 m) (f4 m)

/-! ## The operations' side conditions -/

omit [FloatOps F] in
theorem bufs_uc (op : HloOp τ sig (Elt F)) (h : op.bufs ⊆ StableHlo.tcRefs τ sig) : op.bufs ⊆ ucRefs := fun b hb =>
  Finset.mem_filter.mpr ⟨h hb, by rw [op.no_scoped b hb]; decide⟩

theorem ops1_bufs : ∀ op ∈ ops1 (F := F), op.bufs ⊆ ucRefs := by
  intro op h
  refine bufs_uc op ?_
  revert op
  rw [← List.forall_iff_forall_mem]
  simp [ops1]
theorem ops2_bufs : ∀ op ∈ ops2 (F := F), op.bufs ⊆ ucRefs := by
  intro op h
  refine bufs_uc op ?_
  revert op
  rw [← List.forall_iff_forall_mem]
  simp [ops2]
theorem ops3_bufs : ∀ op ∈ ops3 (F := F), op.bufs ⊆ ucRefs := by
  intro op h
  refine bufs_uc op ?_
  revert op
  rw [← List.forall_iff_forall_mem]
  simp [ops3]
theorem ops1_fresh : ∀ op ∈ ops1 (F := F), op.fresh = ∅ := List.forall_iff_forall_mem.mp (StableHlo.forall_fresh_of_map rfl)
theorem ops2_fresh : ∀ op ∈ ops2 (F := F), op.fresh = ∅ := List.forall_iff_forall_mem.mp (StableHlo.forall_fresh_of_map rfl)
theorem ops3_fresh : ∀ op ∈ ops3 (F := F), op.fresh = ∅ := List.forall_iff_forall_mem.mp (StableHlo.forall_fresh_of_map rfl)

/-! ## The positions lie in the padded row -/

theorem clip_word (w : BitVec 32) : (IntOp.minsi 512#32 (IntOp.maxsi 0#32 w)).toNat < 528 := by
  unfold IntOp.minsi IntOp.maxsi
  split <;> split <;> simp_all [BitVec.slt_eq_decide, BitVec.toInt_eq_toNat_cond] <;> omega

theorem after2_17 (W : Valuation τ sig (Elt F)) :
    StableHlo.after ops2 W r17
      = (fun y => IntOp.minsi 512#32 (IntOp.maxsi 0#32 ((shapeCast S16x512 (W (Proc.devRef .tc main_v10_2) : S16x1x512.Idx → BitVec 32) shapeCasts_S16x1x512_S16x512) y)) : S16x512.Idx → BitVec 32) := by
  unfold ops2
  after_results
  funext y
  rfl

theorem positions (d : Dev nD) : ∀ y : S16x512.Idx, (f3 m d y : BitVec 32).toNat < 528 := by
  intro y
  have h := congrFun (after2_17 (V2 m d)) y
  exact (congrArg BitVec.toNat h).trans_lt (clip_word _)

/-! ## The launch's three buffers out of all -/

theorem three_sub : ({r15, r17, r18} : Finset (DevRef τ sig)) ⊆ ucRefs := by
  intro b hb
  simp only [Finset.mem_insert, Finset.mem_singleton] at hb
  rcases hb with rfl | rfl | rfl <;>
    exact Finset.mem_filter.mpr ⟨StableHlo.devRef_mem_tcRefs _, by decide⟩

theorem three (d : Dev nD) (W : Valuation τ sig (Elt F)) :
    (StableHlo.held (T d) {r15, r17, r18} W : sProp (𝕄 (F := F)))
      = iprop((vLoc d ↦{fullShare} (W r15 : Buf (Elt F) (vLoc d))) ∗ (iLoc d ↦{fullShare} (W r17 : Buf (Elt F) (iLoc d)))
          ∗ oLoc d ↦{fullShare} (W r18 : Buf (Elt F) (oLoc d))) := by
  unfold StableHlo.held
  rw [SparseCore.bigSep_insert' (by decide), SparseCore.bigSep_insert' (by decide), bigSep_singleton]

theorem V4_off (d : Dev nD) : ∀ b ∈ ucRefs \ {r15, r17, r18}, V3 m d b = V4 m d b := fun b hb => by
  have : b ≠ r18 := fun e => (Finset.mem_sdiff.mp hb).2 (by rw [e]; simp)
  exact (Function.update_of_ne this _ _).symm
theorem V4_15 (d : Dev nD) : V4 m d r15 = V3 m d r15 := Function.update_of_ne (by decide) _ _
theorem V4_17 (d : Dev nD) : V4 m d r17 = V3 m d r17 := Function.update_of_ne (by decide) _ _
theorem V4_18 (d : Dev nD) : V4 m d r18 = outG (f2 m) (f3 m) d := Function.update_self _ _ _

/-! ## The program on the TensorCore -/

/-- The pipeline's ghost state of one device. -/
def G (d : Dev nD) : sProp (𝕄 (F := F)) :=
  iprop(Pipeline.cellsGhost (Pipeline.pin (pcfgs (F := F)) adm) EP 0 d ∗ Pipeline.toksInit (Pipeline.pin (pcfgs (F := F)) adm) EP 0 d)

abbrev FIN (d : Dev nD) : sProp (𝕄 (F := F)) := StableHlo.held (T d) ucRefs (V5 m d)

theorem hmain (κ : GSem nD τ sig → ℕ) (d : Dev nD) :
    iprop((K F).ctx EH (PP m) κ (K F).lev ∗ (K F).tcSt EH d 0 ∗ (K F).tcRes m ρ d ∗ G (F := F) d)
      ⊢ wp frame (wpE ((K F).defs (DD F)) 𝒱 (T d) none) Set.univ (main d)
          fun _ => iprop((K F).tcSt EH d 1 ∗ FIN m d ∗ (K F).tcEnd d) := by
  unfold SparseCore.Cfg.tcRes SparseCore.Cfg.tcEnd G
  rw [main_eq]
  iintro ⟨#Hctx, Hst, ⟨Hb, Hh, Hts, -⟩, Hg, Ht⟩
  icases (Entails.of_eq (Tc.unscoped_held d (V0 m d))) $$ Hh with Hh
  iapply (StableHlo.wp_seq 𝒱 none Set.univ d ucRefs _ ops1 ops1_bufs ops1_fresh (V0 m d)) $$ [Hb Hh]
  · isplitl [Hb]; · iexact Hb
    iexact Hh
  iintro ⟨Hb, Hh⟩
  rw [wp_bind]
  ihave #Hlv := (SparseCore.Cfg.ctx_levAts κ) $$ Hctx
  unfold SparseCore.Cfg.tcSt
  icases Hst with ⟨HO, Hrest⟩
  iapply ((K F).wp_liftProg (DD F) 𝒱 (T d) Set.univ none (Prog.lift (.customCall (Pipeline.entry 0) ())) _)
  iapply (Tc.region_step (V1 m) d)
  isplitl [Hb]; · iexact Hb
  isplitl [Hh]; · iexact Hh
  isplitl [HO]; · iexact HO
  isplitr; · iexact Hlv
  isplitl [Hg]; · iexact Hg
  isplitl [Ht]; · iexact Ht
  iintro ⟨Hb, Hh, HO⟩
  iapply (StableHlo.wp_seq 𝒱 none Set.univ d ucRefs _ ops2 ops2_bufs ops2_fresh (V2 m d)) $$ [Hb Hh]
  · isplitl [Hb]; · iexact Hb
    iexact Hh
  iintro ⟨Hb, Hh⟩
  icases (Entails.of_eq (show (StableHlo.held (T d) ucRefs (StableHlo.after ops2 (V2 m d)) : sProp (𝕄 (F := F))) = StableHlo.held (T d) ucRefs (V3 m d) from rfl)) $$ Hh with Hh
  icases (Entails.of_eq (StableHlo.held_sub_split (T d) three_sub (V3 m d))) $$ Hh with ⟨H3, Hr⟩
  icases (Entails.of_eq (three d (V3 m d))) $$ H3 with H3
  rw [wp_bind]
  iapply ((K F).wp_run (DD F) 𝒱 (EH := EH) (P := PP m) κ d 0)
  isplitr; · iexact Hctx
  isplitl [HO Hrest]
  · unfold SparseCore.Cfg.tcSt
    isplitl [HO]; · iexact HO
    iexact Hrest
  isplitl [H3]
  · iapply (Entails.of_eq (Tile.st0_eq (f2 m) (f3 m) (f4 m) d).symm); iexact H3
  iintro ⟨Hst, Hdn⟩
  icases (Entails.of_eq (Tile.dn0_eq (f2 m) (f3 m) (f4 m) d)) $$ Hdn with H3
  icases (Entails.of_eq (show _ = (StableHlo.held (T d) {r15, r17, r18} (V4 m d) : sProp (𝕄 (F := F))) by
    rw [three, V4_15, V4_17, V4_18])) $$ H3 with H3
  icases (Entails.of_eq (StableHlo.held_congr (T d) (V4_off m d))) $$ Hr with Hr
  icombine H3 Hr as Hh
  icases (Entails.of_eq (StableHlo.held_sub_split (T d) three_sub (V4 m d)).symm) $$ Hh with Hh
  iapply (StableHlo.wp_seq 𝒱 none Set.univ d ucRefs _ ops3 ops3_bufs ops3_fresh (V4 m d)) $$ [Hb Hh]
  · isplitl [Hb]; · iexact Hb
    iexact Hh
  iintro ⟨Hb, Hh⟩
  rw [wp_pure]
  imodintro
  isplitl [Hst]
  · unfold SparseCore.Cfg.tcSt; iexact Hst
  isplitl [Hh]; · iexact Hh
  isplitl [Hb]; · iexact Hb
  iexact Hts

/-! ## The launch -/

/-- The launch element of the certificate's ghost state. -/
def u₀ : UU := (initOf (K F).hsCells (K F).hsToks,
  (initOf (Pipeline.cells (Pipeline.pin (pcfgs (F := F)) adm) cellOf_inj) (Pipeline.launchToks (Pipeline.pin (pcfgs (F := F)) adm) cellOf_inj), 1))

theorem hu₀ : (ownU (u₀ (F := F)) : sProp (𝕄 (F := F)))
    ⊢ |={Set.univ}=> iprop(BI.own (EH (initOf (K F).hsCells (K F).hsToks)) ∗ (bigSep Finset.univ fun d : Dev nD => G (F := F) d)
        ∗ bigSep Finset.univ fun thr : Thread nD τ => bigSep Finset.univ fun q : Fin 1 => (PP m).x q thr) := by
  unfold u₀
  iintro Hu
  ihave H := (ownU_split _ _ _) $$ Hu
  icases H with ⟨HH, HP⟩
  imod (Pipeline.fund_ghost (Pipeline.pin (pcfgs (F := F)) adm) EP cellOf_inj) $$ HP with ⟨Hg, Ht⟩
  imodintro
  isplitl [HH]; · iexact HH
  isplitl [Hg Ht]
  · unfold G
    rw [bigSep_sep']
    icases (Entails.of_eq (bigSep_congr (fun d (_ : d ∈ Finset.univ) => bigSep_univ_of_subsingleton (Φ := fun p => Pipeline.cellsGhost (Pipeline.pin (pcfgs (F := F)) adm) EP p d) (0 : Fin 1)))) $$ Hg with Hg
    icases (Entails.of_eq (bigSep_congr (fun d (_ : d ∈ Finset.univ) => bigSep_univ_of_subsingleton (Φ := fun p => Pipeline.toksInit (Pipeline.pin (pcfgs (F := F)) adm) EP p d) (0 : Fin 1)))) $$ Ht with Ht
    isplitl [Hg]; · iexact Hg
    iexact Ht
  rw [show (bigSep Finset.univ fun thr : Thread nD τ => bigSep Finset.univ fun q : Fin 1 => (PP m).x q thr) = bigSep Finset.univ fun _ => iprop(emp) from
    bigSep_congr fun _ _ => bigSep_univ_of_subsingleton (0 : Fin 1)]
  iapply (Entails.of_eq (bigSep_emp_const (Finset.univ : Finset (Thread nD τ))).symm)
  iempintro

def fq (d : Dev nD) (s' : Phys nD τ sig (Elt F)) : Prop := ∀ b ∈ ucRefs, s'.mem.mem (d, b) = V5 m d b

theorem hfin (d : Dev nD) (s' : Phys nD τ sig (Elt F)) : iprop(FIN m d ∗ SI s') ⊢ (⌜fq m d s'⌝ : sProp (𝕄 (F := F))) := by
  unfold FIN StableHlo.held
  iintro ⟨H, HSI⟩
  ihave %h := (SI_pointsTo_bufs_agree (qs := fun _ => fullShare) ucRefs) $$ [HSI H]
  · isplitl [HSI]; · iexact HSI
    iexact H
  ipureintro
  exact h

/-- The program's run: from any launch memory it ends with every unscoped buffer of every device at `V5`, every
    semaphore at zero. -/
theorem run_main [∀ e, Nonempty (Elt F e)] :
    θ_run (Cert.KernelIdeal.defs (F := F)) (Cert.KernelIdeal.threads (F := F)) ⟨m, fun _ => 0, ρ⟩
      (fun r => (∀ d : Dev nD, ∀ b ∈ ucRefs, r.2.mem (d, b) = V5 m d b) ∧ r.2.sem = fun _ => 0) :=
  SparseCore.Cfg.θ_run_sc_quiescent (K := K F) (D := DD F) (𝒱 := 𝒱) (EH := EH) (P := PP m) (A := ∅) Tile.facts Tile.v₀
    (fun q hq => match q with | 0 => nomatch hq)
    (fun q _ => match q with | 0 => Tile.tileObl (f2 m) (f3 m) (f4 m) (positions m))
    (fun q _ => match q with | 0 => SparseCore.Cfg.VecSplit.of_plain (Tile.vecSplit (f2 m) (f3 m) (f4 m)))
    m ρ main (G (F := F)) (FIN m) (u₀ (F := F)) (sep_elim_left.trans (hu₀ m)) (hmain m ρ) (fq m) (hfin m) _ (fun _ h hz => ⟨h, hz⟩)

/-! ## The arguments end as they were -/

/-- The first operations' results, -/
abbrev W1 : List (Ref sig .tc) := [main_v0, main_v1, main_v2, main_v3, main_v4, main_v5, main_v6, main_v7, main_v8, main_v9]
/-- the middle ones', -/
abbrev W2 : List (Ref sig .tc) := [main_v11, main_v12, main_v13, main_v14, main_v15, main_v16, main_c, main_c_0, main_call0_v0, main_call0_v1, main_call0_v2, main_call0_v3, main_call0_v4, main_v17]
/-- the last ones'. -/
abbrev W3 : List (Ref sig .tc) := [main_v19, main_v20, main_v21, main_v22, main_v23, main_v24, main_v25, main_v26, main_cst, main_v27, main_v28]

theorem V1_off {r : Ref sig .tc} (d : Dev nD) (h : r ∉ W1) : V1 m d (Proc.devRef .tc r) = V0 m d (Proc.devRef .tc r) :=
  StableHlo.after_of_writes_sub ops1 _ (StableHlo.forall_writes_sub_of_map (W := W1) rfl) h
theorem V3_off {r : Ref sig .tc} (d : Dev nD) (h : r ∉ W2) : V3 m d (Proc.devRef .tc r) = V2 m d (Proc.devRef .tc r) :=
  StableHlo.after_of_writes_sub ops2 _ (StableHlo.forall_writes_sub_of_map (W := W2) rfl) h
theorem V5_off {r : Ref sig .tc} (d : Dev nD) (h : r ∉ main_v18 :: W3) : V5 m d (Proc.devRef .tc r) = V3 m d (Proc.devRef .tc r) :=
  (StableHlo.after_of_writes_sub ops3 _ (StableHlo.forall_writes_sub_of_map (W := W3) rfl) (List.not_mem_of_not_mem_cons h)).trans
    (Function.update_of_ne (fun e => h (by rw [Proc.devRef_injective _ e]; exact List.mem_cons_self)) _ _)

/-- A buffer that no operation and no kernel writes ends as it was. -/
theorem V5_launch {r : Ref sig .tc} (d : Dev nD) (h1 : r ∉ W1) (h2 : r ∉ W2) (h3 : r ∉ main_v18 :: W3)
    (hw : ∀ w, Pipeline.arrRef spec0 w = r → (cfg0.win w).isOut = false) : V5 m d (Proc.devRef .tc r) = m (d, Proc.devRef .tc r) :=
  (V5_off m d h3).trans ((V3_off m d h2).trans ((Pipeline.afterRegion_keeps (Tc.dat₀ (V1 m) d) (V1 m d) launch0.win.arr_inj (fun _ => rfl) r hw).trans (V1_off m d h1)))

/-- The program's arguments. -/
abbrev args : List (Ref sig .tc) := [main_arg0, main_arg1, main_arg2, main_arg3, main_arg4]

theorem args_keep (d : Dev nD) : ∀ r ∈ args, V5 m d (Proc.devRef .tc r) = m (d, Proc.devRef .tc r) := by
  intro r hr
  have key : ∀ r ∈ args, r ∉ W1 ∧ r ∉ W2 ∧ r ∉ main_v18 :: W3 ∧ (∀ w, Pipeline.arrRef spec0 w = r → (cfg0.win w).isOut = false) ∧ (Proc.devRef .tc r : DevRef τ sig) ∈ ucRefs := by
    decide +kernel
  obtain ⟨h1, h2, h3, hw, -⟩ := key r hr
  exact V5_launch m d h1 h2 h3 hw

/-- A buffer of the TensorCore's that is not scoped is one of those the run theorem speaks of. -/
theorem mem_uc {r : Ref sig .tc} (h : r.isScoped = false) : (Proc.devRef .tc r : DevRef τ sig) ∈ ucRefs :=
  Finset.mem_filter.mpr ⟨StableHlo.devRef_mem_tcRefs _, by rw [show (Proc.devRef .tc r : DevRef τ sig).isScoped = r.isScoped from rfl, h]; decide⟩

/-- The program runs, leaves its arguments as they were and every semaphore at zero. -/
theorem run_frame [∀ e, Nonempty (Elt F e)] :
    θ_run (Cert.KernelIdeal.defs (F := F)) (Cert.KernelIdeal.threads (F := F)) ⟨m, fun _ => 0, ρ⟩
      (fun r => (∀ c : Dev nD, r.2.mem ((SparseCore.T c).loc main_arg0) = m ((SparseCore.T c).loc main_arg0) ∧ r.2.mem ((SparseCore.T c).loc main_arg1) = m ((SparseCore.T c).loc main_arg1)
        ∧ r.2.mem ((SparseCore.T c).loc main_arg2) = m ((SparseCore.T c).loc main_arg2) ∧ r.2.mem ((SparseCore.T c).loc main_arg3) = m ((SparseCore.T c).loc main_arg3)
        ∧ r.2.mem ((SparseCore.T c).loc main_arg4) = m ((SparseCore.T c).loc main_arg4)) ∧ r.2.sem = fun _ => 0) :=
  (θ_run _ _ _).mono (fun r h => ⟨fun c => by
    have key : ∀ a ∈ args, r.2.mem (c, Proc.devRef .tc a) = m (c, Proc.devRef .tc a) := fun a ha =>
      (h.1 c _ (mem_uc (by revert a; decide))).trans (args_keep m c a ha)
    exact ⟨key main_arg0 (by simp), key main_arg1 (by simp), key main_arg2 (by simp), key main_arg3 (by simp), key main_arg4 (by simp)⟩, h.2⟩) (run_main m ρ)

end Cert.Proof.Main

end
-- ==== Proof.Frames.lean ====
module
public import proofs.«01_k».proof.Proof.Main
public import proofs.«01_k».proof.Proof.Gen.Kernel
/-!
# The two texts of the kernel are one

The generated text of the kernel is written once for machine words and once for
exact numbers.  Both are generic in the number type, so they can be compared
there: part by part, then the two kernels, then the label bodies.
-/
@[expose] public section
set_option Elab.async false
open Idealize.ShloMosaic Idealize.SL.Sem
namespace Cert.Proof.Same
variable {F : FTy → Type} [FloatOps F]
set_option maxHeartbeats 1000000
set_option maxRecDepth 20000
noncomputable section
/-- The parts, one by one; -/
theorem k0_part1 : (Cert.Kernel.k0_part1 (F := F)) = Cert.KernelIdeal.k0_part1 (F := F) := rfl
theorem k0_part2 : (Cert.Kernel.k0_part2 (F := F)) = Cert.KernelIdeal.k0_part2 (F := F) := rfl
theorem k0_part3 : (Cert.Kernel.k0_part3 (F := F)) = Cert.KernelIdeal.k0_part3 (F := F) := rfl
theorem k0_part4 : (Cert.Kernel.k0_part4 (F := F)) = Cert.KernelIdeal.k0_part4 (F := F) := rfl
theorem k0_part5 : (Cert.Kernel.k0_part5 (F := F)) = Cert.KernelIdeal.k0_part5 (F := F) := rfl
theorem k0_part6 : (Cert.Kernel.k0_part6 (F := F)) = Cert.KernelIdeal.k0_part6 (F := F) := rfl
theorem k0_part7 : (Cert.Kernel.k0_part7 (F := F)) = Cert.KernelIdeal.k0_part7 (F := F) := rfl
theorem k0_part8 : (Cert.Kernel.k0_part8 (F := F)) = Cert.KernelIdeal.k0_part8 (F := F) := rfl
theorem k0_part9 : (Cert.Kernel.k0_part9 (F := F)) = Cert.KernelIdeal.k0_part9 (F := F) := rfl
theorem k0_part10 : (Cert.Kernel.k0_part10 (F := F)) = Cert.KernelIdeal.k0_part10 (F := F) := rfl
theorem k0_part11 : (Cert.Kernel.k0_part11 (F := F)) = Cert.KernelIdeal.k0_part11 (F := F) := rfl
theorem k0_part12 : (Cert.Kernel.k0_part12 (F := F)) = Cert.KernelIdeal.k0_part12 (F := F) := rfl
theorem k0_part13 : (Cert.Kernel.k0_part13 (F := F)) = Cert.KernelIdeal.k0_part13 (F := F) := rfl
theorem k0_part14 : (Cert.Kernel.k0_part14 (F := F)) = Cert.KernelIdeal.k0_part14 (F := F) := rfl
theorem k0_part15 : (Cert.Kernel.k0_part15 (F := F)) = Cert.KernelIdeal.k0_part15 (F := F) := rfl
theorem k0_part16 : (Cert.Kernel.k0_part16 (F := F)) = Cert.KernelIdeal.k0_part16 (F := F) := rfl
theorem k0_part17 : (Cert.Kernel.k0_part17 (F := F)) = Cert.KernelIdeal.k0_part17 (F := F) := rfl
theorem k1_part1 : (Cert.Kernel.k1_part1 (F := F)) = Cert.KernelIdeal.k1_part1 (F := F) := rfl
theorem k1_part2 : (Cert.Kernel.k1_part2 (F := F)) = Cert.KernelIdeal.k1_part2 (F := F) := rfl
theorem k1_part3 : (Cert.Kernel.k1_part3 (F := F)) = Cert.KernelIdeal.k1_part3 (F := F) := rfl
/-- the TensorCore kernel out of its parts; -/
theorem cc0 : (Cert.Kernel.cc0__ransac_tc_kernel (F := F)) = Cert.KernelIdeal.cc0__ransac_tc_kernel (F := F) := by
  unfold Cert.Kernel.cc0__ransac_tc_kernel Cert.KernelIdeal.cc0__ransac_tc_kernel
  simp only [k0_part1, k0_part2, k0_part3, k0_part4, k0_part5, k0_part6, k0_part7, k0_part8, k0_part9, k0_part10, k0_part11, k0_part12, k0_part13, k0_part14, k0_part15, k0_part16, k0_part17]
  try rfl
/-- the SparseCore kernel out of its parts. -/
theorem cc1 : (Cert.Kernel.cc1_sc_gather (F := F)) = Cert.KernelIdeal.cc1_sc_gather (F := F) := by
  unfold Cert.Kernel.cc1_sc_gather Cert.KernelIdeal.cc1_sc_gather
  simp only [k1_part1, k1_part2, k1_part3]
  try rfl
/-- The label bodies; -/
theorem labels : (Cert.Kernel.defs₀ (F := F)) = Cert.KernelIdeal.defs₀ (F := F) := by
  unfold Cert.Kernel.defs₀ Cert.KernelIdeal.defs₀
  rw [cc0, cc1]
  generalize Cert.KernelIdeal.cc0__ransac_tc_kernel (F := F) = f
  generalize Cert.KernelIdeal.cc1_sc_gather (F := F) = g
  funext p l x
  match p, l, x with
  | .tc, 0, (t, s) => rfl
  | .tc, 1, _ => rfl
  | .scScalar _, 0, _ => rfl
  | .scScalar _, 1, _ => rfl
  | .scVector _ _, 0, _ => rfl
  | .scVector _ _, 1, _ => rfl

theorem defs : Cert.Kernel.defs (F := F) = Cert.KernelIdeal.defs (F := F) := by
  unfold Cert.Kernel.defs Cert.KernelIdeal.defs
  rw [labels]
  generalize Cert.KernelIdeal.defs₀ (F := F) = f
  rfl

theorem threads : Cert.Kernel.threads (F := F) = Cert.KernelIdeal.threads (F := F) := by
  unfold Cert.Kernel.threads Cert.KernelIdeal.threads
  rfl

variable (m : (ℓ : Loc Cert.Kernel.nD Cert.Kernel.τ Cert.Kernel.sig) → Buf (Elt F) ℓ) (ρ : Dev Cert.Kernel.nD → PrngReg)

open Idealize.SL.Sem Cert.Kernel in
/-- The program as printed runs, leaves its arguments as they were and every semaphore at zero. -/
theorem run_frame [∀ e, Nonempty (Elt F e)] :
    θ_run (Cert.Kernel.defs (F := F)) (Cert.Kernel.threads (F := F)) ⟨m, fun _ => 0, ρ⟩
      (fun r => (∀ c : Dev nD, r.2.mem ((SparseCore.T c).loc main_arg0) = m ((SparseCore.T c).loc main_arg0) ∧ r.2.mem ((SparseCore.T c).loc main_arg1) = m ((SparseCore.T c).loc main_arg1)
        ∧ r.2.mem ((SparseCore.T c).loc main_arg2) = m ((SparseCore.T c).loc main_arg2) ∧ r.2.mem ((SparseCore.T c).loc main_arg3) = m ((SparseCore.T c).loc main_arg3)
        ∧ r.2.mem ((SparseCore.T c).loc main_arg4) = m ((SparseCore.T c).loc main_arg4)) ∧ r.2.sem = fun _ => 0) := by
  rw [defs, threads]
  exact Cert.Proof.Main.run_frame m ρ

end
end Cert.Proof.Same
-- ==== Proof.Spec.lean ====
/-
  What the program computes, in one formula: an entry of a result is the entry of the argument at the position's number,
  or the filler where the number names no point. Words clipped to a range, and the two batched gathers read at an index.
-/
module

public import Idealize.ShloMosaic.Lib.ValueIdxCore
public import Idealize.ShloMosaic.Lib.Pipeline.Value
public import Idealize.ShloMosaic.PureOps.Ideal.Laws

@[expose] public section

set_option Elab.async false

noncomputable section

namespace Cert.Proof.Spec

open Idealize.ShloMosaic
open Idealize.ShloMosaic.ValueIdx (ix1 ix2 ix3)

/-- The entry of `X` at the number `w`, a negative number counting as zero; the filler where `w` is 512 or more. -/
def entry {α : Type} (X : Fin 512 → α) (fill : α) (w : BitVec 32) : α :=
  if w.slt 512#32 then X ⟨min w.toInt.toNat 511, by omega⟩ else fill

/-! ## Clipped words -/

theorem toInt_cases (w : BitVec 32) : (w.toNat < 2 ^ 31 ∧ w.toInt = w.toNat) ∨ (2 ^ 31 ≤ w.toNat ∧ w.toInt = w.toNat - 2 ^ 32) := by
  have := w.isLt
  rw [BitVec.toInt_eq_toNat_cond]
  split <;> omega

theorem slt_512 (w : BitVec 32) : w.slt 512#32 = decide (w.toInt < 512) := by
  rw [BitVec.slt_eq_decide]; rfl

theorem slt_zero (w : BitVec 32) : w.slt 0#32 = decide (w.toInt < 0) := by
  rw [BitVec.slt_eq_decide]; rfl

/-- A word clipped to `[0, c]`, as an integer. -/
theorem clip_toInt (c : ℕ) (hc : c < 2 ^ 31) (w : BitVec 32) :
    (IntOp.minsi (BitVec.ofNat 32 c) (IntOp.maxsi 0#32 w)).toInt = min (c : ℤ) (max 0 w.toInt) := by
  have hcn : (BitVec.ofNat 32 c).toInt = c := by
    rw [BitVec.toInt_eq_toNat_cond, BitVec.toNat_ofNat, Nat.mod_eq_of_lt (by omega)]; split <;> omega
  have h0 : (0#32 : BitVec 32).toInt = 0 := rfl
  unfold IntOp.minsi IntOp.maxsi
  simp only [BitVec.slt_eq_decide, decide_eq_true_eq, h0, hcn]
  by_cases h : w.toInt < 0
  · rw [if_pos h, h0, if_neg (by omega), h0]; omega
  · rw [if_neg h]
    by_cases h' : (c : ℤ) < w.toInt
    · rw [if_pos h', hcn]; omega
    · rw [if_neg h']; omega

/-- A word clipped to `[0, c]`, as a number. -/
theorem clip_toNat (c : ℕ) (hc : c < 2 ^ 31) (w : BitVec 32) :
    ((IntOp.minsi (BitVec.ofNat 32 c) (IntOp.maxsi 0#32 w)).toNat : ℤ) = min (c : ℤ) (max 0 w.toInt) := by
  have h := clip_toInt c hc w
  rcases toInt_cases (IntOp.minsi (BitVec.ofNat 32 c) (IntOp.maxsi 0#32 w)) with ⟨-, h'⟩ | ⟨h1, h'⟩
  · omega
  · have := (IntOp.minsi (BitVec.ofNat 32 c) (IntOp.maxsi 0#32 w)).isLt
    omega

/-- A row of 512 words continued by the filler, read at a number clipped to `[0, 512]`. -/
theorem padded_entry {α : Type} (X : Fin 512 → α) (fill : α) (w : BitVec 32) :
    (if h : (IntOp.minsi 512#32 (IntOp.maxsi 0#32 w)).toNat < 512 then X ⟨_, h⟩ else fill) = entry X fill w := by
  have hc := clip_toNat 512 (by omega) w
  unfold entry
  rw [slt_512]
  by_cases hw : w.toInt < 512
  · rw [dif_pos (by omega), if_pos (by simpa using hw)]
    congr 1
    apply Fin.ext
    show (IntOp.minsi 512#32 (IntOp.maxsi 0#32 w)).toNat = min w.toInt.toNat 511
    omega
  · rw [dif_neg (by omega), if_neg (by simpa using hw)]

/-- A choice between a row read at a number clipped to `[0, 511]` and the filler. -/
theorem chosen_entry {α : Type} (X : Fin 512 → α) (fill : α) (w v : BitVec 32)
    (hv : v = Scalar.select (IntOp.cmpi .slt (IntOp.minsi 511#32 (IntOp.maxsi 0#32 w)) 0#32)
      (IntOp.addi (IntOp.minsi 511#32 (IntOp.maxsi 0#32 w)) 512#32) (IntOp.minsi 511#32 (IntOp.maxsi 0#32 w)))
    (hlt : min v.toInt.toNat (512 - 1) < 512) :
    Scalar.select (IntOp.cmpi .slt w 512#32) (X ⟨min v.toInt.toNat (512 - 1), hlt⟩) fill = entry X fill w := by
  have hc := clip_toInt 511 (by omega) w
  have e : v = IntOp.minsi 511#32 (IntOp.maxsi 0#32 w) := by
    rw [hv]
    have : IntOp.cmpi .slt (IntOp.minsi 511#32 (IntOp.maxsi 0#32 w)) 0#32 = 0#1 := by
      show BitVec.ofBool (BitVec.slt _ _) = _
      rw [slt_zero, decide_eq_false (by omega)]; rfl
    rw [this]; rfl
  unfold entry
  show Scalar.select (BitVec.ofBool (w.slt 512#32)) _ _ = _
  rw [slt_512]
  by_cases hw : w.toInt < 512
  · rw [decide_eq_true hw, if_pos rfl]
    show X _ = X _
    congr 1
    apply Fin.ext
    show min v.toInt.toNat (512 - 1) = min w.toInt.toNat 511
    rw [e]; omega
  · rw [decide_eq_false hw, if_neg (by decide)]; rfl

/-! ## The batched gathers at an index -/

/-- Rows of a rank-3 array gathered by one number per batch and position: entry `(b, k, c)` is the array's at the
    number at `(b, k)`. -/
theorem gather_rows3 {α : Type} {B N C : Nat} (hN : 0 < N)
    (wf : GatherDims.WF ⟨3, ![B, N, C]⟩ ⟨3, ![B, N, 1]⟩ ⟨3, ![B, N, C]⟩ [2] [1] [0] [1] [0] 2 ![1, 1, C])
    (x : (⟨3, ![B, N, C]⟩ : Shape).Idx → α) (idx : IVec ⟨3, ![B, N, 1]⟩ 32) (b : Fin B) (k : Fin N) (c : Fin C) :
    Host.gather (⟨[2], [1], [0], [0], [1], 2, ![1, 1, C], wf⟩ : GatherDims ⟨3, ![B, N, C]⟩ ⟨3, ![B, N, 1]⟩ ⟨3, ![B, N, C]⟩) x idx (ix3 b k c)
      = x (ix3 b ⟨min (idx (ix3 b k 0)).toInt.toNat (N - 1), by omega⟩ c) := by
  let D : GatherDims ⟨3, ![B, N, C]⟩ ⟨3, ![B, N, 1]⟩ ⟨3, ![B, N, C]⟩ := ⟨[2], [1], [0], [0], [1], 2, ![1, 1, C], wf⟩
  unfold Host.gather
  congr 1
  funext a
  refine Fin.ext ?_
  show D.start (ix3 b k c) idx a + D.batchCoord (ix3 b k c) a + D.offCoord (ix3 b k c) a = _
  match a with
  | ⟨0, hl⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    have hm : (⟨0, hl⟩ : Fin (Shape.rank _)) ∈ D.operandBatchingDims := List.mem_singleton.mpr rfl
    unfold GatherDims.batchCoord
    rw [dif_pos hm]
    rfl
  | ⟨1, hl⟩ =>
    rw [GatherDims.batchCoord_eq_zero _ _ _ (fun h => by simp [D] at h),
      GatherDims.offCoord_eq_zero _ _ _ (fun h => ((GatherDims.mem_sKept _ _).mp h).1 (List.mem_singleton.mpr rfl))]
    simp only [Nat.add_zero]
    have hm : (⟨1, hl⟩ : Fin (Shape.rank _)) ∈ D.startIndexMap := List.mem_singleton.mpr rfl
    unfold GatherDims.start
    rw [dif_pos hm]
    refine congrArg (fun i => min (idx i).toInt.toNat (N - 1)) ?_
    funext e; refine Fin.ext ?_
    match e with
    | ⟨0, _⟩ => rfl
    | ⟨1, _⟩ => rfl
    | ⟨2, _⟩ => rfl
  | ⟨2, hl⟩ =>
    rw [GatherDims.batchCoord_eq_zero _ _ _ (fun h => by simp [D] at h)]
    have hm : (⟨2, hl⟩ : Fin (Shape.rank _)) ∉ D.startIndexMap := fun h => by simp [D] at h
    unfold GatherDims.start
    rw [dif_neg hm]
    simp only [Nat.zero_add, Nat.add_zero]
    rfl

/-- Entries of a rank-2 array gathered by one number per batch and position. -/
theorem gather_rows2 {α : Type} {B N : Nat} (hN : 0 < N)
    (wf : GatherDims.WF ⟨2, ![B, N]⟩ ⟨3, ![B, N, 1]⟩ ⟨2, ![B, N]⟩ [] [1] [0] [1] [0] 2 ![1, 1])
    (x : (⟨2, ![B, N]⟩ : Shape).Idx → α) (idx : IVec ⟨3, ![B, N, 1]⟩ 32) (b : Fin B) (k : Fin N) :
    Host.gather (⟨[], [1], [0], [0], [1], 2, ![1, 1], wf⟩ : GatherDims ⟨2, ![B, N]⟩ ⟨3, ![B, N, 1]⟩ ⟨2, ![B, N]⟩) x idx (ix2 b k)
      = x (ix2 b ⟨min (idx (ix3 b k 0)).toInt.toNat (N - 1), by omega⟩) := by
  let D : GatherDims ⟨2, ![B, N]⟩ ⟨3, ![B, N, 1]⟩ ⟨2, ![B, N]⟩ := ⟨[], [1], [0], [0], [1], 2, ![1, 1], wf⟩
  unfold Host.gather
  congr 1
  funext a
  refine Fin.ext ?_
  show D.start (ix2 b k) idx a + D.batchCoord (ix2 b k) a + D.offCoord (ix2 b k) a = _
  match a with
  | ⟨0, hl⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    have hm : (⟨0, hl⟩ : Fin (Shape.rank _)) ∈ D.operandBatchingDims := List.mem_singleton.mpr rfl
    unfold GatherDims.batchCoord
    rw [dif_pos hm]
    rfl
  | ⟨1, hl⟩ =>
    rw [GatherDims.batchCoord_eq_zero _ _ _ (fun h => by simp [D] at h),
      GatherDims.offCoord_eq_zero _ _ _ (fun h => ((GatherDims.mem_sKept _ _).mp h).1 (List.mem_singleton.mpr rfl))]
    simp only [Nat.add_zero]
    have hm : (⟨1, hl⟩ : Fin (Shape.rank _)) ∈ D.startIndexMap := List.mem_singleton.mpr rfl
    unfold GatherDims.start
    rw [dif_pos hm]
    refine congrArg (fun i => min (idx i).toInt.toNat (N - 1)) ?_
    funext e; refine Fin.ext ?_
    match e with
    | ⟨0, _⟩ => rfl
    | ⟨1, _⟩ => rfl
    | ⟨2, _⟩ => rfl

end Cert.Proof.Spec

end
-- ==== Proof.KernelValue.lean ====
/-
  The program's results, index by index: each is the entry of its argument at the position's number, or the row's filler.
-/
module

public import proofs.«01_k».proof.Proof.Main
public import proofs.«01_k».proof.Proof.Spec

@[expose] public section

set_option Elab.async false

noncomputable section

namespace Cert.Proof.KernelValue

open Cert.KernelIdeal Cert.KernelIdeal.Gen
open Idealize.ShloMosaic
open Idealize.ShloMosaic.TcCoe
open Idealize.ShloMosaic.ValueIdx (ix1 ix2 ix3)
open Cert.Proof.Main Cert.Proof.Spec
open Cert.Proof.Tile (outG gathered picked padded fillOf)

/-! ## The five rows of a batch, stacked -/

section stack
variable {α : Type} (X0 X1 : S16x512x2.Idx → α) (X2 : S16x512.Idx → α)

/-- The arguments' components as rows: two, two and one for each batch. -/
abbrev pieces : List ((s : Shape) × (s.Idx → α)) :=
  [⟨S16x2x512, transpose S16x2x512 [0, 2, 1] X0 transposes_S16x512x2_S16x2x512_0_2_1⟩,
    ⟨S16x2x512, transpose S16x2x512 [0, 2, 1] X1 transposes_S16x512x2_S16x2x512_0_2_1⟩,
    ⟨S16x1x512, shapeCast S16x1x512 X2 shapeCasts_S16x512_S16x1x512⟩]
def stacked : S16x5x512.Idx → α :=
  concatenate S16x5x512 1 (pieces X0 X1 X2) concatenates_S16x2x512_S16x2x512_S16x1x512_S16x5x512_d1

theorem swap (X : S16x512x2.Idx → α) (b : Fin 16) (c : Fin 2) (n : Fin 512) :
    transpose S16x2x512 [0, 2, 1] X transposes_S16x512x2_S16x2x512_0_2_1 (ix3 b c n) = X (ix3 b n c) :=
  transpose_apply _ _ _ _ _ (fun a => match a with | ⟨0, _⟩ => rfl | ⟨1, _⟩ => rfl | ⟨2, _⟩ => rfl)

theorem swap' (X : S16x2x512.Idx → α) (b : Fin 16) (n : Fin 512) (c : Fin 2) :
    transpose S16x512x2 [0, 2, 1] X transposes_S16x2x512_S16x512x2_0_2_1 (ix3 b n c) = X (ix3 b c n) :=
  transpose_apply _ _ _ _ _ (fun a => match a with | ⟨0, _⟩ => rfl | ⟨1, _⟩ => rfl | ⟨2, _⟩ => rfl)

theorem stacked_first (b : Fin 16) (c : Fin 2) (n : Fin 512) :
    stacked X0 X1 X2 (ix3 b ⟨0 + c.val, by omega⟩ n) = X0 (ix3 b n c) :=
  (concatenate_apply_piece (t := S16x5x512) 1 (pieces X0 X1 X2) concatenates_S16x2x512_S16x2x512_S16x1x512_S16x5x512_d1 _ 0 (show 0 < 3 by decide) S16x2x512 _ rfl rfl 0 rfl (ix3 b c n)
    (fun a => match a with | ⟨0, _⟩ => fun _ => rfl | ⟨1, _⟩ => fun h => absurd rfl h | ⟨2, _⟩ => fun _ => rfl) rfl).trans (swap X0 b c n)

theorem stacked_second (b : Fin 16) (c : Fin 2) (n : Fin 512) :
    stacked X0 X1 X2 (ix3 b ⟨2 + c.val, by omega⟩ n) = X1 (ix3 b n c) :=
  (concatenate_apply_piece (t := S16x5x512) 1 (pieces X0 X1 X2) concatenates_S16x2x512_S16x2x512_S16x1x512_S16x5x512_d1 _ 1 (show 1 < 3 by decide) S16x2x512 _ rfl rfl 2 rfl (ix3 b c n)
    (fun a => match a with | ⟨0, _⟩ => fun _ => rfl | ⟨1, _⟩ => fun h => absurd rfl h | ⟨2, _⟩ => fun _ => rfl) rfl).trans (swap X1 b c n)

theorem stacked_last (b : Fin 16) (n : Fin 512) :
    stacked X0 X1 X2 (ix3 b ⟨4, by omega⟩ n) = X2 (ix2 b n) :=
  (concatenate_apply_piece (t := S16x5x512) 1 (pieces X0 X1 X2) concatenates_S16x2x512_S16x2x512_S16x1x512_S16x5x512_d1 _ 2 (show 2 < 3 by decide) S16x1x512 _ rfl rfl 4 rfl (ix3 b 0 n)
    (fun a => match a with | ⟨0, _⟩ => fun _ => rfl | ⟨1, _⟩ => fun h => absurd rfl h | ⟨2, _⟩ => fun _ => rfl) rfl).trans
    (shapeCast_apply X2 _ (ix3 b 0 n) (ix2 b n) (by simp only [Shape.rowMajor_val_three, Shape.rowMajor_val_two]; show b.val * 512 + n.val = (b.val * 1 + 0) * 512 + n.val; omega))

/-- Row `c` of batch `b` among all the rows, -/
def row (b : Fin 16) (c : Fin 5) : Fin 80 := ⟨b.val * 5 + c.val, by omega⟩

theorem flat (X : S16x5x512.Idx → α) (b : Fin 16) (c : Fin 5) (n : Fin 512) :
    shapeCast S80x512 X shapeCasts_S16x5x512_S80x512 (ix2 (row b c) n) = X (ix3 b c n) :=
  shapeCast_apply _ _ _ _ (by simp only [Shape.rowMajor_val_three, Shape.rowMajor_val_two]; rfl)

theorem unflat (X : S80x512.Idx → α) (b : Fin 16) (c : Fin 5) (n : Fin 512) :
    shapeCast S16x5x512 X shapeCasts_S80x512_S16x5x512 (ix3 b c n) = X (ix2 (row b c) n) :=
  shapeCast_apply _ _ _ _ (by simp only [Shape.rowMajor_val_three, Shape.rowMajor_val_two]; rfl)

end stack

variable {F : FTy → Type} [FloatOps F]

/-! ## A gathered row -/

theorem fill_low : ∀ c : Fin 5, c.val < 4 → BitVec.ofNat 32 (c.val % 5) ≠ 4#32 := by decide

/-- The fillers of a row. -/
abbrev minusOne : F .f32 := FloatOps.addf (Scalar.ofBits .f32 0x00000000#32) (Scalar.ofBits .f32 0xBF800000#32)
abbrev zero : F .f32 := FloatOps.addf (Scalar.ofBits .f32 0x00000000#32) (Scalar.ofBits .f32 0x00000000#32)

theorem fill_first : ∀ c : Fin 5, c.val < 4 → (fillOf (BitVec.ofNat 32 c.val) : F .f32) = minusOne
  | ⟨0, _⟩, _ => rfl
  | ⟨1, _⟩, _ => rfl
  | ⟨2, _⟩, _ => rfl
  | ⟨3, _⟩, _ => rfl
  | ⟨4, _⟩, h => absurd h (Nat.lt_irrefl 4)

theorem fill_last : (fillOf (BitVec.ofNat 32 4) : F .f32) = zero := rfl

/-- Row `c` of batch `b`, gathered at clipped numbers: the entry of that row, or its filler. -/
theorem gathered_entry (A : S16x5x512.Idx → F .f32) (w : S16x512.Idx → BitVec 32) (b : Fin 16) (c : Fin 5) (k : Fin 512) :
    gathered (shapeCast S80x512 A shapeCasts_S16x5x512_S80x512) (fun y => IntOp.minsi 512#32 (IntOp.maxsi 0#32 (w y))) (ix2 (row b c) k)
      = entry (fun n => A (ix3 b c n)) (fillOf (BitVec.ofNat 32 c.val)) (w (ix2 b k)) := by
  have hr : (row b c).val % 5 = c.val := by show (b.val * 5 + c.val) % 5 = _; omega
  have hq : (⟨(row b c).val / 5, by have := (row b c).isLt; omega⟩ : Fin 16) = b := by
    apply Fin.ext; show (b.val * 5 + c.val) / 5 = _; omega
  refine Eq.trans ?_ (padded_entry _ _ _)
  show padded (fillOf (BitVec.ofNat 32 ((row b c).val % 5))) _ (row b c)
    (IntOp.minsi 512#32 (IntOp.maxsi 0#32 (w (ix2 (⟨(row b c).val / 5, _⟩ : Fin 16) k)))).toNat = _
  rw [hr, hq]
  unfold padded
  split
  · exact flat A b c _
  · rfl

/-! ## The results -/

variable (m : (ℓ : Loc nD τ sig) → Buf (Elt F) ℓ)

/-- The TensorCore kernel and what precedes it leave the arguments. -/
theorem V2_keep (d : Dev nD) {r : Ref sig .tc} (h : r ∉ W1) (hw : ∀ w, Pipeline.arrRef spec0 w = r → (cfg0.win w).isOut = false) :
    V2 m d (Proc.devRef .tc r) = m (d, Proc.devRef .tc r) :=
  (Pipeline.afterRegion_keeps (Tc.dat₀ (V1 m) d) (V1 m d) launch0.win.arr_inj (fun _ => rfl) r hw).trans (V1_off m d h)
theorem V2_arg0 (d : Dev nD) : V2 m d (Proc.devRef .tc main_arg0) = m (d, Proc.devRef .tc main_arg0) := V2_keep m d (by decide) (by decide +kernel)
theorem V2_arg1 (d : Dev nD) : V2 m d (Proc.devRef .tc main_arg1) = m (d, Proc.devRef .tc main_arg1) := V2_keep m d (by decide) (by decide +kernel)
theorem V2_arg2 (d : Dev nD) : V2 m d (Proc.devRef .tc main_arg2) = m (d, Proc.devRef .tc main_arg2) := V2_keep m d (by decide) (by decide +kernel)

theorem values (W : Valuation τ sig (Elt F)) :
    StableHlo.after ops2 W r15
      = (shapeCast S80x512 (stacked (W (Proc.devRef .tc main_arg0) : S16x512x2.Idx → F .f32) (W (Proc.devRef .tc main_arg1) : S16x512x2.Idx → F .f32)
          (W (Proc.devRef .tc main_arg2) : S16x512.Idx → F .f32)) shapeCasts_S16x5x512_S80x512 : S80x512.Idx → F .f32) := by
  unfold ops2
  after_results
  rfl

theorem number (N : S16x1x512.Idx → BitVec 32) (b : Fin 16) (k : Fin 512) :
    shapeCast S16x512 N shapeCasts_S16x1x512_S16x512 (ix2 b k) = N (ix3 b 0 k) :=
  shapeCast_apply _ _ _ _ (by simp only [Shape.rowMajor_val_three, Shape.rowMajor_val_two]; show (b.val * 1 + 0) * 512 + k.val = b.val * 512 + k.val; omega)

/-- What the kernel leaves, batch by batch and row by row. -/
theorem kernel_entry (d : Dev nD) (b : Fin 16) (c : Fin 5) (k : Fin 512) :
    shapeCast S16x5x512 (V4 m d r18 : S80x512.Idx → F .f32) shapeCasts_S80x512_S16x5x512 (ix3 b c k)
      = entry (fun n => stacked (m (d, Proc.devRef .tc main_arg0) : S16x512x2.Idx → F .f32) (m (d, Proc.devRef .tc main_arg1) : S16x512x2.Idx → F .f32)
          (m (d, Proc.devRef .tc main_arg2) : S16x512.Idx → F .f32) (ix3 b c n))
        (fillOf (BitVec.ofNat 32 c.val)) ((V2 m d (Proc.devRef .tc main_v10_2) : S16x1x512.Idx → BitVec 32) (ix3 b 0 k)) := by
  rw [unflat]
  have e : V4 m d r18 = outG (f2 m) (f3 m) d := Function.update_self _ _ _
  have e2 := values (V2 m d)
  have e3 := after2_17 (V2 m d)
  rw [e]
  show gathered (V3 m d r15) (V3 m d r17) _ = _
  unfold V3
  rw [e2, e3, V2_arg0, V2_arg1, V2_arg2]
  refine (gathered_entry _ _ b c k).trans ?_
  rw [number]

theorem after_first (W : Valuation τ sig (Elt F)) :
    StableHlo.after ops3 W (Proc.devRef .tc main_v21)
      = (transpose S16x512x2 [0, 2, 1] (extractStridedSlice S16x2x512 ![0, 0, 0] (shapeCast S16x5x512 (W r18 : S80x512.Idx → F .f32) shapeCasts_S80x512_S16x5x512)
          slices_S16x5x512_S16x2x512_0_0_0) transposes_S16x2x512_S16x512x2_0_2_1 : S16x512x2.Idx → F .f32) := by
  unfold ops3
  after_results
  rfl

theorem after_second (W : Valuation τ sig (Elt F)) :
    StableHlo.after ops3 W (Proc.devRef .tc main_v23)
      = (transpose S16x512x2 [0, 2, 1] (extractStridedSlice S16x2x512 ![0, 2, 0] (shapeCast S16x5x512 (W r18 : S80x512.Idx → F .f32) shapeCasts_S80x512_S16x5x512)
          slices_S16x5x512_S16x2x512_0_2_0) transposes_S16x2x512_S16x512x2_0_2_1 : S16x512x2.Idx → F .f32) := by
  unfold ops3
  after_results
  rfl

theorem after_last (W : Valuation τ sig (Elt F)) :
    StableHlo.after ops3 W (Proc.devRef .tc main_v25)
      = (shapeCast S16x512 (extractStridedSlice S16x1x512 ![0, 4, 0] (shapeCast S16x5x512 (W r18 : S80x512.Idx → F .f32) shapeCasts_S80x512_S16x5x512)
          slices_S16x5x512_S16x1x512_0_4_0) shapeCasts_S16x1x512_S16x512 : S16x512.Idx → F .f32) := by
  unfold ops3
  after_results
  rfl

theorem first_entry (d : Dev nD) (b : Fin 16) (k : Fin 512) (c : Fin 2) :
    (V5 m d (Proc.devRef .tc main_v21) : S16x512x2.Idx → F .f32) (ix3 b k c)
      = entry (fun n => (m (d, Proc.devRef .tc main_arg0) : S16x512x2.Idx → F .f32) (ix3 b n c)) minusOne
          ((V2 m d (Proc.devRef .tc main_v10_2) : S16x1x512.Idx → BitVec 32) (ix3 b 0 k)) := by
  refine (congrFun (after_first (V4 m d)) _).trans ((swap' _ b k c).trans ?_)
  refine (extractStridedSlice_apply _ _ _ _ (ix3 b (⟨0 + c.val, by omega⟩ : Fin 5) k) (fun a => match a with
    | ⟨0, _⟩ => (Nat.zero_add _).symm | ⟨1, _⟩ => rfl | ⟨2, _⟩ => (Nat.zero_add _).symm)).trans ?_
  refine (kernel_entry m d b _ k).trans ?_
  rw [fill_first _ (by show 0 + c.val < 4; omega)]
  exact congrArg (fun X => entry X _ _) (funext fun n => stacked_first _ _ _ b c n)

theorem second_entry (d : Dev nD) (b : Fin 16) (k : Fin 512) (c : Fin 2) :
    (V5 m d (Proc.devRef .tc main_v23) : S16x512x2.Idx → F .f32) (ix3 b k c)
      = entry (fun n => (m (d, Proc.devRef .tc main_arg1) : S16x512x2.Idx → F .f32) (ix3 b n c)) minusOne
          ((V2 m d (Proc.devRef .tc main_v10_2) : S16x1x512.Idx → BitVec 32) (ix3 b 0 k)) := by
  refine (congrFun (after_second (V4 m d)) _).trans ((swap' _ b k c).trans ?_)
  refine (extractStridedSlice_apply _ _ _ _ (ix3 b (⟨2 + c.val, by omega⟩ : Fin 5) k) (fun a => match a with
    | ⟨0, _⟩ => (Nat.zero_add _).symm | ⟨1, _⟩ => rfl | ⟨2, _⟩ => (Nat.zero_add _).symm)).trans ?_
  refine (kernel_entry m d b _ k).trans ?_
  rw [fill_first _ (by show 2 + c.val < 4; omega)]
  exact congrArg (fun X => entry X _ _) (funext fun n => stacked_second _ _ _ b c n)

theorem last_entry (d : Dev nD) (b : Fin 16) (k : Fin 512) :
    (V5 m d (Proc.devRef .tc main_v25) : S16x512.Idx → F .f32) (ix2 b k)
      = entry (fun n => (m (d, Proc.devRef .tc main_arg2) : S16x512.Idx → F .f32) (ix2 b n)) zero
          ((V2 m d (Proc.devRef .tc main_v10_2) : S16x1x512.Idx → BitVec 32) (ix3 b 0 k)) := by
  refine (congrFun (after_last (V4 m d)) _).trans ?_
  refine (shapeCast_apply _ _ _ (ix3 b (0 : Fin 1) k) (by simp only [Shape.rowMajor_val_three, Shape.rowMajor_val_two]; show (b.val * 1 + 0) * 512 + k.val = b.val * 512 + k.val; omega)).trans ?_
  refine (extractStridedSlice_apply _ _ _ _ (ix3 b (⟨4, by omega⟩ : Fin 5) k) (fun a => match a with
    | ⟨0, _⟩ => (Nat.zero_add _).symm | ⟨1, _⟩ => rfl | ⟨2, _⟩ => (Nat.zero_add _).symm)).trans ?_
  refine (kernel_entry m d b _ k).trans ?_
  exact congrArg (fun X => entry X _ _) (funext fun n => stacked_last _ _ _ b n)

/-- The maps are those the TensorCore kernel left; -/
theorem maps_kept (d : Dev nD) : V5 m d (Proc.devRef .tc main_v10_0) = V2 m d (Proc.devRef .tc main_v10_0) :=
  (V5_off m d (by decide)).trans (V3_off m d (by decide))

/-- and the marks of failure whether what it left differs from zero. -/
theorem after_failed (W : Valuation τ sig (Elt F)) :
    StableHlo.after ops3 W (Proc.devRef .tc main_v28)
      = (cmpf .une (shapeCast S16 (W (Proc.devRef .tc main_v10_1) : S16x1x1.Idx → F .f32) shapeCasts_S16x1x1_S16 : FVec F S16 .f32)
          (broadcastInDim S16 ![] bcast_S_S16 (constant S_ .f32 0x00000000#32)) : S16.Idx → BitVec 1) := by
  unfold ops3
  after_results
  rfl

theorem failed_entry (d : Dev nD) (b : Fin 16) :
    (V5 m d (Proc.devRef .tc main_v28) : S16.Idx → BitVec 1) (ix1 b)
      = FloatOps.cmpf .une ((V2 m d (Proc.devRef .tc main_v10_1) : S16x1x1.Idx → F .f32) (ix3 b 0 0)) (Scalar.ofBits .f32 0x00000000#32) := by
  refine (congrFun (after_failed (V4 m d)) _).trans ?_
  refine congrArg (fun z => FloatOps.cmpf .une z (Scalar.ofBits .f32 0x00000000#32)) ?_
  refine (shapeCast_apply _ _ _ (ix3 b 0 0) (by simp only [Shape.rowMajor_val_three, Shape.rowMajor_val_one]; show (b.val * 1 + 0) * 1 + 0 = b.val; omega)).trans ?_
  have e : V4 m d (Proc.devRef .tc main_v10_1) = V2 m d (Proc.devRef .tc main_v10_1) :=
    (Function.update_of_ne (by decide) _ _).trans (V3_off m d (by decide))
  exact congrFun e _

end Cert.Proof.KernelValue

end
-- ==== Proof.BestSpec.lean ====
/-
  The best map of one batch in plain formulas over the extended reals: the candidates' entries, the squared errors, the
  scores, the highest score and the first candidate that has it. The number of that candidate is below 512: the highest of 512
  scores is one of them. A gather of one row, and the folds over a row written as an array of rank three.
-/
module

public import Idealize.ShloMosaic.Lib.ValueIdxCore
public import Idealize.ShloMosaic.Lib.Pipeline.Value
public import Idealize.ShloMosaic.PureOps.Ideal.Laws

@[expose] public section

noncomputable section

namespace Cert.Proof.BestSpec

open Idealize.ShloMosaic
open Idealize.ShloMosaic.ValueIdx (ix1 ix2 ix3)

/-- The constants: zero, one, the pixels of a cell, and the bound on the squared error. -/
def zero : Ideal .f32 := FloatOps.ofBits .f32 0x00000000#32
def one : Ideal .f32 := FloatOps.ofBits .f32 0x3F800000#32
def cell : Ideal .f32 := FloatOps.ofBits .f32 0x41600000#32
def bound : Ideal .f32 := FloatOps.ofBits .f32 0x41C80001#32
/-- Where the maximum starts. -/
def low : Ideal .f32 := FloatOps.ofBits .f32 0xFF800000#32

theorem zero_eq : zero = (0 : EReal) := Ideal.ofBits_zero_f32
theorem low_eq : low = (⊥ : EReal) := by
  show Ideal.ofBits .f32 0xFF800000#32 = _
  simp [Ideal.ofBits, Ideal.ieee]

/-- One batch: points, partners, scores, scales, turns. -/
structure Batch where
  s : Fin 512 → Fin 2 → Ideal .f32
  t : Fin 512 → Fin 2 → Ideal .f32
  w : Fin 512 → Ideal .f32
  k : Fin 512 → Ideal .f32
  r : Fin 512 → Fin 2 → Ideal .f32

namespace Batch

variable (B : Batch)

/-- A coordinate in pixels. -/
def sp (i : Fin 512) (c : Fin 2) : Ideal .f32 := FloatOps.mulf (B.s i c) cell
def tp (i : Fin 512) (c : Fin 2) : Ideal .f32 := FloatOps.mulf (B.t i c) cell

/-- The entries of candidate `i`'s map. -/
def a (i : Fin 512) : Ideal .f32 := FloatOps.mulf (B.k i) (B.r i 0)
def p (i : Fin 512) : Ideal .f32 := FloatOps.mulf (B.k i) (B.r i 1)
def n (i : Fin 512) : Ideal .f32 := FloatOps.subf zero (B.p i)
def u (i : Fin 512) : Ideal .f32 := FloatOps.subf (B.tp i 0) (FloatOps.addf (FloatOps.mulf (B.a i) (B.sp i 0)) (FloatOps.mulf (B.n i) (B.sp i 1)))
def v (i : Fin 512) : Ideal .f32 := FloatOps.subf (B.tp i 1) (FloatOps.addf (FloatOps.mulf (B.p i) (B.sp i 0)) (FloatOps.mulf (B.a i) (B.sp i 1)))

/-- The error of point `j` under candidate `i`, by coordinate, and its square. -/
def dx (i j : Fin 512) : Ideal .f32 :=
  FloatOps.subf (B.tp j 0) (FloatOps.addf (FloatOps.addf (FloatOps.mulf (B.a i) (B.sp j 0)) (FloatOps.mulf (B.n i) (B.sp j 1))) (B.u i))
def dy (i j : Fin 512) : Ideal .f32 :=
  FloatOps.subf (B.tp j 1) (FloatOps.addf (FloatOps.addf (FloatOps.mulf (B.p i) (B.sp j 0)) (FloatOps.mulf (B.a i) (B.sp j 1))) (B.v i))
def sq (i j : Fin 512) : Ideal .f32 := FloatOps.addf (FloatOps.mulf (B.dx i j) (B.dx i j)) (FloatOps.mulf (B.dy i j) (B.dy i j))

/-- What point `j` adds to candidate `i`'s score. -/
def gain (i j : Fin 512) : Ideal .f32 :=
  Scalar.select (IntOp.andi (FloatOps.cmpf .ole (B.sq i j) bound) (IntOp.cmpi .ne (BitVec.ofNat 32 i.val) (BitVec.ofNat 32 j.val))) (B.w j) zero

/-- A candidate's score. -/
def score (i : Fin 512) : Ideal .f32 := ∑ j : Fin 512, (B.gain i j : EReal)

end Batch

/-- Batch `b` of the arguments. -/
def batch (X0 X1 : (⟨3, ![16, 512, 2]⟩ : Shape).Idx → Ideal .f32) (X2 X3 : (⟨2, ![16, 512]⟩ : Shape).Idx → Ideal .f32)
    (X4 : (⟨3, ![16, 512, 2]⟩ : Shape).Idx → Ideal .f32) (b : Fin 16) : Batch :=
  ⟨fun i c => X0 (ix3 b i c), fun i c => X1 (ix3 b i c), fun i => X2 (ix2 b i), fun i => X3 (ix2 b i), fun i c => X4 (ix3 b i c)⟩

/-- The negation the reference writes is the difference from zero. -/
theorem neg_eq (x : Ideal .f32) : (-(x : EReal)) = (FloatOps.subf zero x : EReal) := by
  show -(x : EReal) = zero - x
  rw [zero_eq, zero_sub]

/-- The highest of 512 scores, and the number of the first that has it. -/
def top (s : Fin 512 → Ideal .f32) : Ideal .f32 := (Finset.univ : Finset (Fin 512)).fold FloatOps.maximumf low s
def best (s : Fin 512 → Ideal .f32) : BitVec 32 :=
  (Finset.univ : Finset (Fin 512)).fold IntOp.minsi 2147483647#32
    (fun i => Scalar.select (FloatOps.cmpf .oeq (s i) (top s)) (BitVec.ofNat 32 i.val) 512#32)

/-- One of the scores is the highest. -/
theorem top_attained (s : Fin 512 → Ideal .f32) : ∃ i, s i = top s := by
  have h : ∀ S : Finset (Fin 512), S.fold FloatOps.maximumf low s = low ∨ ∃ i ∈ S, s i = S.fold FloatOps.maximumf low s := by
    intro S
    induction S using Finset.induction with
    | empty => exact .inl rfl
    | insert a S ha ih =>
      rw [Finset.fold_insert ha]
      have hm : FloatOps.maximumf (s a) (S.fold FloatOps.maximumf low s) = s a
          ∨ FloatOps.maximumf (s a) (S.fold FloatOps.maximumf low s) = S.fold FloatOps.maximumf low s :=
        max_choice (α := EReal) _ _
      rcases hm with e | e
      · exact .inr ⟨a, Finset.mem_insert_self _ _, e.symm⟩
      · rw [e]
        rcases ih with h | ⟨i, hi, h⟩
        · exact .inl h
        · exact .inr ⟨i, Finset.mem_insert_of_mem hi, h⟩
  rcases h Finset.univ with h | ⟨i, -, h⟩
  · refine ⟨0, ?_⟩
    have hle : (s 0 : EReal) ≤ top s := by
      have e : top s = (Finset.univ : Finset (Fin 512)).fold (max : EReal → EReal → EReal) low s := rfl
      rw [e]
      exact Finset.le_fold_max _ |>.mpr (.inr ⟨0, Finset.mem_univ _, le_refl _⟩)
    have ht : top s = (⊥ : EReal) := h.trans low_eq
    rw [ht] at hle ⊢
    exact le_bot_iff.mp hle
  · exact ⟨i, h⟩

theorem minsi_toInt (x y : BitVec 32) : (IntOp.minsi x y).toInt = min x.toInt y.toInt := by
  unfold IntOp.minsi
  rw [BitVec.slt_eq_decide]
  by_cases h : x.toInt < y.toInt
  · simp [h, min_eq_left h.le]
  · simp [h, min_eq_right (not_lt.mp h)]

theorem ofNat_toInt (i : Fin 512) : (BitVec.ofNat 32 i.val).toInt = i.val := by
  have := i.isLt
  rw [BitVec.toInt_eq_toNat_cond, BitVec.toNat_ofNat, Nat.mod_eq_of_lt (by omega)]; split <;> omega

/-- The first candidate of the highest score is one of the 512. -/
theorem best_lt (s : Fin 512 → Ideal .f32) : ∃ i : Fin 512, best s = BitVec.ofNat 32 i.val := by
  let f : Fin 512 → BitVec 32 := fun i => Scalar.select (FloatOps.cmpf .oeq (s i) (top s)) (BitVec.ofNat 32 i.val) 512#32
  have hor : ∀ i, f i = BitVec.ofNat 32 i.val ∨ f i = 512#32 := by
    intro i
    show Scalar.select _ _ _ = _ ∨ Scalar.select _ _ _ = _
    unfold Scalar.select
    split
    · exact .inl rfl
    · exact .inr rfl
  have hmem : ∀ S : Finset (Fin 512), S.fold IntOp.minsi 2147483647#32 f = 2147483647#32 ∨ ∃ i ∈ S, f i = S.fold IntOp.minsi 2147483647#32 f := by
    intro S
    induction S using Finset.induction with
    | empty => exact .inl rfl
    | insert a S ha ih =>
      rw [Finset.fold_insert ha]
      have hm : IntOp.minsi (f a) (S.fold IntOp.minsi 2147483647#32 f) = f a
          ∨ IntOp.minsi (f a) (S.fold IntOp.minsi 2147483647#32 f) = S.fold IntOp.minsi 2147483647#32 f := by
        unfold IntOp.minsi; split
        · exact .inl rfl
        · exact .inr rfl
      rcases hm with e | e
      · exact .inr ⟨a, Finset.mem_insert_self _ _, e.symm⟩
      · rw [e]
        rcases ih with h | ⟨i, hi, h⟩
        · exact .inl h
        · exact .inr ⟨i, Finset.mem_insert_of_mem hi, h⟩
  have hle : ∀ S : Finset (Fin 512), ∀ i ∈ S, (S.fold IntOp.minsi 2147483647#32 f).toInt ≤ (f i).toInt := by
    intro S
    induction S using Finset.induction with
    | empty => intro i hi; exact absurd hi (Finset.notMem_empty _)
    | insert a S ha ih =>
      intro i hi
      rw [Finset.fold_insert ha, minsi_toInt]
      rcases Finset.mem_insert.mp hi with rfl | hi
      · exact min_le_left _ _
      · exact (min_le_right _ _).trans (ih i hi)
  obtain ⟨i₀, h₀⟩ := top_attained s
  have hf₀ : f i₀ = BitVec.ofNat 32 i₀.val := by
    show Scalar.select (Ideal.cmp .oeq (s i₀) (top s)) _ _ = _
    rw [h₀]
    have : Ideal.cmp .oeq (top s) (top s) = 1#1 := by
      show BitVec.ofBool (decide _) = _
      rw [decide_eq_true rfl]; rfl
    rw [this]; rfl
  have hb : (best s).toInt ≤ i₀.val := by
    have := hle Finset.univ i₀ (Finset.mem_univ _)
    rw [hf₀, ofNat_toInt] at this
    exact this
  have hi₀ := i₀.isLt
  rcases hmem Finset.univ with h | ⟨i, -, h⟩
  · exfalso
    have e : best s = 2147483647#32 := h
    rw [e] at hb
    have : (2147483647#32 : BitVec 32).toInt = 2147483647 := rfl
    omega
  · rcases hor i with e | e
    · exact ⟨i, h.symm.trans e⟩
    · exfalso
      have e' : best s = 512#32 := h.symm.trans e
      rw [e'] at hb
      have : (512#32 : BitVec 32).toInt = 512 := rfl
      omega

/-! ## A row of 512 as an array of rank three -/

/-- The numbers below 512 as the indices of a `1 × 1 × 512` array. -/
def place : Fin 512 ↪ (⟨3, ![1, 1, 512]⟩ : Shape).Idx where
  toFun k := ix3 0 0 k
  inj' k k' h := Fin.ext (congrArg (fun i : (⟨3, ![1, 1, 512]⟩ : Shape).Idx => (i 2).val) h)

theorem place_all : (Finset.univ : Finset (⟨3, ![1, 1, 512]⟩ : Shape).Idx) = Finset.univ.map place := by
  ext i
  simp only [Finset.mem_univ, Finset.mem_map, true_and, true_iff]
  refine ⟨i 2, ?_⟩
  funext a
  match a with
  | ⟨0, _⟩ => exact (Fin.fin_one_eq_zero (i 0)).symm
  | ⟨1, _⟩ => exact (Fin.fin_one_eq_zero (i 1)).symm
  | ⟨2, _⟩ => rfl

/-- A fold over all of a `1 × 1 × 512` array that reduces to one place is the fold over the row. -/
theorem fold_row {β : Type} (op : β → β → β) [Std.Commutative op] [Std.Associative op] (b : β)
    (h : (⟨3, ![1, 1, 512]⟩ : Shape).Reduces [1, 2] ⟨1, ![1]⟩) (f : (⟨3, ![1, 1, 512]⟩ : Shape).Idx → β) (j : (⟨1, ![1]⟩ : Shape).Idx) :
    (Finset.univ.filter fun i => h.drop i = j).fold op b f = (Finset.univ : Finset (Fin 512)).fold op b (fun k => f (ix3 0 0 k)) := by
  have hall : (Finset.univ.filter fun i => h.drop i = j) = Finset.univ :=
    Finset.filter_true_of_mem fun i _ => by
      funext a
      match a with
      | ⟨0, _⟩ => exact (Fin.fin_one_eq_zero (h.drop i 0)).trans (Fin.fin_one_eq_zero (j 0)).symm
  rw [hall, place_all, Finset.fold_map]
  rfl

/-- The sum over a `1 × 1 × 512` array is the sum over the row. -/
theorem sum_row (f : (⟨3, ![1, 1, 512]⟩ : Shape).Idx → EReal) : ∑ i, f i = ∑ k : Fin 512, f (ix3 0 0 k) := by
  rw [place_all, Finset.sum_map]
  rfl

/-- A row's entry at a number below 512, as the sum of the row there and zero elsewhere. -/
theorem sum_chosen (w : Fin 512 → Ideal .f32) (i : Fin 512) :
    (∑ k : Fin 512, (Scalar.select (IntOp.cmpi .eq (BitVec.ofNat 32 k.val) (BitVec.ofNat 32 i.val)) (w k) zero : EReal)) = w i := by
  have hne : ∀ k : Fin 512, k ≠ i → (Scalar.select (IntOp.cmpi .eq (BitVec.ofNat 32 k.val) (BitVec.ofNat 32 i.val)) (w k) zero : EReal) = 0 := by
    intro k hk
    have : IntOp.cmpi .eq (BitVec.ofNat 32 k.val) (BitVec.ofNat 32 i.val) = 0#1 := by
      show BitVec.ofBool (_ == _) = _
      rw [beq_eq_false_iff_ne.mpr]
      · rfl
      · intro h
        have := congrArg BitVec.toInt h
        rw [ofNat_toInt, ofNat_toInt] at this
        exact hk (Fin.ext (by exact_mod_cast this))
    rw [this]
    exact zero_eq
  rw [Finset.sum_eq_single i (fun k _ hk => hne k hk) (fun h => absurd (Finset.mem_univ _) h)]
  have : IntOp.cmpi .eq (BitVec.ofNat 32 i.val) (BitVec.ofNat 32 i.val) = 1#1 := by
    show BitVec.ofBool (_ == _) = _
    rw [beq_self_eq_true]; rfl
  rw [this]; rfl

/-! ## A sum of 512 in eight parts -/

/-- Place `r` of part `q`. -/
def slot (q : ℕ) (hq : q < 8) (r : Fin 64) : Fin 512 := ⟨64 * q + r.val, by omega⟩

theorem sum_parts (f : Fin 512 → EReal) :
    (((((((((0 : EReal) + ∑ r : Fin 64, f (slot 0 (by omega) r)) + ∑ r : Fin 64, f (slot 1 (by omega) r)) + ∑ r : Fin 64, f (slot 2 (by omega) r))
      + ∑ r : Fin 64, f (slot 3 (by omega) r)) + ∑ r : Fin 64, f (slot 4 (by omega) r)) + ∑ r : Fin 64, f (slot 5 (by omega) r))
      + ∑ r : Fin 64, f (slot 6 (by omega) r)) + ∑ r : Fin 64, f (slot 7 (by omega) r)) = ∑ j : Fin 512, f j := by
  have h : ∑ j : Fin 512, f j = ∑ q : Fin 8, ∑ r : Fin 64, f (slot q.val q.isLt r) := by
    rw [← Fintype.sum_prod_type']
    symm
    refine Fintype.sum_equiv (finProdFinEquiv (m := 8) (n := 64)) _ _ fun x => ?_
    congr 1
    apply Fin.ext
    show 64 * x.1.val + x.2.val = x.2.val + 64 * x.1.val
    omega
  rw [h, Fin.sum_univ_eight, zero_add]
  rfl

/-! ## One row gathered -/

/-- One row of a rank-3 array gathered per batch: entry `(b, 0, c)` is the array's at the number at `b`. -/
theorem gather_row {α : Type} {B N C : Nat} (hN : 0 < N)
    (wf : GatherDims.WF ⟨3, ![B, N, C]⟩ ⟨3, ![B, 1, 1]⟩ ⟨3, ![B, 1, C]⟩ [2] [1] [0] [1] [0] 2 ![1, 1, C])
    (x : (⟨3, ![B, N, C]⟩ : Shape).Idx → α) (idx : IVec ⟨3, ![B, 1, 1]⟩ 32) (b : Fin B) (c : Fin C) :
    Host.gather (⟨[2], [1], [0], [0], [1], 2, ![1, 1, C], wf⟩ : GatherDims ⟨3, ![B, N, C]⟩ ⟨3, ![B, 1, 1]⟩ ⟨3, ![B, 1, C]⟩) x idx (ix3 b 0 c)
      = x (ix3 b ⟨min (idx (ix3 b 0 0)).toInt.toNat (N - 1), by omega⟩ c) := by
  let D : GatherDims ⟨3, ![B, N, C]⟩ ⟨3, ![B, 1, 1]⟩ ⟨3, ![B, 1, C]⟩ := ⟨[2], [1], [0], [0], [1], 2, ![1, 1, C], wf⟩
  unfold Host.gather
  congr 1
  funext a
  refine Fin.ext ?_
  show D.start (ix3 b 0 c) idx a + D.batchCoord (ix3 b 0 c) a + D.offCoord (ix3 b 0 c) a = _
  match a with
  | ⟨0, hl⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    have hm : (⟨0, hl⟩ : Fin (Shape.rank _)) ∈ D.operandBatchingDims := List.mem_singleton.mpr rfl
    unfold GatherDims.batchCoord
    rw [dif_pos hm]
    rfl
  | ⟨1, hl⟩ =>
    rw [GatherDims.batchCoord_eq_zero _ _ _ (fun h => by simp [D] at h),
      GatherDims.offCoord_eq_zero _ _ _ (fun h => ((GatherDims.mem_sKept _ _).mp h).1 (List.mem_singleton.mpr rfl))]
    simp only [Nat.add_zero]
    have hm : (⟨1, hl⟩ : Fin (Shape.rank _)) ∈ D.startIndexMap := List.mem_singleton.mpr rfl
    unfold GatherDims.start
    rw [dif_pos hm]
    refine congrArg (fun i => min (idx i).toInt.toNat (N - 1)) ?_
    funext e; refine Fin.ext ?_
    match e with
    | ⟨0, _⟩ => rfl
    | ⟨1, _⟩ => rfl
    | ⟨2, _⟩ => rfl
  | ⟨2, hl⟩ =>
    rw [GatherDims.batchCoord_eq_zero _ _ _ (fun h => by simp [D] at h)]
    have hm : (⟨2, hl⟩ : Fin (Shape.rank _)) ∉ D.startIndexMap := fun h => by simp [D] at h
    unfold GatherDims.start
    rw [dif_neg hm]
    simp only [Nat.zero_add, Nat.add_zero]
    rfl

/-- The entries of the best candidate's map, row by row: `a`, `n`, `u`, `p`, `a`, `v`, zero, zero, one. -/
def entry (B : Batch) (i : Fin 512) : Fin 9 → Ideal .f32
  | ⟨0, _⟩ => B.a i
  | ⟨1, _⟩ => B.n i
  | ⟨2, _⟩ => B.u i
  | ⟨3, _⟩ => B.p i
  | ⟨4, _⟩ => B.a i
  | ⟨5, _⟩ => B.v i
  | ⟨6, _⟩ => zero
  | ⟨7, _⟩ => zero
  | ⟨8, _⟩ => one

/-- Whether no candidate scored. -/
def failed (s : Fin 512 → Ideal .f32) : Ideal .f32 := Scalar.select (FloatOps.cmpf .oeq (top s) zero) one zero

end Cert.Proof.BestSpec

end
-- ==== Proof.BestRef.lean ====
/-
  The reference of the best map, index by index: each step of its run as a plain array, and its entries in the formulas of one batch.
-/
module

public import proofs.«01_k».proof.Proof.Gen.BestReferenceIdeal.Run
public import proofs.«01_k».proof.Proof.BestSpec

@[expose] public section

set_option maxRecDepth 16384

noncomputable section

namespace Cert.Proof.BestRef

open Cert.BestReferenceIdeal Cert.BestReferenceIdeal.Gen
open Idealize.ShloMosaic Idealize.ShloMosaic.TcCoe Idealize.SL.Sem
open Idealize.ShloMosaic.ValueIdx (ix1 ix2 ix3)
open Cert.Proof.BestSpec

/-- A coordinate of every point, and points in pixels. -/
def fst (X : FVec Ideal S16x512x2 .f32) : FVec Ideal S16x512 .f32 :=
  shapeCast S16x512 (extractStridedSlice S16x512x1 ![0, 0, 0] X slices_S16x512x2_S16x512x1_0_0_0) shapeCasts_S16x512x1_S16x512
def snd (X : FVec Ideal S16x512x2 .f32) : FVec Ideal S16x512 .f32 :=
  shapeCast S16x512 (extractStridedSlice S16x512x1 ![0, 0, 1] X slices_S16x512x2_S16x512x1_0_0_1) shapeCasts_S16x512x1_S16x512
def px (X : FVec Ideal S16x512x2 .f32) : FVec Ideal S16x512x2 .f32 :=
  mulf X (broadcastInDim S16x512x2 ![] bcast_S_S16x512x2 (constant (F := Ideal) S_ .f32 0x41600000#32))

theorem fst_apply (X : FVec Ideal S16x512x2 .f32) (b : Fin 16) (i : Fin 512) : fst X (ix2 b i) = X (ix3 b i 0) :=
  (shapeCast_apply _ _ _ (ix3 b i 0) (by simp only [Shape.rowMajor_val_three, Shape.rowMajor_val_two]; show (b.val * 512 + i.val) * 1 + 0 = b.val * 512 + i.val; omega)).trans
    (extractStridedSlice_apply _ _ _ _ (ix3 b i 0) (fun a => match a with | ⟨0, _⟩ => (Nat.zero_add _).symm | ⟨1, _⟩ => (Nat.zero_add _).symm | ⟨2, _⟩ => rfl))
theorem snd_apply (X : FVec Ideal S16x512x2 .f32) (b : Fin 16) (i : Fin 512) : snd X (ix2 b i) = X (ix3 b i 1) :=
  (shapeCast_apply _ _ _ (ix3 b i 0) (by simp only [Shape.rowMajor_val_three, Shape.rowMajor_val_two]; show (b.val * 512 + i.val) * 1 + 0 = b.val * 512 + i.val; omega)).trans
    (extractStridedSlice_apply _ _ _ _ (ix3 b i 1) (fun a => match a with | ⟨0, _⟩ => (Nat.zero_add _).symm | ⟨1, _⟩ => (Nat.zero_add _).symm | ⟨2, _⟩ => rfl))

/-- One value per batch and candidate, or per batch and point, over all pairs. -/
def lift {α : Type} (x : S16x512.Idx → α) : S16x512x1.Idx → α := broadcastInDim S16x512x1 ![0, 1] bcast_S16x512_S16x512x1_0_1 x
def ofCand {α : Type} (x : S16x512.Idx → α) : S16x512x512.Idx → α :=
  broadcastInDim S16x512x512 ![0, 1, 2] bcast_S16x512x1_S16x512x512_0_1_2 (lift x)
def atPoint {α : Type} (x : S16x512.Idx → α) : S16x512x512.Idx → α :=
  broadcastInDim S16x512x512 ![0, 1, 2] bcast_S16x1x512_S16x512x512_0_1_2 (broadcastInDim S16x1x512 ![0, 2] bcast_S16x512_S16x1x512_0_2 x)

theorem lift_apply {α : Type} (x : S16x512.Idx → α) (b : Fin 16) (i : Fin 512) (c : Fin 1) : lift x (ix3 b i c) = x (ix2 b i) :=
  broadcastInDim_apply _ _ _ _ _ (fun a => match a with | ⟨0, _⟩ => rfl | ⟨1, _⟩ => rfl)
theorem ofCand_apply {α : Type} (x : S16x512.Idx → α) (b : Fin 16) (i j : Fin 512) : ofCand x (ix3 b i j) = x (ix2 b i) :=
  (broadcastInDim_apply _ _ _ _ (ix3 b i 0) (fun a => match a with | ⟨0, _⟩ => rfl | ⟨1, _⟩ => rfl | ⟨2, _⟩ => rfl)).trans (lift_apply x b i 0)
theorem atPoint_apply {α : Type} (x : S16x512.Idx → α) (b : Fin 16) (i j : Fin 512) : atPoint x (ix3 b i j) = x (ix2 b j) :=
  (broadcastInDim_apply _ _ _ _ (ix3 b 0 j) (fun a => match a with | ⟨0, _⟩ => rfl | ⟨1, _⟩ => rfl | ⟨2, _⟩ => rfl)).trans
    (broadcastInDim_apply _ _ _ _ (ix2 b j) (fun a => match a with | ⟨0, _⟩ => rfl | ⟨1, _⟩ => rfl))

section Arrays

variable (X0 X1 : FVec Ideal S16x512x2 .f32) (X2 X3 : FVec Ideal S16x512 .f32) (X4 : FVec Ideal S16x512x2 .f32)

/-- The maps' entries. -/
def ma : FVec Ideal S16x512 .f32 := mulf X3 (fst X4)
def mp : FVec Ideal S16x512 .f32 := mulf X3 (snd X4)
def mn : FVec Ideal S16x512 .f32 := Host.negf (mp X3 X4)
def mu : FVec Ideal S16x512 .f32 := subf (fst (px X1)) (addf (mulf (ma X3 X4) (fst (px X0))) (mulf (mn X3 X4) (snd (px X0))))
def mv : FVec Ideal S16x512 .f32 := subf (snd (px X1)) (addf (mulf (mp X3 X4) (fst (px X0))) (mulf (ma X3 X4) (snd (px X0))))

variable (b : Fin 16)

theorem fst_px (X : FVec Ideal S16x512x2 .f32) (i : Fin 512) : fst (px X) (ix2 b i) = FloatOps.mulf (X (ix3 b i 0)) cell := fst_apply (px X) b i
theorem snd_px (X : FVec Ideal S16x512x2 .f32) (i : Fin 512) : snd (px X) (ix2 b i) = FloatOps.mulf (X (ix3 b i 1)) cell := snd_apply (px X) b i

theorem ma_apply (i : Fin 512) : ma X3 X4 (ix2 b i) = (batch X0 X1 X2 X3 X4 b).a i := congrArg (FloatOps.mulf (X3 (ix2 b i))) (fst_apply X4 b i)
theorem mp_apply (i : Fin 512) : mp X3 X4 (ix2 b i) = (batch X0 X1 X2 X3 X4 b).p i := congrArg (FloatOps.mulf (X3 (ix2 b i))) (snd_apply X4 b i)
theorem mn_apply (i : Fin 512) : mn X3 X4 (ix2 b i) = (batch X0 X1 X2 X3 X4 b).n i :=
  (congrArg (fun z : Ideal .f32 => (-(z : EReal) : EReal)) (mp_apply X0 X1 X2 X3 X4 b i)).trans (neg_eq _)
theorem mu_apply (i : Fin 512) : mu X0 X1 X3 X4 (ix2 b i) = (batch X0 X1 X2 X3 X4 b).u i := by
  show FloatOps.subf (fst (px X1) (ix2 b i)) (FloatOps.addf (FloatOps.mulf (ma X3 X4 (ix2 b i)) (fst (px X0) (ix2 b i))) (FloatOps.mulf (mn X3 X4 (ix2 b i)) (snd (px X0) (ix2 b i)))) = _
  rw [fst_px, fst_px, snd_px, ma_apply X0 X1 X2, mn_apply X0 X1 X2]
  rfl
theorem mv_apply (i : Fin 512) : mv X0 X1 X3 X4 (ix2 b i) = (batch X0 X1 X2 X3 X4 b).v i := by
  show FloatOps.subf (snd (px X1) (ix2 b i)) (FloatOps.addf (FloatOps.mulf (mp X3 X4 (ix2 b i)) (fst (px X0) (ix2 b i))) (FloatOps.mulf (ma X3 X4 (ix2 b i)) (snd (px X0) (ix2 b i)))) = _
  rw [snd_px, fst_px, snd_px, ma_apply X0 X1 X2, mp_apply X0 X1 X2]
  rfl

/-- The errors and their squares. -/
def edx : FVec Ideal S16x512x512 .f32 :=
  subf (atPoint (fst (px X1))) (addf (addf (mulf (ofCand (ma X3 X4)) (atPoint (fst (px X0)))) (mulf (ofCand (mn X3 X4)) (atPoint (snd (px X0))))) (ofCand (mu X0 X1 X3 X4)))
def edy : FVec Ideal S16x512x512 .f32 :=
  subf (atPoint (snd (px X1))) (addf (addf (mulf (ofCand (mp X3 X4)) (atPoint (fst (px X0)))) (mulf (ofCand (ma X3 X4)) (atPoint (snd (px X0))))) (ofCand (mv X0 X1 X3 X4)))
def esq : FVec Ideal S16x512x512 .f32 :=
  addf (mulf (edx X0 X1 X3 X4) (edx X0 X1 X3 X4)) (mulf (edy X0 X1 X3 X4) (edy X0 X1 X3 X4))

theorem edx_apply (i j : Fin 512) : edx X0 X1 X3 X4 (ix3 b i j) = (batch X0 X1 X2 X3 X4 b).dx i j := by
  show FloatOps.subf (atPoint (fst (px X1)) (ix3 b i j)) (FloatOps.addf (FloatOps.addf (FloatOps.mulf (ofCand (ma X3 X4) (ix3 b i j)) (atPoint (fst (px X0)) (ix3 b i j)))
    (FloatOps.mulf (ofCand (mn X3 X4) (ix3 b i j)) (atPoint (snd (px X0)) (ix3 b i j)))) (ofCand (mu X0 X1 X3 X4) (ix3 b i j))) = _
  simp only [ofCand_apply, atPoint_apply, fst_px, snd_px, ma_apply X0 X1 X2, mn_apply X0 X1 X2, mu_apply X0 X1 X2]
  rfl
theorem edy_apply (i j : Fin 512) : edy X0 X1 X3 X4 (ix3 b i j) = (batch X0 X1 X2 X3 X4 b).dy i j := by
  show FloatOps.subf (atPoint (snd (px X1)) (ix3 b i j)) (FloatOps.addf (FloatOps.addf (FloatOps.mulf (ofCand (mp X3 X4) (ix3 b i j)) (atPoint (fst (px X0)) (ix3 b i j)))
    (FloatOps.mulf (ofCand (ma X3 X4) (ix3 b i j)) (atPoint (snd (px X0)) (ix3 b i j)))) (ofCand (mv X0 X1 X3 X4) (ix3 b i j))) = _
  simp only [ofCand_apply, atPoint_apply, fst_px, snd_px, ma_apply X0 X1 X2, mp_apply X0 X1 X2, mv_apply X0 X1 X2]
  rfl
theorem esq_apply (i j : Fin 512) : esq X0 X1 X3 X4 (ix3 b i j) = (batch X0 X1 X2 X3 X4 b).sq i j := by
  show FloatOps.addf (FloatOps.mulf (edx X0 X1 X3 X4 (ix3 b i j)) (edx X0 X1 X3 X4 (ix3 b i j))) (FloatOps.mulf (edy X0 X1 X3 X4 (ix3 b i j)) (edy X0 X1 X3 X4 (ix3 b i j))) = _
  rw [edx_apply X0 X1 X2, edy_apply X0 X1 X2]
  rfl

/-- Whether candidate and point differ. -/
def differ : S512x512.Idx → BitVec 1 :=
  cmpi .ne (broadcastInDim S512x512 ![0, 1] bcast_S512x1_S512x512_0_1 (broadcastInDim S512x1 ![0] bcast_S512_S512x1_0 (iotaInDim S512 32 0)))
    (broadcastInDim S512x512 ![0, 1] bcast_S1x512_S512x512_0_1 (broadcastInDim S1x512 ![1] bcast_S512_S1x512_1 (iotaInDim S512 32 0)))

theorem differ_apply (i j : Fin 512) : differ (ix2 i j) = IntOp.cmpi .ne (BitVec.ofNat 32 i.val) (BitVec.ofNat 32 j.val) := by
  have h1 : broadcastInDim S512x512 ![0, 1] bcast_S512x1_S512x512_0_1 (broadcastInDim S512x1 ![0] bcast_S512_S512x1_0 (iotaInDim S512 32 0)) (ix2 i j) = BitVec.ofNat 32 i.val :=
    (broadcastInDim_apply _ _ _ _ (ix2 i 0) (fun a => match a with | ⟨0, _⟩ => rfl | ⟨1, _⟩ => rfl)).trans
      (broadcastInDim_apply _ _ _ _ (ix1 i) (fun a => match a with | ⟨0, _⟩ => rfl))
  have h2 : broadcastInDim S512x512 ![0, 1] bcast_S1x512_S512x512_0_1 (broadcastInDim S1x512 ![1] bcast_S512_S1x512_1 (iotaInDim S512 32 0)) (ix2 i j) = BitVec.ofNat 32 j.val :=
    (broadcastInDim_apply _ _ _ _ (ix2 0 j) (fun a => match a with | ⟨0, _⟩ => rfl | ⟨1, _⟩ => rfl)).trans
      (broadcastInDim_apply _ _ _ _ (ix1 j) (fun a => match a with | ⟨0, _⟩ => rfl))
  show IntOp.cmpi .ne _ _ = _
  rw [h1, h2]

/-- What each point adds to each candidate's score, and the scores. -/
def gains : FVec Ideal S16x512x512 .f32 :=
  select (andi (cmpf .ole (esq X0 X1 X3 X4) (broadcastInDim S16x512x512 ![] bcast_S_S16x512x512 (constant (F := Ideal) S_ .f32 0x41C80001#32)))
      (broadcastInDim S16x512x512 ![0, 1, 2] bcast_S1x512x512_S16x512x512_0_1_2 (broadcastInDim S1x512x512 ![1, 2] bcast_S512x512_S1x512x512_1_2 differ)))
    (atPoint X2) (broadcastInDim S16x512x512 ![] bcast_S_S16x512x512 (id (constant (F := Ideal) S_ .f32 0x00000000#32)))
def scores : FVec Ideal S16x512 .f32 :=
  Host.reduceAdd (gains X0 X1 X2 X3 X4) (constant (F := Ideal) S_ .f32 0x00000000#32) reducesTo_S16x512x512_S16x512_d2 h_S_

theorem gains_apply (i j : Fin 512) : gains X0 X1 X2 X3 X4 (ix3 b i j) = (batch X0 X1 X2 X3 X4 b).gain i j := by
  have hd : broadcastInDim S16x512x512 ![0, 1, 2] bcast_S1x512x512_S16x512x512_0_1_2 (broadcastInDim S1x512x512 ![1, 2] bcast_S512x512_S1x512x512_1_2 differ) (ix3 b i j)
      = IntOp.cmpi .ne (BitVec.ofNat 32 i.val) (BitVec.ofNat 32 j.val) :=
    (broadcastInDim_apply _ _ _ _ (ix3 0 i j) (fun a => match a with | ⟨0, _⟩ => rfl | ⟨1, _⟩ => rfl | ⟨2, _⟩ => rfl)).trans
      ((broadcastInDim_apply _ _ _ _ (ix2 i j) (fun a => match a with | ⟨0, _⟩ => rfl | ⟨1, _⟩ => rfl)).trans (differ_apply i j))
  show Scalar.select (IntOp.andi (FloatOps.cmpf .ole (esq X0 X1 X3 X4 (ix3 b i j)) bound) (broadcastInDim S16x512x512 ![0, 1, 2] bcast_S1x512x512_S16x512x512_0_1_2 (broadcastInDim S1x512x512 ![1, 2] bcast_S512x512_S1x512x512_1_2 differ) (ix3 b i j)))
    (atPoint X2 (ix3 b i j)) zero = _
  rw [hd, esq_apply X0 X1 X2, atPoint_apply]
  rfl

theorem scores_apply (i : Fin 512) : scores X0 X1 X2 X3 X4 (ix2 b i) = (batch X0 X1 X2 X3 X4 b).score i := by
  have hr : S16x512x512.Reduces [2] S16x512 := by decide
  refine (Ideal.hostReduceAdd_single reducesTo_S16x512x512_S16x512_d2 hr (gains X0 X1 X2 X3 X4) zero (ix2 b i)).trans ?_
  rw [zero_eq, zero_add]
  refine Finset.sum_congr rfl fun k _ => ?_
  have hl : hr.lift (ix2 b i) k = ix3 b i k := by
    funext a
    match a with
    | ⟨0, _⟩ => rfl
    | ⟨1, _⟩ => rfl
    | ⟨2, _⟩ => rfl
  exact (congrArg (gains X0 X1 X2 X3 X4) hl).trans (gains_apply X0 X1 X2 X3 X4 b i k)

/-- The highest score of each batch, and the first candidate that has it. -/
def tops : FVec Ideal S16 .f32 :=
  Host.reduce FloatOps.maximumf (scores X0 X1 X2 X3 X4) (constant (F := Ideal) S_ .f32 0xFF800000#32) reducesTo_S16x512_S16_d1 h_S_
def tops1 : FVec Ideal S16x1 .f32 := broadcastInDim S16x1 ![0] bcast_S16_S16x1_0 (tops X0 X1 X2 X3 X4)
def bests : S16.Idx → BitVec 32 :=
  Host.reduce IntOp.minsi
    (select (cmpf .oeq (scores X0 X1 X2 X3 X4) (broadcastInDim S16x512 ![0, 1] bcast_S16x1_S16x512_0_1 (tops1 X0 X1 X2 X3 X4)))
      (broadcastInDim S16x512 ![0, 1] bcast_S1x512_S16x512_0_1 (broadcastInDim S1x512 ![1] bcast_S512_S1x512_1 (iotaInDim S512 32 0)))
      (broadcastInDim S16x512 ![] bcast_S_S16x512 (id (constantI S_ 32 512#32))))
    (constantI S_ 32 2147483647#32) reducesTo_S16x512_S16_d1 h_S_

theorem lift_row (h : S16x512.Reduces [1] S16) (k : Fin 512) : h.lift (ix1 b) k = ix2 b k := by
  funext a
  match a with
  | ⟨0, _⟩ => rfl
  | ⟨1, _⟩ => rfl

theorem tops_apply : tops X0 X1 X2 X3 X4 (ix1 b) = top (batch X0 X1 X2 X3 X4 b).score := by
  have hr : S16x512.Reduces [1] S16 := by decide
  refine (Host.reduce_eq_fold_single FloatOps.maximumf _ _ _ hr h_S_ (ix1 b)).trans ?_
  show (Finset.univ : Finset (Fin 512)).fold FloatOps.maximumf low _ = _
  unfold top
  congr 1
  funext k
  exact (congrArg (scores X0 X1 X2 X3 X4) (lift_row b hr k)).trans (scores_apply X0 X1 X2 X3 X4 b k)

theorem tops1_apply (c : Fin 1) : tops1 X0 X1 X2 X3 X4 (ix2 b c) = top (batch X0 X1 X2 X3 X4 b).score :=
  (broadcastInDim_apply _ _ _ _ (ix1 b) (fun a => match a with | ⟨0, _⟩ => rfl)).trans (tops_apply X0 X1 X2 X3 X4 b)

theorem bests_apply : bests X0 X1 X2 X3 X4 (ix1 b) = best (batch X0 X1 X2 X3 X4 b).score := by
  have hr : S16x512.Reduces [1] S16 := by decide
  refine (Host.reduce_eq_fold_single IntOp.minsi _ _ _ hr h_S_ (ix1 b)).trans ?_
  show (Finset.univ : Finset (Fin 512)).fold IntOp.minsi 2147483647#32 _ = _
  unfold best
  congr 1
  funext k
  have h1 : broadcastInDim S16x512 ![0, 1] bcast_S16x1_S16x512_0_1 (tops1 X0 X1 X2 X3 X4) (ix2 b k) = top (batch X0 X1 X2 X3 X4 b).score :=
    (broadcastInDim_apply _ _ _ _ (ix2 b 0) (fun a => match a with | ⟨0, _⟩ => rfl | ⟨1, _⟩ => rfl)).trans (tops1_apply X0 X1 X2 X3 X4 b 0)
  have h2 : broadcastInDim S16x512 ![0, 1] bcast_S1x512_S16x512_0_1 (broadcastInDim S1x512 ![1] bcast_S512_S1x512_1 (iotaInDim S512 32 0)) (ix2 b k) = BitVec.ofNat 32 k.val :=
    (broadcastInDim_apply _ _ _ _ (ix2 0 k) (fun a => match a with | ⟨0, _⟩ => rfl | ⟨1, _⟩ => rfl)).trans
      (broadcastInDim_apply _ _ _ _ (ix1 k) (fun a => match a with | ⟨0, _⟩ => rfl))
  show (select _ _ _ : S16x512.Idx → BitVec 32) (hr.lift (ix1 b) k) = _
  rw [lift_row b hr k]
  show Scalar.select (FloatOps.cmpf .oeq (scores X0 X1 X2 X3 X4 (ix2 b k)) (broadcastInDim S16x512 ![0, 1] bcast_S16x1_S16x512_0_1 (tops1 X0 X1 X2 X3 X4) (ix2 b k)))
    (broadcastInDim S16x512 ![0, 1] bcast_S1x512_S16x512_0_1 (broadcastInDim S1x512 ![1] bcast_S512_S1x512_1 (iotaInDim S512 32 0)) (ix2 b k)) 512#32 = _
  rw [h1, h2]
  exact congrArg (fun z => Scalar.select (FloatOps.cmpf .oeq z (top (batch X0 X1 X2 X3 X4 b).score)) (BitVec.ofNat 32 k.val) 512#32) (scores_apply X0 X1 X2 X3 X4 b k)

/-- The maps, nine entries each. -/
def rows : FVec Ideal S16x512x9 .f32 :=
  Cert.BestReferenceIdeal.Value.fn_main_v103 (F := Ideal) (lift (ma X3 X4)) (lift (mn X3 X4)) (lift (mu X0 X1 X3 X4)) (lift (mp X3 X4)) (lift (ma X3 X4)) (lift (mv X0 X1 X3 X4))
    (lift (broadcastInDim S16x512 ![] bcast_S_S16x512 (constant (F := Ideal) S_ .f32 0x00000000#32))) (lift (broadcastInDim S16x512 ![] bcast_S_S16x512 (constant (F := Ideal) S_ .f32 0x00000000#32)))
    (lift (broadcastInDim S16x512 ![] bcast_S_S16x512 (constant (F := Ideal) S_ .f32 0x3F800000#32)))

/-- Entry `q` of nine arrays side by side. -/
theorem side_by_side (y : Fin 9 → FVec Ideal S16x512 .f32) (i : Fin 512) (q : Fin 9) :
    Cert.BestReferenceIdeal.Value.fn_main_v103 (F := Ideal) (lift (y 0)) (lift (y 1)) (lift (y 2)) (lift (y 3)) (lift (y 4)) (lift (y 5)) (lift (y 6)) (lift (y 7)) (lift (y 8)) (ix3 b i q)
      = y q (ix2 b i) := by
  refine Eq.trans ?_ (lift_apply (y q) b i 0)
  refine concatenate_apply_piece (t := S16x512x9) 2
    [⟨S16x512x1, lift (y 0)⟩, ⟨S16x512x1, lift (y 1)⟩, ⟨S16x512x1, lift (y 2)⟩, ⟨S16x512x1, lift (y 3)⟩, ⟨S16x512x1, lift (y 4)⟩, ⟨S16x512x1, lift (y 5)⟩, ⟨S16x512x1, lift (y 6)⟩, ⟨S16x512x1, lift (y 7)⟩, ⟨S16x512x1, lift (y 8)⟩]
    concatenates_S16x512x1_S16x512x1_S16x512x1_S16x512x1_S16x512x1_S16x512x1_S16x512x1_S16x512x1_S16x512x1_S16x512x9_d2 (ix3 b i q)
    q.val q.isLt S16x512x1 (lift (y q)) ?_ rfl q.val ?_ (ix3 b i 0) ?_ ?_
  · fin_cases q <;> rfl
  · fin_cases q <;> rfl
  · intro a ha
    match a with
    | ⟨0, _⟩ => rfl
    | ⟨1, _⟩ => rfl
    | ⟨2, _⟩ => exact absurd rfl ha
  · rfl

theorem rows_apply (i : Fin 512) (q : Fin 9) : rows X0 X1 X3 X4 (ix3 b i q) = entry (batch X0 X1 X2 X3 X4 b) i q := by
  refine (side_by_side b ![ma X3 X4, mn X3 X4, mu X0 X1 X3 X4, mp X3 X4, ma X3 X4, mv X0 X1 X3 X4,
    broadcastInDim S16x512 ![] bcast_S_S16x512 (constant (F := Ideal) S_ .f32 0x00000000#32), broadcastInDim S16x512 ![] bcast_S_S16x512 (constant (F := Ideal) S_ .f32 0x00000000#32),
    broadcastInDim S16x512 ![] bcast_S_S16x512 (constant (F := Ideal) S_ .f32 0x3F800000#32)] i q).trans ?_
  match q with
  | ⟨0, _⟩ => exact ma_apply X0 X1 X2 X3 X4 b i
  | ⟨1, _⟩ => exact mn_apply X0 X1 X2 X3 X4 b i
  | ⟨2, _⟩ => exact mu_apply X0 X1 X2 X3 X4 b i
  | ⟨3, _⟩ => exact mp_apply X0 X1 X2 X3 X4 b i
  | ⟨4, _⟩ => exact ma_apply X0 X1 X2 X3 X4 b i
  | ⟨5, _⟩ => exact mv_apply X0 X1 X2 X3 X4 b i
  | ⟨6, _⟩ => rfl
  | ⟨7, _⟩ => rfl
  | ⟨8, _⟩ => rfl

/-- The row of the best candidate. -/
def numbers : S16x1x1.Idx → BitVec 32 := broadcastInDim S16x1x1 ![0] bcast_S16_S16x1x1_0 (bests X0 X1 X2 X3 X4)
def wrapped : S16x1x1.Idx → BitVec 32 :=
  select (cmpi .slt (numbers X0 X1 X2 X3 X4) (broadcastInDim S16x1x1 ![] bcast_S_S16x1x1 (constantI S_ 32 0#32)))
    (addi (numbers X0 X1 X2 X3 X4) (broadcastInDim S16x1x1 ![] bcast_S_S16x1x1 (constantI S_ 32 512#32))) (numbers X0 X1 X2 X3 X4)
def result : FVec Ideal S16x3x3 .f32 :=
  shapeCast S16x3x3 (Host.gather gather_S16x512x9_S16x1x1_S16x1x9_2_1_0_0_1_2_119 (rows X0 X1 X3 X4) (wrapped X0 X1 X2 X3 X4)) shapeCasts_S16x1x9_S16x3x3
def flags : FVec Ideal S16x1x1 .f32 :=
  broadcastInDim S16x1x1 ![0] bcast_S16_S16x1x1_0 (select (cmpf .oeq (shapeCast S16 (tops1 X0 X1 X2 X3 X4) shapeCasts_S16x1_S16) (broadcastInDim S16 ![] bcast_S_S16 (constant (F := Ideal) S_ .f32 0x00000000#32)))
    (broadcastInDim S16 ![] bcast_S_S16 (constant (F := Ideal) S_ .f32 0x3F800000#32)) (broadcastInDim S16 ![] bcast_S_S16 (constant (F := Ideal) S_ .f32 0x00000000#32)))

/-- The row that is looked up is the best candidate's. -/
theorem wrapped_index (i : Fin 512) (hi : best (batch X0 X1 X2 X3 X4 b).score = BitVec.ofNat 32 i.val) (h : min (wrapped X0 X1 X2 X3 X4 (ix3 b 0 0)).toInt.toNat (512 - 1) < 512) :
    (⟨min (wrapped X0 X1 X2 X3 X4 (ix3 b 0 0)).toInt.toNat (512 - 1), h⟩ : Fin 512) = i := by
  have hn : numbers X0 X1 X2 X3 X4 (ix3 b 0 0) = BitVec.ofNat 32 i.val :=
    (broadcastInDim_apply _ _ _ _ (ix1 b) (fun a => match a with | ⟨0, _⟩ => rfl)).trans ((bests_apply X0 X1 X2 X3 X4 b).trans hi)
  have hw : wrapped X0 X1 X2 X3 X4 (ix3 b 0 0) = BitVec.ofNat 32 i.val := by
    show Scalar.select (IntOp.cmpi .slt (numbers X0 X1 X2 X3 X4 (ix3 b 0 0)) 0#32) (IntOp.addi (numbers X0 X1 X2 X3 X4 (ix3 b 0 0)) 512#32) (numbers X0 X1 X2 X3 X4 (ix3 b 0 0)) = _
    rw [hn]
    have : IntOp.cmpi .slt (BitVec.ofNat 32 i.val) 0#32 = 0#1 := by
      show BitVec.ofBool (BitVec.slt _ _) = _
      have h0 : (0#32 : BitVec 32).toInt = 0 := rfl
      rw [BitVec.slt_eq_decide, decide_eq_false (by rw [ofNat_toInt, h0]; omega)]; rfl
    rw [this]; rfl
  apply Fin.ext
  show min (wrapped X0 X1 X2 X3 X4 (ix3 b 0 0)).toInt.toNat (512 - 1) = i.val
  rw [hw, ofNat_toInt]
  have := i.isLt
  omega

theorem result_apply (i : Fin 512) (hi : best (batch X0 X1 X2 X3 X4 b).score = BitVec.ofNat 32 i.val) (r c : Fin 3) :
    result X0 X1 X2 X3 X4 (ix3 b r c) = entry (batch X0 X1 X2 X3 X4 b) i ⟨3 * r.val + c.val, by omega⟩ := by
  have hg := gather_row (B := 16) (N := 512) (C := 9) (by omega) gather_S16x512x9_S16x1x1_S16x1x9_2_1_0_0_1_2_119.wf (rows X0 X1 X3 X4) (wrapped X0 X1 X2 X3 X4) b ⟨3 * r.val + c.val, by omega⟩
  refine (shapeCast_apply _ _ _ (ix3 b 0 ⟨3 * r.val + c.val, by omega⟩) (by
    simp only [Shape.rowMajor_val_three]; show (b.val * 1 + 0) * 9 + (3 * r.val + c.val) = (b.val * 3 + r.val) * 3 + c.val; omega)).trans ?_
  refine hg.trans ?_
  rw [wrapped_index X0 X1 X2 X3 X4 b i hi]
  exact rows_apply X0 X1 X2 X3 X4 b i _

theorem flags_apply (r c : Fin 1) : flags X0 X1 X2 X3 X4 (ix3 b r c) = failed (batch X0 X1 X2 X3 X4 b).score := by
  have h1 : shapeCast S16 (tops1 X0 X1 X2 X3 X4) shapeCasts_S16x1_S16 (ix1 b) = top (batch X0 X1 X2 X3 X4 b).score :=
    (shapeCast_apply _ _ _ (ix2 b 0) (by simp only [Shape.rowMajor_val_two, Shape.rowMajor_val_one]; show b.val * 1 + 0 = b.val; omega)).trans (tops1_apply X0 X1 X2 X3 X4 b 0)
  refine (broadcastInDim_apply _ _ _ _ (ix1 b) (fun a => match a with | ⟨0, _⟩ => rfl)).trans ?_
  show Scalar.select (FloatOps.cmpf .oeq (shapeCast S16 (tops1 X0 X1 X2 X3 X4) shapeCasts_S16x1_S16 (ix1 b)) zero) one zero = _
  rw [h1]
  rfl

end Arrays

variable (m : (ℓ : Loc nD τ sig) → Buf (Elt Ideal) ℓ) (c : Dev nD)

theorem run_result : Cert.BestReferenceIdeal.Value.res_out0 m c
    = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl
theorem run_flags : Cert.BestReferenceIdeal.Value.res_out1 m c
    = flags (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end Cert.Proof.BestRef

end
-- ==== Proof.BestBody.lean ====
/-
  What the TensorCore call's body leaves in its first two results at one grid point, as plain functions of that point's
  input blocks: the candidates' entries, the squared errors of sixty-four points at a time, the running scores, the
  best candidate, and the map written.
-/
module

public import proofs.«01_k».proof.Proof.Gen.BestIdeal.Frame
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem

namespace Cert.Proof.BestBody

open Cert.BestIdeal Cert.BestIdeal.Gen

variable {F : FTy → Type} [FloatOps F]

/-- A row of coordinates in pixels. -/
def rowPx (v : Vec F S1x1x512 .f32) : FVec F S1x512 .f32 :=
  mulf (shapeCast S1x512 v shapeCasts_S1x1x512_S1x512) (broadcast S1x512 (Scalar.ofBits .f32 0x41600000#32))

/-- Sixty-four coordinates in pixels, as a column. -/
def colPx (v : Vec F S1x64x1 .f32) : FVec F S64x1 .f32 :=
  mulf (shapeCast S64x1 v shapeCasts_S1x64x1_S64x1) (broadcast S64x1 (Scalar.ofBits .f32 0x41600000#32))

/-- The passage through the shorter floating type. -/
def viaRow (v : FVec F S1x512 .f32) : FVec F S1x512 .f32 := extf .f32 (truncf .bf16 v bitsLt_bf16_f32) bitsLt_bf16_f32
def viaCol (v : FVec F S64x1 .f32) : FVec F S64x1 .f32 := extf .f32 (truncf .bf16 v bitsLt_bf16_f32) bitsLt_bf16_f32

def row (v : FVec F S1x512 .f32) : FVec F S64x512 .f32 := broadcastTo S64x512 v broadcasts_S1x512_S64x512
def col (v : FVec F S64x1 .f32) : FVec F S64x512 .f32 := broadcastTo S64x512 v broadcasts_S64x1_S64x512

/-- The candidates' matrix entries and translations, a row each. -/
structure Maps (F : FTy → Type) [FloatOps F] where
  a : FVec F S1x512 .f32
  n : FVec F S1x512 .f32
  p : FVec F S1x512 .f32
  u : FVec F S1x512 .f32
  v : FVec F S1x512 .f32

/-- The candidates' maps out of the rows of points and the rows of scales, cosines and sines. -/
def maps (x0 x1 : Vec F S1x2x512 .f32) (x5 x6 x7 : Vec F S1x1x512 .f32) : Maps F :=
  let sx := rowPx (View.ld x0 (Rect.unit ![0, 0, 0] ![1, 1, 512] inb_S1x2x512_S1x1x512_0_0_0))
  let sy := rowPx (View.ld x0 (Rect.unit ![0, 1, 0] ![1, 1, 512] inb_S1x2x512_S1x1x512_0_1_0))
  let tx := rowPx (View.ld x1 (Rect.unit ![0, 0, 0] ![1, 1, 512] inb_S1x2x512_S1x1x512_0_0_0))
  let ty := rowPx (View.ld x1 (Rect.unit ![0, 1, 0] ![1, 1, 512] inb_S1x2x512_S1x1x512_0_1_0))
  let k := shapeCast S1x512 x5 shapeCasts_S1x1x512_S1x512
  let a := mulf k (shapeCast S1x512 x6 shapeCasts_S1x1x512_S1x512)
  let p := mulf k (shapeCast S1x512 x7 shapeCasts_S1x1x512_S1x512)
  let n := subf (broadcast S1x512 (Scalar.ofBits .f32 0x00000000#32)) p
  ⟨a, n, p, subf tx (addf (mulf a sx) (mulf n sy)), subf ty (addf (mulf p sx) (mulf a sy))⟩

/-- The squared errors of sixty-four points under every candidate. -/
def squares (M : Maps F) (sx sy tx ty : Vec F S1x64x1 .f32) : FVec F S64x512 .f32 :=
  let dx := subf (col (colPx tx)) (addf (addf (mulf (row (viaRow M.a)) (col (viaCol (colPx sx)))) (mulf (row (viaRow M.n)) (col (viaCol (colPx sy))))) (row M.u))
  let dy := subf (col (colPx ty)) (addf (addf (mulf (row (viaRow M.p)) (col (viaCol (colPx sx)))) (mulf (row (viaRow M.a)) (col (viaCol (colPx sy))))) (row M.v))
  addf (mulf dx dx) (mulf dy dy)

/-- Which of the points `o, …, o + 63` count for which candidate. -/
def counted (o : BitVec 32) (s2 : FVec F S64x512 .f32) : IVec S64x512 1 :=
  andi (cmpf .ole s2 (broadcast S64x512 (Scalar.ofBits .f32 0x41C80001#32)))
    (cmpi .ne (iota .tc S64x512 32 [1] iota_S64x512_d1_w32)
      (broadcastTo S64x512 (addi (broadcast S64x1 o) (iota .tc S64x1 32 [0] iota_S64x1_d0_w32)) broadcasts_S64x1_S64x512))

/-- The scores of those that count. -/
def gains (o : BitVec 32) (s2 : FVec F S64x512 .f32) (sc : Vec F S1x64x1 .f32) : FVec F S64x512 .f32 :=
  select (counted o s2) (col (shapeCast S64x1 (shapeCast S64x1 sc shapeCasts_S1x64x1_S64x1) shapeCasts_S64x1_S64x1))
    (broadcast S64x512 (Scalar.ofBits .f32 0x00000000#32))

/-- The running scores with sixty-four points more. -/
def more (acc : FVec F S1x512 .f32) (g : FVec F S64x512 .f32) : FVec F S1x512 .f32 :=
  addf acc (shapeCast S1x512 (multiReduction .add [0] S512 g 0x00000000#32 reduces_S64x512_S512 (.inl rfl) rfl) shapeCasts_S512_S1x512)

/-- Sixty-four points starting at `k`, taken from the blocks. -/
def part (M : Maps F) (x2 x3 : Vec F S1x512x2 .f32) (x4 : Vec F S1x512x1 .f32) (k : ℕ)
    (h0 : ∀ a, ![0, k, 0] a + ![1, 64, 1] a ≤ S1x512x2.size a) (h1 : ∀ a, ![0, k, 1] a + ![1, 64, 1] a ≤ S1x512x2.size a)
    (hs : ∀ a, ![0, k, 0] a + ![1, 64, 1] a ≤ S1x512x1.size a) : FVec F S64x512 .f32 :=
  gains (BitVec.ofNat 32 k)
    (squares M (View.ld x2 (Rect.unit (s := S1x512x2) ![0, k, 0] ![1, 64, 1] h0)) (View.ld x2 (Rect.unit (s := S1x512x2) ![0, k, 1] ![1, 64, 1] h1))
      (View.ld x3 (Rect.unit (s := S1x512x2) ![0, k, 0] ![1, 64, 1] h0)) (View.ld x3 (Rect.unit (s := S1x512x2) ![0, k, 1] ![1, 64, 1] h1)))
    (View.ld x4 (Rect.unit (s := S1x512x1) ![0, k, 0] ![1, 64, 1] hs))

/-- The scores of all the candidates. -/
def scores (M : Maps F) (x2 x3 : Vec F S1x512x2 .f32) (x4 : Vec F S1x512x1 .f32) : FVec F S1x512 .f32 :=
  more (more (more (more (more (more (more (more (broadcast S1x512 (Scalar.ofBits .f32 0x00000000#32))
    (part M x2 x3 x4 0 inb_S1x512x2_S1x64x1_0_0_0 inb_S1x512x2_S1x64x1_0_0_1 inb_S1x512x1_S1x64x1_0_0_0))
    (part M x2 x3 x4 64 inb_S1x512x2_S1x64x1_0_64_0 inb_S1x512x2_S1x64x1_0_64_1 inb_S1x512x1_S1x64x1_0_64_0))
    (part M x2 x3 x4 128 inb_S1x512x2_S1x64x1_0_128_0 inb_S1x512x2_S1x64x1_0_128_1 inb_S1x512x1_S1x64x1_0_128_0))
    (part M x2 x3 x4 192 inb_S1x512x2_S1x64x1_0_192_0 inb_S1x512x2_S1x64x1_0_192_1 inb_S1x512x1_S1x64x1_0_192_0))
    (part M x2 x3 x4 256 inb_S1x512x2_S1x64x1_0_256_0 inb_S1x512x2_S1x64x1_0_256_1 inb_S1x512x1_S1x64x1_0_256_0))
    (part M x2 x3 x4 320 inb_S1x512x2_S1x64x1_0_320_0 inb_S1x512x2_S1x64x1_0_320_1 inb_S1x512x1_S1x64x1_0_320_0))
    (part M x2 x3 x4 384 inb_S1x512x2_S1x64x1_0_384_0 inb_S1x512x2_S1x64x1_0_384_1 inb_S1x512x1_S1x64x1_0_384_0))
    (part M x2 x3 x4 448 inb_S1x512x2_S1x64x1_0_448_0 inb_S1x512x2_S1x64x1_0_448_1 inb_S1x512x1_S1x64x1_0_448_0)

/-- The highest score. -/
def top (s : FVec F S1x512 .f32) : F .f32 :=
  extractAt ![0, 0, 0] (shapeCast S1x1x1 (multiReduction .maximumf [1, 2] S1 (shapeCast S1x1x512 s shapeCasts_S1x512_S1x1x512) 0xFF800000#32 reduces_S1x1x512_S1 (.inl rfl) rfl) shapeCasts_S1_S1x1x1) inpos_S1x1x1_p0_0_0

/-- The first candidate of the highest score. -/
def best (s : FVec F S1x512 .f32) : BitVec 32 :=
  extractAt ![0, 0, 0] (shapeCast S1x1x1 (multiReductionI .minsi [1, 2] S1
    (shapeCast S1x1x512 (select (cmpf .oeq s (broadcast S1x512 (top s))) (iota .tc S1x512 32 [1] iota_S1x512_d1_w32) (broadcast S1x512 512#32)) shapeCasts_S1x512_S1x1x512)
    2147483647#32 reduces_S1x1x512_S1 rfl) shapeCasts_S1_S1x1x1) inpos_S1x1x1_p0_0_0

/-- The entry of `w` at the one place `b`, as the sum over the row of `w` there and zero elsewhere. -/
def pick (b : BitVec 32) (w : FVec F S1x512 .f32) : F .f32 :=
  extractAt ![0, 0, 0] (shapeCast S1x1x1 (multiReduction .add [1, 2] S1 (shapeCast S1x1x512
    (select (cmpi .eq (iota .tc S1x512 32 [1] iota_S1x512_d1_w32) (broadcast S1x512 b)) w (broadcast S1x512 (Scalar.ofBits .f32 0x00000000#32)))
    shapeCasts_S1x512_S1x1x512) 0x00000000#32 reduces_S1x1x512_S1 (.inl rfl) rfl) shapeCasts_S1_S1x1x1) inpos_S1x1x1_p0_0_0

/-- `m` with the entry of row `r` and column `c` made `w`. -/
def put (r c : BitVec 32) (w : F .f32) (m : FVec F S1x3x3 .f32) : FVec F S1x3x3 .f32 :=
  select (andi (cmpi .eq (iota .tc S1x3x3 32 [1] iota_S1x3x3_d1_w32) (broadcast S1x3x3 r)) (cmpi .eq (iota .tc S1x3x3 32 [2] iota_S1x3x3_d2_w32) (broadcast S1x3x3 c)))
    (broadcast S1x3x3 w) m

/-- The best candidate's map. -/
def bestMap (M : Maps F) (s : FVec F S1x512 .f32) : FVec F S1x3x3 .f32 :=
  put 2#32 2#32 (Scalar.ofBits .f32 0x3F800000#32) (put 1#32 2#32 (pick (best s) M.v) (put 1#32 1#32 (pick (best s) M.a) (put 1#32 0#32 (pick (best s) M.p)
    (put 0#32 2#32 (pick (best s) M.u) (put 0#32 1#32 (pick (best s) M.n) (put 0#32 0#32 (pick (best s) M.a) (broadcast S1x3x3 (Scalar.ofBits .f32 0x00000000#32))))))))

/-- Whether no candidate scored. -/
def noScore (s : FVec F S1x512 .f32) : FVec F S1x1x1 .f32 :=
  Scalar.select (Scalar.cmpf .oeq (top s) (Scalar.ofBits .f32 0x00000000#32)) (broadcast S1x1x1 (Scalar.ofBits .f32 0x3F800000#32)) (broadcast S1x1x1 (Scalar.ofBits .f32 0x00000000#32))

/-- The two results at a point. -/
def out8 (x0 x1 : Vec F S1x2x512 .f32) (x2 x3 : Vec F S1x512x2 .f32) (x4 : Vec F S1x512x1 .f32) (x5 x6 x7 : Vec F S1x1x512 .f32) : FVec F S1x3x3 .f32 :=
  bestMap (maps x0 x1 x5 x6 x7) (scores (maps x0 x1 x5 x6 x7) x2 x3 x4)
def out9 (x0 x1 : Vec F S1x2x512 .f32) (x2 x3 : Vec F S1x512x2 .f32) (x4 : Vec F S1x512x1 .f32) (x5 x6 x7 : Vec F S1x1x512 .f32) : FVec F S1x1x1 .f32 :=
  noScore (scores (maps x0 x1 x5 x6 x7) x2 x3 x4)

set_option maxHeartbeats 4000000 in
theorem body_A_8 (c : Dev nD) (i : grid0.Coords) (arg1 : Memref sig .tc .vmem S1x2x512 .f32) (harg1 : arg1.IsWhole) (arg2 : Memref sig .tc .vmem S1x2x512 .f32) (harg2 : arg2.IsWhole) (arg3 : Memref sig .tc .vmem S1x512x2 .f32) (harg3 : arg3.IsWhole) (arg4 : Memref sig .tc .vmem S1x512x2 .f32) (harg4 : arg4.IsWhole) (arg5 : Memref sig .tc .vmem S1x512x1 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x3x3 .f32) (harg9 : arg9.IsWhole) (arg10 : Memref sig .tc .vmem S1x1x1 .f32) (harg10 : arg10.IsWhole) (arg11 : Memref sig .tc .vmem S1x1x512 .i32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (hc0 : cond0_0 i)
    (x0 : Vec F S1x2x512 .f32) (x1 : Vec F S1x2x512 .f32) (x2 : Vec F S1x512x2 .f32) (x3 : Vec F S1x512x2 .f32) (x4 : Vec F S1x512x1 .f32) (x5 : Vec F S1x1x512 .f32) (x6 : Vec F S1x1x512 .f32) (x7 : Vec F S1x1x512 .f32) : out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = out8 x0 x1 x2 x3 x4 x5 x6 x7 := by
  frame_out
  rfl

set_option maxHeartbeats 4000000 in
theorem body_A_9 (c : Dev nD) (i : grid0.Coords) (arg1 : Memref sig .tc .vmem S1x2x512 .f32) (harg1 : arg1.IsWhole) (arg2 : Memref sig .tc .vmem S1x2x512 .f32) (harg2 : arg2.IsWhole) (arg3 : Memref sig .tc .vmem S1x512x2 .f32) (harg3 : arg3.IsWhole) (arg4 : Memref sig .tc .vmem S1x512x2 .f32) (harg4 : arg4.IsWhole) (arg5 : Memref sig .tc .vmem S1x512x1 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x3x3 .f32) (harg9 : arg9.IsWhole) (arg10 : Memref sig .tc .vmem S1x1x1 .f32) (harg10 : arg10.IsWhole) (arg11 : Memref sig .tc .vmem S1x1x512 .i32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (hc0 : cond0_0 i)
    (x0 : Vec F S1x2x512 .f32) (x1 : Vec F S1x2x512 .f32) (x2 : Vec F S1x512x2 .f32) (x3 : Vec F S1x512x2 .f32) (x4 : Vec F S1x512x1 .f32) (x5 : Vec F S1x1x512 .f32) (x6 : Vec F S1x1x512 .f32) (x7 : Vec F S1x1x512 .f32) : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = out9 x0 x1 x2 x3 x4 x5 x6 x7 := by
  frame_out
  rfl

set_option maxHeartbeats 4000000 in
theorem body_B_8 (c : Dev nD) (i : grid0.Coords) (arg1 : Memref sig .tc .vmem S1x2x512 .f32) (harg1 : arg1.IsWhole) (arg2 : Memref sig .tc .vmem S1x2x512 .f32) (harg2 : arg2.IsWhole) (arg3 : Memref sig .tc .vmem S1x512x2 .f32) (harg3 : arg3.IsWhole) (arg4 : Memref sig .tc .vmem S1x512x2 .f32) (harg4 : arg4.IsWhole) (arg5 : Memref sig .tc .vmem S1x512x1 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x3x3 .f32) (harg9 : arg9.IsWhole) (arg10 : Memref sig .tc .vmem S1x1x1 .f32) (harg10 : arg10.IsWhole) (arg11 : Memref sig .tc .vmem S1x1x512 .i32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (hc0 : ¬cond0_0 i)
    (x0 : Vec F S1x2x512 .f32) (x1 : Vec F S1x2x512 .f32) (x2 : Vec F S1x512x2 .f32) (x3 : Vec F S1x512x2 .f32) (x4 : Vec F S1x512x1 .f32) (x5 : Vec F S1x1x512 .f32) (x6 : Vec F S1x1x512 .f32) (x7 : Vec F S1x1x512 .f32) (xs1 : Vec F S512x512 .f32) (xs2 : Vec F S512x512 .f32) (xs3 : Vec F S512x512 .f32) : out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs1 xs2 xs3 = out8 x0 x1 x2 x3 x4 x5 x6 x7 := by
  frame_out
  rfl

set_option maxHeartbeats 4000000 in
theorem body_B_9 (c : Dev nD) (i : grid0.Coords) (arg1 : Memref sig .tc .vmem S1x2x512 .f32) (harg1 : arg1.IsWhole) (arg2 : Memref sig .tc .vmem S1x2x512 .f32) (harg2 : arg2.IsWhole) (arg3 : Memref sig .tc .vmem S1x512x2 .f32) (harg3 : arg3.IsWhole) (arg4 : Memref sig .tc .vmem S1x512x2 .f32) (harg4 : arg4.IsWhole) (arg5 : Memref sig .tc .vmem S1x512x1 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x3x3 .f32) (harg9 : arg9.IsWhole) (arg10 : Memref sig .tc .vmem S1x1x1 .f32) (harg10 : arg10.IsWhole) (arg11 : Memref sig .tc .vmem S1x1x512 .i32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (hc0 : ¬cond0_0 i)
    (x0 : Vec F S1x2x512 .f32) (x1 : Vec F S1x2x512 .f32) (x2 : Vec F S1x512x2 .f32) (x3 : Vec F S1x512x2 .f32) (x4 : Vec F S1x512x1 .f32) (x5 : Vec F S1x1x512 .f32) (x6 : Vec F S1x1x512 .f32) (x7 : Vec F S1x1x512 .f32) (xs1 : Vec F S512x512 .f32) (xs2 : Vec F S512x512 .f32) (xs3 : Vec F S512x512 .f32) : out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs1 xs2 xs3 = out9 x0 x1 x2 x3 x4 x5 x6 x7 := by
  frame_out
  rfl

end Cert.Proof.BestBody

end
-- ==== Proof.BestTable.lean ====
/-
  What the TensorCore call's body leaves in its third result at one grid point: the table of squared errors that it stores and reads
  back whole, and its ranking of the best candidate's inliers by three tables it makes at the first point and keeps.
-/
module

public import proofs.«01_k».proof.Proof.BestBody

@[expose] public section

set_option maxRecDepth 16384

noncomputable section

open Idealize.ShloMosaic Idealize.ShloMosaic.TcCoe Idealize.SL.Sem

namespace Cert.Proof.BestBody

open Cert.BestIdeal Cert.BestIdeal.Gen

variable {F : FTy → Type} [FloatOps F]

/-- The squared errors of the points `k, …, k + 63`, as stored. -/
def band (M : Maps F) (x2 x3 : Vec F S1x512x2 .f32) (k : ℕ)
    (h0 : ∀ a, ![0, k, 0] a + ![1, 64, 1] a ≤ S1x512x2.size a) (h1 : ∀ a, ![0, k, 1] a + ![1, 64, 1] a ≤ S1x512x2.size a) : FVec F S64x512 .f32 :=
  shapeCast S64x512 (squares M (View.ld x2 (Rect.unit (s := S1x512x2) ![0, k, 0] ![1, 64, 1] h0)) (View.ld x2 (Rect.unit (s := S1x512x2) ![0, k, 1] ![1, 64, 1] h1))
    (View.ld x3 (Rect.unit (s := S1x512x2) ![0, k, 0] ![1, 64, 1] h0)) (View.ld x3 (Rect.unit (s := S1x512x2) ![0, k, 1] ![1, 64, 1] h1))) shapeCasts_S64x512_S64x512

/-- The table of squared errors read back out of the eight stores. -/
def table (v : View sig .tc .vmem S512x512 .f32) (M : Maps F) (x2 x3 : Vec F S1x512x2 .f32) : FVec F S512x512 .f32 :=
  v.readCov (Val := Elt F) [
    ⟨Rect.unit (s := S512x512) ![448, 0] ![64, 512] inb_S512x512_S64x512_448_0, band M x2 x3 448 inb_S1x512x2_S1x64x1_0_448_0 inb_S1x512x2_S1x64x1_0_448_1⟩,
    ⟨Rect.unit (s := S512x512) ![384, 0] ![64, 512] inb_S512x512_S64x512_384_0, band M x2 x3 384 inb_S1x512x2_S1x64x1_0_384_0 inb_S1x512x2_S1x64x1_0_384_1⟩,
    ⟨Rect.unit (s := S512x512) ![320, 0] ![64, 512] inb_S512x512_S64x512_320_0, band M x2 x3 320 inb_S1x512x2_S1x64x1_0_320_0 inb_S1x512x2_S1x64x1_0_320_1⟩,
    ⟨Rect.unit (s := S512x512) ![256, 0] ![64, 512] inb_S512x512_S64x512_256_0, band M x2 x3 256 inb_S1x512x2_S1x64x1_0_256_0 inb_S1x512x2_S1x64x1_0_256_1⟩,
    ⟨Rect.unit (s := S512x512) ![192, 0] ![64, 512] inb_S512x512_S64x512_192_0, band M x2 x3 192 inb_S1x512x2_S1x64x1_0_192_0 inb_S1x512x2_S1x64x1_0_192_1⟩,
    ⟨Rect.unit (s := S512x512) ![128, 0] ![64, 512] inb_S512x512_S64x512_128_0, band M x2 x3 128 inb_S1x512x2_S1x64x1_0_128_0 inb_S1x512x2_S1x64x1_0_128_1⟩,
    ⟨Rect.unit (s := S512x512) ![64, 0] ![64, 512] inb_S512x512_S64x512_64_0, band M x2 x3 64 inb_S1x512x2_S1x64x1_0_64_0 inb_S1x512x2_S1x64x1_0_64_1⟩,
    ⟨Rect.unit (s := S512x512) ![0, 0] ![64, 512] inb_S512x512_S64x512_0_0, band M x2 x3 0 inb_S1x512x2_S1x64x1_0_0_0 inb_S1x512x2_S1x64x1_0_0_1⟩] (Rect.unit (s := S512x512) ![0, 0] ![512, 512] inb_S512x512_S512x512_0_0).toLoadRect

/-- The third result at a point, over the three tables `L`, `C`, `R`. -/
def out10 (v : View sig .tc .vmem S512x512 .f32) (L C R : FVec F S512x512 .f32)
    (x0 x1 : Vec F S1x2x512 .f32) (x2 x3 : Vec F S1x512x2 .f32) (x4 : Vec F S1x512x1 .f32) (x5 x6 x7 : Vec F S1x1x512 .f32) : IVec S1x1x512 32 :=
  let s := scores (maps x0 x1 x5 x6 x7) x2 x3 x4
  k0_pay1 (k0_pay83 (iota .tc S1x512 32 [1] iota_S1x512_d1_w32) (best s) (cmpi .eq (iota .tc S1x512 32 [1] iota_S1x512_d1_w32) (broadcast S1x512 (best s)))
    (table v (maps x0 x1 x5 x6 x7) x2 x3) k0_pay82 L C R)

set_option maxHeartbeats 4000000 in
theorem body_A_10 (c : Dev nD) (i : grid0.Coords) (arg1 : Memref sig .tc .vmem S1x2x512 .f32) (harg1 : arg1.IsWhole) (arg2 : Memref sig .tc .vmem S1x2x512 .f32) (harg2 : arg2.IsWhole) (arg3 : Memref sig .tc .vmem S1x512x2 .f32) (harg3 : arg3.IsWhole) (arg4 : Memref sig .tc .vmem S1x512x2 .f32) (harg4 : arg4.IsWhole) (arg5 : Memref sig .tc .vmem S1x512x1 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x3x3 .f32) (harg9 : arg9.IsWhole) (arg10 : Memref sig .tc .vmem S1x1x1 .f32) (harg10 : arg10.IsWhole) (arg11 : Memref sig .tc .vmem S1x1x512 .i32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (hc0 : cond0_0 i)
    (x0 : Vec F S1x2x512 .f32) (x1 : Vec F S1x2x512 .f32) (x2 : Vec F S1x512x2 .f32) (x3 : Vec F S1x512x2 .f32) (x4 : Vec F S1x512x1 .f32) (x5 : Vec F S1x1x512 .f32) (x6 : Vec F S1x1x512 .f32) (x7 : Vec F S1x1x512 .f32) : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = out10 arg12.view k0_pay2 k0_pay3 k0_pay4 x0 x1 x2 x3 x4 x5 x6 x7 := by
  frame_out
  rfl

set_option maxHeartbeats 4000000 in
theorem body_B_10 (c : Dev nD) (i : grid0.Coords) (arg1 : Memref sig .tc .vmem S1x2x512 .f32) (harg1 : arg1.IsWhole) (arg2 : Memref sig .tc .vmem S1x2x512 .f32) (harg2 : arg2.IsWhole) (arg3 : Memref sig .tc .vmem S1x512x2 .f32) (harg3 : arg3.IsWhole) (arg4 : Memref sig .tc .vmem S1x512x2 .f32) (harg4 : arg4.IsWhole) (arg5 : Memref sig .tc .vmem S1x512x1 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x3x3 .f32) (harg9 : arg9.IsWhole) (arg10 : Memref sig .tc .vmem S1x1x1 .f32) (harg10 : arg10.IsWhole) (arg11 : Memref sig .tc .vmem S1x1x512 .i32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (hc0 : ¬cond0_0 i)
    (x0 : Vec F S1x2x512 .f32) (x1 : Vec F S1x2x512 .f32) (x2 : Vec F S1x512x2 .f32) (x3 : Vec F S1x512x2 .f32) (x4 : Vec F S1x512x1 .f32) (x5 : Vec F S1x1x512 .f32) (x6 : Vec F S1x1x512 .f32) (x7 : Vec F S1x1x512 .f32) (xs1 : Vec F S512x512 .f32) (xs2 : Vec F S512x512 .f32) (xs3 : Vec F S512x512 .f32) : out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs1 xs2 xs3 = out10 arg12.view xs1 xs2 xs3 x0 x1 x2 x3 x4 x5 x6 x7 := by
  frame_out
  rfl

set_option maxHeartbeats 4000000 in
theorem carry_A_1 (c : Dev nD) (i : grid0.Coords) (arg1 : Memref sig .tc .vmem S1x2x512 .f32) (harg1 : arg1.IsWhole) (arg2 : Memref sig .tc .vmem S1x2x512 .f32) (harg2 : arg2.IsWhole) (arg3 : Memref sig .tc .vmem S1x512x2 .f32) (harg3 : arg3.IsWhole) (arg4 : Memref sig .tc .vmem S1x512x2 .f32) (harg4 : arg4.IsWhole) (arg5 : Memref sig .tc .vmem S1x512x1 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x3x3 .f32) (harg9 : arg9.IsWhole) (arg10 : Memref sig .tc .vmem S1x1x1 .f32) (harg10 : arg10.IsWhole) (arg11 : Memref sig .tc .vmem S1x1x512 .i32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (hc0 : cond0_0 i)
    (x0 : Vec F S1x2x512 .f32) (x1 : Vec F S1x2x512 .f32) (x2 : Vec F S1x512x2 .f32) (x3 : Vec F S1x512x2 .f32) (x4 : Vec F S1x512x1 .f32) (x5 : Vec F S1x1x512 .f32) (x6 : Vec F S1x1x512 .f32) (x7 : Vec F S1x1x512 .f32) : sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = k0_pay2 := by
  frame_out

set_option maxHeartbeats 4000000 in
theorem carry_A_2 (c : Dev nD) (i : grid0.Coords) (arg1 : Memref sig .tc .vmem S1x2x512 .f32) (harg1 : arg1.IsWhole) (arg2 : Memref sig .tc .vmem S1x2x512 .f32) (harg2 : arg2.IsWhole) (arg3 : Memref sig .tc .vmem S1x512x2 .f32) (harg3 : arg3.IsWhole) (arg4 : Memref sig .tc .vmem S1x512x2 .f32) (harg4 : arg4.IsWhole) (arg5 : Memref sig .tc .vmem S1x512x1 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x3x3 .f32) (harg9 : arg9.IsWhole) (arg10 : Memref sig .tc .vmem S1x1x1 .f32) (harg10 : arg10.IsWhole) (arg11 : Memref sig .tc .vmem S1x1x512 .i32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (hc0 : cond0_0 i)
    (x0 : Vec F S1x2x512 .f32) (x1 : Vec F S1x2x512 .f32) (x2 : Vec F S1x512x2 .f32) (x3 : Vec F S1x512x2 .f32) (x4 : Vec F S1x512x1 .f32) (x5 : Vec F S1x1x512 .f32) (x6 : Vec F S1x1x512 .f32) (x7 : Vec F S1x1x512 .f32) : sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = k0_pay3 := by
  frame_out

set_option maxHeartbeats 4000000 in
theorem carry_A_3 (c : Dev nD) (i : grid0.Coords) (arg1 : Memref sig .tc .vmem S1x2x512 .f32) (harg1 : arg1.IsWhole) (arg2 : Memref sig .tc .vmem S1x2x512 .f32) (harg2 : arg2.IsWhole) (arg3 : Memref sig .tc .vmem S1x512x2 .f32) (harg3 : arg3.IsWhole) (arg4 : Memref sig .tc .vmem S1x512x2 .f32) (harg4 : arg4.IsWhole) (arg5 : Memref sig .tc .vmem S1x512x1 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x3x3 .f32) (harg9 : arg9.IsWhole) (arg10 : Memref sig .tc .vmem S1x1x1 .f32) (harg10 : arg10.IsWhole) (arg11 : Memref sig .tc .vmem S1x1x512 .i32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (hc0 : cond0_0 i)
    (x0 : Vec F S1x2x512 .f32) (x1 : Vec F S1x2x512 .f32) (x2 : Vec F S1x512x2 .f32) (x3 : Vec F S1x512x2 .f32) (x4 : Vec F S1x512x1 .f32) (x5 : Vec F S1x1x512 .f32) (x6 : Vec F S1x1x512 .f32) (x7 : Vec F S1x1x512 .f32) : sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = k0_pay4 := by
  frame_out

end Cert.Proof.BestBody

end
-- ==== Proof.BestKernel.lean ====
/-
  The two results of one grid point at the extended reals, index by index: what the point's blocks hold of a batch goes through the
  body's steps to the formulas of that batch.
-/
module

public import proofs.«01_k».proof.Proof.BestBody
public import proofs.«01_k».proof.Proof.BestSpec

@[expose] public section

set_option maxRecDepth 16384

noncomputable section

namespace Cert.Proof.BestKernel

open Cert.BestIdeal Cert.BestIdeal.Gen
open Idealize.ShloMosaic hiding ix1 ix2 ix3
open Idealize.ShloMosaic.TcCoe Idealize.SL.Sem
open Idealize.ShloMosaic.ValueIdx (ix1 ix2 ix3)
open Cert.Proof.BestSpec
open Cert.Proof.BestBody (rowPx colPx viaRow viaCol row col maps squares counted gains more part put bestMap noScore pick out8 out9)

/-- What the blocks of a grid point hold of the batch `B`. -/
structure Holds (B : Batch) (x0 x1 : Vec Ideal S1x2x512 .f32) (x2 x3 : Vec Ideal S1x512x2 .f32) (x4 : Vec Ideal S1x512x1 .f32)
    (x5 x6 x7 : Vec Ideal S1x1x512 .f32) : Prop where
  h0 : ∀ (c : Fin 2) (i : Fin 512), x0 (ix3 0 c i) = B.s i c
  h1 : ∀ (c : Fin 2) (i : Fin 512), x1 (ix3 0 c i) = B.t i c
  h2 : ∀ (i : Fin 512) (c : Fin 2), x2 (ix3 0 i c) = B.s i c
  h3 : ∀ (i : Fin 512) (c : Fin 2), x3 (ix3 0 i c) = B.t i c
  h4 : ∀ i : Fin 512, x4 (ix3 0 i 0) = B.w i
  h5 : ∀ i : Fin 512, x5 (ix3 0 0 i) = B.k i
  h6 : ∀ i : Fin 512, x6 (ix3 0 0 i) = B.r i 0
  h7 : ∀ i : Fin 512, x7 (ix3 0 0 i) = B.r i 1

/-- A row of one block read in pixels. -/
theorem flat_apply (v : Vec Ideal S1x1x512 .f32) (i : Fin 512) :
    shapeCast S1x512 v shapeCasts_S1x1x512_S1x512 (ix2 0 i) = v (ix3 0 0 i) :=
  shapeCast_apply _ _ _ (ix3 0 0 i) (by simp only [Shape.rowMajor_val_three, Shape.rowMajor_val_two]; show (0 * 1 + 0) * 512 + i.val = 0 * 512 + i.val; omega)

theorem rowPx_apply (v : Vec Ideal S1x1x512 .f32) (i : Fin 512) : rowPx v (ix2 0 i) = FloatOps.mulf (v (ix3 0 0 i)) cell :=
  congrArg (fun z : Ideal .f32 => FloatOps.mulf z cell) (flat_apply v i)

theorem colPx_apply (v : Vec Ideal S1x64x1 .f32) (r : Fin 64) : colPx v (ix2 r 0) = FloatOps.mulf (v (ix3 0 r 0)) cell :=
  congrArg (fun z : Ideal .f32 => FloatOps.mulf z cell)
    (shapeCast_apply _ _ _ (ix3 0 r 0) (by simp only [Shape.rowMajor_val_three, Shape.rowMajor_val_two]; show (0 * 64 + r.val) * 1 + 0 = r.val * 1 + 0; omega))

theorem row_apply (v : FVec Ideal S1x512 .f32) (r : Fin 64) (i : Fin 512) : row v (ix2 r i) = v (ix2 0 i) :=
  broadcastTo_apply _ _ _ _ (fun a => match a with | ⟨0, _⟩ => rfl | ⟨1, _⟩ => rfl)
theorem col_apply (v : FVec Ideal S64x1 .f32) (r : Fin 64) (i : Fin 512) : col v (ix2 r i) = v (ix2 r 0) :=
  broadcastTo_apply _ _ _ _ (fun a => match a with | ⟨0, _⟩ => rfl | ⟨1, _⟩ => rfl)

/-- A run of 64 rows, column `c`, of a block of 512 rows read at row `r`. -/
theorem piece_apply {n : ℕ} (x : Vec Ideal ⟨3, ![1, 512, n]⟩ .f32) (q : ℕ) (hq : q < 8) (c : Fin n) (off : Fin 3 → ℕ) (hoff : off = ![0, 64 * q, c.val])
    (h : ∀ a, off a + ![1, 64, 1] a ≤ (⟨3, ![1, 512, n]⟩ : Shape).size a) (r : Fin 64) :
    (View.ld x (Rect.unit (s := ⟨3, ![1, 512, n]⟩) off ![1, 64, 1] h) : Vec Ideal S1x64x1 .f32) (ix3 0 r 0) = x (ix3 0 (slot q hq r) c) := by
  subst hoff
  exact View.ld_unit_apply_of _ _ _ _ _ _ (fun a => match a with | ⟨0, _⟩ => rfl | ⟨1, _⟩ => rfl | ⟨2, _⟩ => rfl)

section Point

variable {B : Batch} {x0 x1 : Vec Ideal S1x2x512 .f32} {x2 x3 : Vec Ideal S1x512x2 .f32} {x4 : Vec Ideal S1x512x1 .f32} {x5 x6 x7 : Vec Ideal S1x1x512 .f32}
variable (H : Holds B x0 x1 x2 x3 x4 x5 x6 x7)

/-- Row `c` of a block of two rows. -/
theorem strip_apply (x : Vec Ideal S1x2x512 .f32) (c : Fin 2) (off : Fin 3 → ℕ) (hoff : off = ![0, c.val, 0]) (h : ∀ a, off a + ![1, 1, 512] a ≤ S1x2x512.size a) (i : Fin 512) :
    (View.ld x (Rect.unit (s := S1x2x512) off ![1, 1, 512] h) : Vec Ideal S1x1x512 .f32) (ix3 0 0 i) = x (ix3 0 c i) := by
  subst hoff
  exact View.ld_unit_apply_of _ _ _ _ _ _ (fun a => match a with | ⟨0, _⟩ => rfl | ⟨1, _⟩ => rfl | ⟨2, _⟩ => (Nat.zero_add _).symm)

include H

theorem maps_a (i : Fin 512) : (maps x0 x1 x5 x6 x7).a (ix2 0 i) = B.a i := by
  exact congrArg₂ (fun p q : Ideal .f32 => FloatOps.mulf p q) ((flat_apply x5 i).trans (H.h5 i)) ((flat_apply x6 i).trans (H.h6 i))
theorem maps_p (i : Fin 512) : (maps x0 x1 x5 x6 x7).p (ix2 0 i) = B.p i := by
  exact congrArg₂ (fun p q : Ideal .f32 => FloatOps.mulf p q) ((flat_apply x5 i).trans (H.h5 i)) ((flat_apply x7 i).trans (H.h7 i))
theorem maps_n (i : Fin 512) : (maps x0 x1 x5 x6 x7).n (ix2 0 i) = B.n i :=
  congrArg (FloatOps.subf zero) (maps_p H i)

theorem first_row (i : Fin 512) (h) : rowPx (View.ld x0 (Rect.unit (s := S1x2x512) ![0, 0, 0] ![1, 1, 512] h)) (ix2 0 i) = B.sp i 0 :=
  (rowPx_apply _ i).trans (congrArg (fun z : Ideal .f32 => FloatOps.mulf z cell) ((strip_apply x0 0 _ rfl h i).trans (H.h0 0 i)))
theorem first_row' (i : Fin 512) (h) : rowPx (View.ld x0 (Rect.unit (s := S1x2x512) ![0, 1, 0] ![1, 1, 512] h)) (ix2 0 i) = B.sp i 1 :=
  (rowPx_apply _ i).trans (congrArg (fun z : Ideal .f32 => FloatOps.mulf z cell) ((strip_apply x0 1 _ rfl h i).trans (H.h0 1 i)))
theorem second_row (i : Fin 512) (h) : rowPx (View.ld x1 (Rect.unit (s := S1x2x512) ![0, 0, 0] ![1, 1, 512] h)) (ix2 0 i) = B.tp i 0 :=
  (rowPx_apply _ i).trans (congrArg (fun z : Ideal .f32 => FloatOps.mulf z cell) ((strip_apply x1 0 _ rfl h i).trans (H.h1 0 i)))
theorem second_row' (i : Fin 512) (h) : rowPx (View.ld x1 (Rect.unit (s := S1x2x512) ![0, 1, 0] ![1, 1, 512] h)) (ix2 0 i) = B.tp i 1 :=
  (rowPx_apply _ i).trans (congrArg (fun z : Ideal .f32 => FloatOps.mulf z cell) ((strip_apply x1 1 _ rfl h i).trans (H.h1 1 i)))

theorem maps_u (i : Fin 512) : (maps x0 x1 x5 x6 x7).u (ix2 0 i) = B.u i := by
  show FloatOps.subf (rowPx (View.ld x1 (Rect.unit (s := S1x2x512) ![0, 0, 0] ![1, 1, 512] inb_S1x2x512_S1x1x512_0_0_0)) (ix2 0 i))
    (FloatOps.addf (FloatOps.mulf ((maps x0 x1 x5 x6 x7).a (ix2 0 i)) (rowPx (View.ld x0 (Rect.unit (s := S1x2x512) ![0, 0, 0] ![1, 1, 512] inb_S1x2x512_S1x1x512_0_0_0)) (ix2 0 i)))
      (FloatOps.mulf ((maps x0 x1 x5 x6 x7).n (ix2 0 i)) (rowPx (View.ld x0 (Rect.unit (s := S1x2x512) ![0, 1, 0] ![1, 1, 512] inb_S1x2x512_S1x1x512_0_1_0)) (ix2 0 i)))) = _
  rw [second_row H, first_row H, first_row' H, maps_a H, maps_n H]; rfl
theorem maps_v (i : Fin 512) : (maps x0 x1 x5 x6 x7).v (ix2 0 i) = B.v i := by
  show FloatOps.subf (rowPx (View.ld x1 (Rect.unit (s := S1x2x512) ![0, 1, 0] ![1, 1, 512] inb_S1x2x512_S1x1x512_0_1_0)) (ix2 0 i))
    (FloatOps.addf (FloatOps.mulf ((maps x0 x1 x5 x6 x7).p (ix2 0 i)) (rowPx (View.ld x0 (Rect.unit (s := S1x2x512) ![0, 0, 0] ![1, 1, 512] inb_S1x2x512_S1x1x512_0_0_0)) (ix2 0 i)))
      (FloatOps.mulf ((maps x0 x1 x5 x6 x7).a (ix2 0 i)) (rowPx (View.ld x0 (Rect.unit (s := S1x2x512) ![0, 1, 0] ![1, 1, 512] inb_S1x2x512_S1x1x512_0_1_0)) (ix2 0 i)))) = _
  rw [second_row' H, first_row H, first_row' H, maps_a H, maps_p H]; rfl

omit H in
/-- The squared error at row `r` and candidate `i` out of the points' coordinates at that row. -/
theorem squares_apply (M : BestBody.Maps Ideal) (sx sy tx ty : Vec Ideal S1x64x1 .f32) (r : Fin 64) (i j : Fin 512)
    (ha : M.a (ix2 0 i) = B.a i) (hn : M.n (ix2 0 i) = B.n i) (hp : M.p (ix2 0 i) = B.p i) (hu : M.u (ix2 0 i) = B.u i) (hv : M.v (ix2 0 i) = B.v i)
    (hsx : sx (ix3 0 r 0) = B.s j 0) (hsy : sy (ix3 0 r 0) = B.s j 1) (htx : tx (ix3 0 r 0) = B.t j 0) (hty : ty (ix3 0 r 0) = B.t j 1) :
    squares M sx sy tx ty (ix2 r i) = B.sq i j := by
  have cx : col (colPx tx) (ix2 r i) = B.tp j 0 := by rw [col_apply, colPx_apply, htx]; rfl
  have cy : col (colPx ty) (ix2 r i) = B.tp j 1 := by rw [col_apply, colPx_apply, hty]; rfl
  have dx : col (viaCol (colPx sx)) (ix2 r i) = B.sp j 0 := by
    rw [col_apply]; show colPx sx (ix2 r 0) = _; rw [colPx_apply, hsx]; rfl
  have dy : col (viaCol (colPx sy)) (ix2 r i) = B.sp j 1 := by
    rw [col_apply]; show colPx sy (ix2 r 0) = _; rw [colPx_apply, hsy]; rfl
  have ra : row (viaRow M.a) (ix2 r i) = B.a i := (row_apply _ r i).trans ha
  have rn : row (viaRow M.n) (ix2 r i) = B.n i := (row_apply _ r i).trans hn
  have rp : row (viaRow M.p) (ix2 r i) = B.p i := (row_apply _ r i).trans hp
  have ru : row M.u (ix2 r i) = B.u i := (row_apply _ r i).trans hu
  have rv : row M.v (ix2 r i) = B.v i := (row_apply _ r i).trans hv
  have ex : subf (col (colPx tx)) (addf (addf (mulf (row (viaRow M.a)) (col (viaCol (colPx sx)))) (mulf (row (viaRow M.n)) (col (viaCol (colPx sy))))) (row M.u)) (ix2 r i) = B.dx i j := by
    show FloatOps.subf (col (colPx tx) (ix2 r i)) (FloatOps.addf (FloatOps.addf (FloatOps.mulf (row (viaRow M.a) (ix2 r i)) (col (viaCol (colPx sx)) (ix2 r i)))
      (FloatOps.mulf (row (viaRow M.n) (ix2 r i)) (col (viaCol (colPx sy)) (ix2 r i)))) (row M.u (ix2 r i))) = _
    rw [cx, dx, dy, ra, rn, ru]; rfl
  have ey : subf (col (colPx ty)) (addf (addf (mulf (row (viaRow M.p)) (col (viaCol (colPx sx)))) (mulf (row (viaRow M.a)) (col (viaCol (colPx sy))))) (row M.v)) (ix2 r i) = B.dy i j := by
    show FloatOps.subf (col (colPx ty) (ix2 r i)) (FloatOps.addf (FloatOps.addf (FloatOps.mulf (row (viaRow M.p) (ix2 r i)) (col (viaCol (colPx sx)) (ix2 r i)))
      (FloatOps.mulf (row (viaRow M.a) (ix2 r i)) (col (viaCol (colPx sy)) (ix2 r i)))) (row M.v (ix2 r i))) = _
    rw [cy, dx, dy, ra, rp, rv]; rfl
  exact congrArg₂ (fun p q : Ideal .f32 => FloatOps.addf (FloatOps.mulf p p) (FloatOps.mulf q q)) ex ey

omit H in
/-- What counts at row `r` of part `q` and candidate `i`. -/
theorem counted_apply (q : ℕ) (hq : q < 8) (s2 : FVec Ideal S64x512 .f32) (r : Fin 64) (i : Fin 512) :
    counted (BitVec.ofNat 32 (64 * q)) s2 (ix2 r i)
      = IntOp.andi (FloatOps.cmpf .ole (s2 (ix2 r i)) bound) (IntOp.cmpi .ne (BitVec.ofNat 32 i.val) (BitVec.ofNat 32 (slot q hq r).val)) := by
  have h1 : iota .tc S64x512 32 [1] iota_S64x512_d1_w32 (ix2 r i) = BitVec.ofNat 32 i.val := iota_single_apply _ _ _ _ _ _
  have h2 : broadcastTo S64x512 (addi (broadcast S64x1 (BitVec.ofNat 32 (64 * q))) (iota .tc S64x1 32 [0] iota_S64x1_d0_w32)) broadcasts_S64x1_S64x512 (ix2 r i)
      = BitVec.ofNat 32 (slot q hq r).val := by
    refine (broadcastTo_apply _ _ _ (ix2 r 0) (fun a => match a with | ⟨0, _⟩ => rfl | ⟨1, _⟩ => rfl)).trans ?_
    show BitVec.ofNat 32 (64 * q) + iota .tc S64x1 32 [0] iota_S64x1_d0_w32 (ix2 r 0) = _
    rw [iota_single_apply]
    exact (BitVec.ofNat_add _ _).symm
  show IntOp.andi (FloatOps.cmpf .ole (s2 (ix2 r i)) bound) (IntOp.cmpi .ne (iota .tc S64x512 32 [1] iota_S64x512_d1_w32 (ix2 r i))
    (broadcastTo S64x512 (addi (broadcast S64x1 (BitVec.ofNat 32 (64 * q))) (iota .tc S64x1 32 [0] iota_S64x1_d0_w32)) broadcasts_S64x1_S64x512 (ix2 r i))) = _
  rw [h1, h2]

theorem part_apply (q : ℕ) (hq : q < 8) (k : ℕ) (hk : k = 64 * q) (h0 h1 hs) (r : Fin 64) (i : Fin 512) :
    part (maps x0 x1 x5 x6 x7) x2 x3 x4 k h0 h1 hs (ix2 r i) = B.gain i (slot q hq r) := by
  subst hk
  have hw : col (shapeCast S64x1 (shapeCast S64x1 (View.ld x4 (Rect.unit (s := S1x512x1) ![0, 64 * q, 0] ![1, 64, 1] hs) : Vec Ideal S1x64x1 .f32) shapeCasts_S1x64x1_S64x1) shapeCasts_S64x1_S64x1) (ix2 r i)
      = B.w (slot q hq r) := by
    rw [col_apply, shapeCast_self]
    refine (shapeCast_apply _ _ _ (ix3 0 r 0) (by simp only [Shape.rowMajor_val_three, Shape.rowMajor_val_two]; show (0 * 64 + r.val) * 1 + 0 = r.val * 1 + 0; omega)).trans ?_
    exact (piece_apply x4 q hq 0 _ rfl hs r).trans (H.h4 _)
  have hsq := squares_apply (B := B) (maps x0 x1 x5 x6 x7) (View.ld x2 (Rect.unit (s := S1x512x2) ![0, 64 * q, 0] ![1, 64, 1] h0)) (View.ld x2 (Rect.unit (s := S1x512x2) ![0, 64 * q, 1] ![1, 64, 1] h1))
      (View.ld x3 (Rect.unit (s := S1x512x2) ![0, 64 * q, 0] ![1, 64, 1] h0)) (View.ld x3 (Rect.unit (s := S1x512x2) ![0, 64 * q, 1] ![1, 64, 1] h1)) r i (slot q hq r)
      (maps_a H i) (maps_n H i) (maps_p H i) (maps_u H i) (maps_v H i)
      ((piece_apply x2 q hq 0 _ rfl h0 r).trans (H.h2 _ _)) ((piece_apply x2 q hq 1 _ rfl h1 r).trans (H.h2 _ _))
      ((piece_apply x3 q hq 0 _ rfl h0 r).trans (H.h3 _ _)) ((piece_apply x3 q hq 1 _ rfl h1 r).trans (H.h3 _ _))
  show Scalar.select (counted (BitVec.ofNat 32 (64 * q)) _ (ix2 r i)) (col _ (ix2 r i)) zero = _
  rw [counted_apply q hq, hw, hsq]
  rfl

omit H in
theorem more_apply (acc : FVec Ideal S1x512 .f32) (g : FVec Ideal S64x512 .f32) (i : Fin 512) :
    (more acc g (ix2 0 i) : EReal) = (acc (ix2 0 i) : EReal) + ∑ r : Fin 64, (g (ix2 r i) : EReal) := by
  have hm : shapeCast S1x512 (multiReduction .add [0] S512 g 0x00000000#32 reduces_S64x512_S512 (.inl rfl) rfl) shapeCasts_S512_S1x512 (ix2 0 i)
      = (∑ r : Fin 64, (g (ix2 r i) : EReal) : EReal) := by
    refine (shapeCast_apply _ _ _ (ix1 i) (by simp only [Shape.rowMajor_val_one, Shape.rowMajor_val_two]; show i.val = 0 * 512 + i.val; omega)).trans ?_
    refine (Ideal.multiReduction_add_single g _ _ _ _ _).trans ?_
    refine Finset.sum_congr rfl fun r _ => ?_
    refine congrArg g ?_
    funext a
    match a with
    | ⟨0, _⟩ => rfl
    | ⟨1, _⟩ => rfl
  exact congrArg (fun z : EReal => (acc (ix2 0 i) : EReal) + z) hm

theorem scores_apply (i : Fin 512) : BestBody.scores (maps x0 x1 x5 x6 x7) x2 x3 x4 (ix2 0 i) = B.score i := by
  unfold BestBody.scores
  refine Eq.trans ?_ (sum_parts fun j => B.gain i j)
  simp only [more_apply]
  have h0 : ((broadcast S1x512 (Scalar.ofBits .f32 0x00000000#32) : FVec Ideal S1x512 .f32) (ix2 0 i) : EReal) = 0 := zero_eq
  rw [h0]
  have hp := fun (q : ℕ) (hq : q < 8) k hk h0 h1 hs =>
    Finset.sum_congr (rfl : (Finset.univ : Finset (Fin 64)) = Finset.univ) (fun r _ => part_apply H q hq k hk h0 h1 hs r i)
  rw [hp 0 (by omega) 0 rfl, hp 1 (by omega) 64 rfl, hp 2 (by omega) 128 rfl, hp 3 (by omega) 192 rfl, hp 4 (by omega) 256 rfl, hp 5 (by omega) 320 rfl, hp 6 (by omega) 384 rfl, hp 7 (by omega) 448 rfl]

omit H in
/-- One place read out of a reduction of a row. -/
theorem only_apply {α : Type} (x : S1.Idx → α) :
    extractAt ![0, 0, 0] (shapeCast S1x1x1 x shapeCasts_S1_S1x1x1) inpos_S1x1x1_p0_0_0 = x (ix1 0) := by
  refine (shapeCast_apply x _ _ (ix1 0) ?_)
  have h1 := (S1.rowMajor (ix1 0)).isLt
  have h2 := (S1x1x1.rowMajor (fun a => ⟨(![0, 0, 0] : Fin 3 → ℕ) a, inpos_S1x1x1_p0_0_0 a⟩)).isLt
  have e1 : S1.numel = 1 := rfl
  have e2 : S1x1x1.numel = 1 := rfl
  omega

omit H in
theorem raised_apply {α : Type} (x : S1x512.Idx → α) (k : Fin 512) : shapeCast S1x1x512 x shapeCasts_S1x512_S1x1x512 (ix3 0 0 k) = x (ix2 0 k) :=
  shapeCast_apply _ _ _ _ (by simp only [Shape.rowMajor_val_three, Shape.rowMajor_val_two]; show 0 * 512 + k.val = (0 * 1 + 0) * 512 + k.val; omega)

omit H in
theorem top_apply (s : FVec Ideal S1x512 .f32) : BestBody.top s = top (fun i => s (ix2 0 i)) := by
  unfold BestBody.top
  rw [only_apply]
  refine (multiReduction_maximumf_eq_fold _ _ _ _ _ _).trans ((fold_row _ _ _ _ _).trans ?_)
  show (Finset.univ : Finset (Fin 512)).fold FloatOps.maximumf low _ = _
  unfold top
  congr 1
  funext k
  exact raised_apply s k

omit H in
theorem best_apply (s : FVec Ideal S1x512 .f32) : BestBody.best s = best (fun i => s (ix2 0 i)) := by
  unfold BestBody.best
  rw [only_apply]
  refine (multiReductionI_eq_fold _ _ _ _ _ _).trans ((fold_row _ _ _ _ _).trans ?_)
  show (Finset.univ : Finset (Fin 512)).fold IntOp.minsi 2147483647#32 _ = _
  unfold best
  congr 1
  funext k
  refine (raised_apply _ k).trans ?_
  have hi : iota .tc S1x512 32 [1] iota_S1x512_d1_w32 (ix2 0 k) = BitVec.ofNat 32 k.val := iota_single_apply _ _ _ _ _ _
  generalize hT : BestBody.top s = T
  rw [top_apply] at hT
  rw [hT]
  exact congrArg (fun v : BitVec 32 => Scalar.select (FloatOps.cmpf (F := Ideal) (φ := .f32) .oeq (s (ix2 0 k)) T) v 512#32) hi

omit H in
theorem pick_apply (w : FVec Ideal S1x512 .f32) (i : Fin 512) : pick (BitVec.ofNat 32 i.val) w = w (ix2 0 i) := by
  unfold pick
  rw [only_apply]
  refine (Ideal.multiReduction_add_total _ _ _ (by decide) _ _ _).trans ?_
  refine (sum_row _).trans (Eq.trans ?_ (sum_chosen (fun k => w (ix2 0 k)) i))
  refine Finset.sum_congr rfl fun k _ => ?_
  refine (raised_apply _ k).trans ?_
  show Scalar.select (IntOp.cmpi .eq (iota .tc S1x512 32 [1] iota_S1x512_d1_w32 (ix2 0 k)) (BitVec.ofNat 32 i.val)) (w (ix2 0 k)) zero = _
  rw [iota_single_apply]

omit H in
theorem put_apply (r c : BitVec 32) (w : Ideal .f32) (m : FVec Ideal S1x3x3 .f32) (i j : Fin 3) :
    put r c w m (ix3 0 i j) = Scalar.select (IntOp.andi (IntOp.cmpi .eq (BitVec.ofNat 32 i.val) r) (IntOp.cmpi .eq (BitVec.ofNat 32 j.val) c)) w (m (ix3 0 i j)) := by
  show Scalar.select (IntOp.andi (IntOp.cmpi .eq (iota .tc S1x3x3 32 [1] iota_S1x3x3_d1_w32 (ix3 0 i j)) r) (IntOp.cmpi .eq (iota .tc S1x3x3 32 [2] iota_S1x3x3_d2_w32 (ix3 0 i j)) c)) w (m (ix3 0 i j)) = _
  rw [iota_single_apply, iota_single_apply]

theorem out8_apply (b : Fin 512) (hb : best B.score = BitVec.ofNat 32 b.val) (i j : Fin 3) :
    out8 x0 x1 x2 x3 x4 x5 x6 x7 (ix3 0 i j) = entry B b ⟨3 * i.val + j.val, by omega⟩ := by
  have hs : (fun k => BestBody.scores (maps x0 x1 x5 x6 x7) x2 x3 x4 (ix2 0 k)) = B.score := funext fun k => scores_apply H k
  unfold out8 bestMap
  rw [best_apply, hs, hb]
  simp only [pick_apply, maps_a H, maps_n H, maps_p H, maps_u H, maps_v H, put_apply]
  fin_cases i <;> fin_cases j <;> rfl

theorem out9_apply (i j : Fin 1) : out9 x0 x1 x2 x3 x4 x5 x6 x7 (ix3 0 i j) = failed B.score := by
  have hs : (fun k => BestBody.scores (maps x0 x1 x5 x6 x7) x2 x3 x4 (ix2 0 k)) = B.score := funext fun k => scores_apply H k
  unfold out9 noScore
  rw [top_apply, hs]
  show (Scalar.select (FloatOps.cmpf .oeq (top B.score) zero) (broadcast S1x1x1 one) (broadcast S1x1x1 zero) : S1x1x1.Idx → Ideal .f32) (ix3 0 i j) = _
  unfold failed Scalar.select
  split <;> rfl

end Point

end Cert.Proof.BestKernel

end
-- ==== Proof.BestOrder.lean ====
/-
  A set of numbers below `n` put in order: the `k`-th of them, and `n` past the last. Sorting the row that has `j` at each
  `j` of the set and `n` elsewhere gives that list, and so does counting, for each member, the members up to it.
-/
module

public import Idealize.ShloMosaic.Lib.SortFacts

@[expose] public section

namespace Cert.Proof.BestOrder

open Idealize.ShloMosaic

variable {n : ℕ} (p : Fin n → Prop) [DecidablePred p]

/-- How many members are below `x`. -/
def below (x : ℕ) : ℕ := (Finset.univ.filter fun j : Fin n => p j ∧ j.val < x).card

/-- Member `k` in ascending order, `n` when there are no more: the least number up to which there are more than `k` members. -/
noncomputable def listed (k : ℕ) : ℕ :=
  open Classical in if h : ∃ x, k < below p (x + 1) then Nat.find h else n

theorem below_zero : below p 0 = 0 := by
  unfold below
  rw [Finset.card_eq_zero]
  exact Finset.filter_false_of_mem fun j _ h => absurd h.2 (Nat.not_lt_zero _)

theorem below_mono {x y : ℕ} (h : x ≤ y) : below p x ≤ below p y :=
  Finset.card_le_card fun j hj => by
    have hj := (Finset.mem_filter.mp hj).2
    exact Finset.mem_filter.mpr ⟨Finset.mem_univ _, hj.1, lt_of_lt_of_le hj.2 h⟩

theorem below_top {x : ℕ} (h : n ≤ x) : below p x ≤ below p n :=
  Finset.card_le_card fun j hj => by
    have hj := (Finset.mem_filter.mp hj).2
    exact Finset.mem_filter.mpr ⟨Finset.mem_univ _, hj.1, j.isLt⟩

theorem below_member (j : Fin n) (hj : p j) : below p (j.val + 1) = below p j.val + 1 := by
  have hs : (Finset.univ.filter fun i : Fin n => p i ∧ i.val < j.val + 1) = insert j (Finset.univ.filter fun i : Fin n => p i ∧ i.val < j.val) := by
    ext i
    simp only [Finset.mem_filter, Finset.mem_univ, true_and, Finset.mem_insert]
    constructor
    · rintro ⟨h1, h2⟩
      rcases Nat.lt_succ_iff_lt_or_eq.mp h2 with h | h
      · exact .inr ⟨h1, h⟩
      · exact .inl (Fin.ext h)
    · rintro (rfl | ⟨h1, h2⟩)
      · exact ⟨hj, Nat.lt_succ_self _⟩
      · exact ⟨h1, by omega⟩
  unfold below
  rw [hs, Finset.card_insert_of_notMem]
  exact fun h => lt_irrefl _ (Finset.mem_filter.mp h).2.2

theorem below_other (j : Fin n) (hj : ¬ p j) : below p (j.val + 1) = below p j.val := by
  unfold below
  congr 1
  ext i
  simp only [Finset.mem_filter, Finset.mem_univ, true_and]
  refine and_congr_right fun hi => ?_
  have : i.val ≠ j.val := fun h => hj (Fin.ext h ▸ hi)
  omega

/-- What has the right numbers below it is member `k`. -/
theorem listed_eq (hn : 0 < n) {k y : ℕ} (hy : y ≤ n) (h : ∀ x, x < n → (y ≤ x ↔ k < below p (x + 1))) : y = listed p k := by
  classical
  unfold listed
  split
  · rename_i hex
    rcases Nat.lt_or_ge y n with hlt | hge
    · have h1 : Nat.find hex ≤ y := Nat.find_min' hex ((h y hlt).mp (le_refl _))
      exact le_antisymm ((h _ (lt_of_le_of_lt h1 hlt)).mpr (Nat.find_spec hex)) h1
    · exfalso
      obtain ⟨x, hx⟩ := hex
      have h1 : k < below p (n - 1 + 1) := by
        rw [Nat.sub_add_cancel hn]
        rcases Nat.lt_or_ge (x + 1) n with h | h
        · exact lt_of_lt_of_le hx (below_mono p h.le)
        · exact lt_of_lt_of_le hx (below_top p h)
      have := (h (n - 1) (by omega)).mpr h1
      omega
  · rename_i hex
    refine le_antisymm hy (le_of_not_gt fun hlt => hex ⟨y, (h y hlt).mp (le_refl _)⟩)

/-- A member with `k` members below it is member `k`. -/
theorem listed_member (j : Fin n) (hj : p j) : j.val = listed p (below p j.val) := by
  refine listed_eq p (lt_of_le_of_lt (Nat.zero_le _) j.isLt) j.isLt.le fun x _ => ?_
  constructor
  · intro h
    have := below_mono p (Nat.succ_le_succ h)
    rw [Nat.succ_eq_add_one, below_member p j hj] at this
    exact this
  · intro h
    by_contra hx
    exact absurd (below_mono p (x := x + 1) (y := j.val) (by omega)) (by omega)

/-- When there are more than `k` members, one has `k` below it. -/
theorem exists_member {k : ℕ} (h : k < below p n) : ∃ j : Fin n, p j ∧ below p j.val = k := by
  have hs : ∀ x, x ≤ n → k < below p x → ∃ j : Fin n, p j ∧ below p j.val = k := by
    intro x
    induction x with
    | zero => intro _ h; rw [below_zero] at h; exact absurd h (Nat.not_lt_zero _)
    | succ x ih =>
      intro hx h
      by_cases hk : k < below p x
      · exact ih (by omega) hk
      · by_cases hp : p ⟨x, hx⟩
        · have := below_member p ⟨x, hx⟩ hp
          exact ⟨⟨x, hx⟩, hp, by simp only at this ⊢; omega⟩
        · have := below_other p ⟨x, hx⟩ hp
          simp only at this; omega
  exact hs n (le_refl _) h

/-- When there are not, the list is over. -/
theorem listed_over (hn : 0 < n) {k : ℕ} (h : ¬ k < below p n) : n = listed p k := by
  refine listed_eq p hn (le_refl _) fun x hx => ⟨fun h' => absurd hx (by omega), fun h' => absurd (lt_of_lt_of_le h' (below_mono p hx)) h⟩

/-! ## The sorted row -/

/-- In a row of ascending numbers, the places of the numbers up to `x` are the first ones. -/
theorem le_iff_lt_card (g : Fin n → ℕ) (hg : ∀ i j, i < j → g i ≤ g j) (k : Fin n) (x : ℕ) :
    g k ≤ x ↔ k.val < (Finset.univ.filter fun i => g i ≤ x).card := by
  have hc : ∀ y, y ≤ n → (Finset.univ.filter fun i : Fin n => i.val < y).card = y := by
    intro y hy
    have : (Finset.univ.filter fun i : Fin n => i.val < y).card = (Finset.range y).card :=
      Finset.card_bij (fun i _ => i.val) (fun i hi => Finset.mem_range.mpr (Finset.mem_filter.mp hi).2) (fun a _ b _ h => Fin.ext h)
        (fun b hb => ⟨⟨b, lt_of_lt_of_le (Finset.mem_range.mp hb) hy⟩, Finset.mem_filter.mpr ⟨Finset.mem_univ _, Finset.mem_range.mp hb⟩, rfl⟩)
    rw [this, Finset.card_range]
  have hg' : ∀ i j : Fin n, i.val ≤ j.val → g i ≤ g j := fun i j h => by
    rcases Nat.lt_or_ge i.val j.val with h' | h'
    · exact hg i j h'
    · have : i = j := Fin.ext (by omega)
      rw [this]
  constructor
  · intro h
    have hs : (Finset.univ.filter fun i : Fin n => i.val < k.val + 1) ⊆ Finset.univ.filter fun i => g i ≤ x := fun i hi =>
      Finset.mem_filter.mpr ⟨Finset.mem_univ _, (hg' i k (by have := (Finset.mem_filter.mp hi).2; omega)).trans h⟩
    have := Finset.card_le_card hs
    rw [hc _ k.isLt] at this
    omega
  · intro h
    by_contra hk
    have hs : (Finset.univ.filter fun i => g i ≤ x) ⊆ Finset.univ.filter fun i : Fin n => i.val < k.val := fun i hi => by
      refine Finset.mem_filter.mpr ⟨Finset.mem_univ _, lt_of_not_ge fun hki => hk ?_⟩
      exact (hg' k i hki).trans (Finset.mem_filter.mp hi).2
    have := Finset.card_le_card hs
    rw [hc _ k.isLt.le] at this
    omega

/-- The row: `j` at the members, `n` elsewhere. -/
def row (j : Fin n) : ℕ := if p j then j.val else n

/-- An ascending arrangement of the row is the list. -/
theorem arranged (σ : Fin n → Fin n) (hσ : Function.Bijective σ) (hm : ∀ i j, i < j → row p (σ i) ≤ row p (σ j)) (k : Fin n) :
    row p (σ k) = listed p k.val := by
  refine listed_eq p (lt_of_le_of_lt (Nat.zero_le _) k.isLt) ?_ fun x hx => ?_
  · unfold row
    split
    · exact (σ k).isLt.le
    · exact le_refl _
  · rw [le_iff_lt_card (fun i => row p (σ i)) hm k x]
    have : (Finset.univ.filter fun i => row p (σ i) ≤ x).card = below p (x + 1) := by
      refine Finset.card_bij (fun i _ => σ i) ?_ (fun a _ b _ h => hσ.1 h) ?_
      · intro i hi
        have hi := (Finset.mem_filter.mp hi).2
        unfold row at hi
        refine Finset.mem_filter.mpr ⟨Finset.mem_univ _, ?_⟩
        split at hi
        · rename_i h; exact ⟨h, by omega⟩
        · omega
      · intro j hj
        obtain ⟨i, rfl⟩ := hσ.2 j
        obtain ⟨h1, h2⟩ := (Finset.mem_filter.mp hj).2
        refine ⟨i, Finset.mem_filter.mpr ⟨Finset.mem_univ _, ?_⟩, rfl⟩
        show row p (σ i) ≤ x
        unfold row
        rw [if_pos h1]
        omega
    rw [this]

end Cert.Proof.BestOrder
-- ==== Proof.BestRank.lean ====
/-
  The kernel's ranking at the extended reals: out of the table of squared errors it marks the best candidate's inliers, counts for each
  point the marks up to it by a product with the triangle of ones, and puts at place `k` the sum of the marked points whose count is
  `k + 1`. That is the list of the inliers' numbers in order.
-/
module

public import proofs.«01_k».proof.Proof.BestTable
public import proofs.«01_k».proof.Proof.BestKernel
public import proofs.«01_k».proof.Proof.BestOrder
public import Idealize.ShloMosaic.Lib.MatmulPlain
public import Idealize.ShloMosaic.Lib.IdealHost
public import Idealize.ShloMosaic.Lib.WritesUnit
public import Idealize.ShloMosaic.Lib.Pipeline.ValueKit

@[expose] public section

set_option maxRecDepth 16384

noncomputable section

namespace Cert.Proof.BestRank

open Cert.BestIdeal Cert.BestIdeal.Gen
open Idealize.ShloMosaic hiding ix1 ix2 ix3
open Idealize.ShloMosaic.TcCoe Idealize.SL.Sem
open Idealize.ShloMosaic.ValueIdx (ix1 ix2 ix3)
open Cert.Proof.BestSpec
open Cert.Proof.BestOrder

/-! ## Words and comparisons as propositions -/

theorem select_decide {α : Type} (P : Prop) [Decidable P] (a b : α) : Scalar.select (BitVec.ofBool (decide P)) a b = if P then a else b := by
  by_cases h : P <;> simp [Scalar.select, h]

theorem word_inj (i j : Fin 512) : BitVec.ofNat 32 i.val = BitVec.ofNat 32 j.val ↔ i = j := by
  constructor
  · intro h
    have := congrArg BitVec.toInt h
    rw [ofNat_toInt, ofNat_toInt] at this
    exact Fin.ext (by exact_mod_cast this)
  · rintro rfl; rfl

theorem eq_decide (i j : Fin 512) : IntOp.cmpi .eq (BitVec.ofNat 32 i.val) (BitVec.ofNat 32 j.val) = BitVec.ofBool (decide (i = j)) := by
  show BitVec.ofBool (_ == _) = _
  by_cases h : i = j
  · subst h; simp
  · rw [decide_eq_false h, beq_eq_false_iff_ne.mpr fun h' => h ((word_inj i j).mp h')]

theorem ne_decide (i j : Fin 512) : IntOp.cmpi .ne (BitVec.ofNat 32 i.val) (BitVec.ofNat 32 j.val) = BitVec.ofBool (decide (i ≠ j)) := by
  show BitVec.ofBool (_ != _) = _
  by_cases h : i = j
  · subst h; simp
  · rw [decide_eq_true h, bne_iff_ne.mpr fun h' => h ((word_inj i j).mp h')]

theorem sle_decide (i j : Fin 512) : IntOp.cmpi .sle (BitVec.ofNat 32 i.val) (BitVec.ofNat 32 j.val) = BitVec.ofBool (decide (i ≤ j)) := by
  show BitVec.ofBool (BitVec.sle _ _) = _
  rw [BitVec.sle_eq_decide, ofNat_toInt, ofNat_toInt]
  congr 1
  exact decide_eq_decide.mpr (by rw [Int.ofNat_le]; rfl)

theorem word_toInt (k : ℕ) (hk : k ≤ 512) : (BitVec.ofNat 32 k).toInt = k := by
  rw [BitVec.toInt_eq_toNat_cond, BitVec.toNat_ofNat, Nat.mod_eq_of_lt (by omega)]; split <;> omega

theorem number_word (k : ℕ) (hk : k ≤ 512) : FloatOps.sitofp (F := Ideal) .f32 (BitVec.ofNat 32 k) = ((k : ℕ) : EReal) := by
  show (((BitVec.ofNat 32 k).toInt : ℝ) : EReal) = _
  rw [word_toInt k hk, Int.cast_natCast]
  rfl

theorem number_mark (P : Prop) [Decidable P] : FloatOps.sitofp (F := Ideal) .f32 ((BitVec.ofBool (decide P)).setWidth 32) = if P then (1 : EReal) else 0 := by
  show ((((BitVec.ofBool (decide P)).setWidth 32).toInt : ℝ) : EReal) = _
  by_cases h : P
  · rw [decide_eq_true h, if_pos h]
    have : ((BitVec.ofBool true).setWidth 32).toInt = 1 := by decide
    rw [this]; simp
  · rw [decide_eq_false h, if_neg h]
    have : ((BitVec.ofBool false).setWidth 32).toInt = 0 := by decide
    rw [this]; simp

theorem word_number (k : ℕ) (hk : k ≤ 512) : FloatOps.fptosi (F := Ideal) (φ := .f32) 32 ((k : ℕ) : EReal) = BitVec.ofNat 32 k := by
  show Ideal.fptosi 32 (((k : ℕ) : ℝ) : EReal) = _
  rw [Ideal.fptosi, Ideal.toIntClamped_coe, if_pos (Nat.cast_nonneg k), Int.floor_natCast]
  have h2 : max (-((2 ^ (32 - 1) : ℕ) : ℤ)) (min (((2 ^ (32 - 1) : ℕ) : ℤ) - 1) (k : ℤ)) = k := by
    have h : (((2 ^ (32 - 1) : ℕ) : ℤ)) = 2147483648 := by norm_num
    rw [h]; omega
  rw [h2, BitVec.ofInt_natCast]

theorem number_inj (a b : ℕ) : (((a : ℕ) : EReal) = ((b : ℕ) : EReal)) ↔ a = b := Nat.cast_inj
theorem number_lt (a b : ℕ) : (((a : ℕ) : EReal) < ((b : ℕ) : EReal)) ↔ a < b := by
  show (((a : ℝ) : EReal) < ((b : ℝ) : EReal)) ↔ _
  rw [EReal.coe_lt_coe_iff, Nat.cast_lt]
theorem number_le (a b : ℕ) : (((a : ℕ) : EReal) ≤ ((b : ℕ) : EReal)) ↔ a ≤ b := by
  rw [← not_lt, number_lt, not_lt]

theorem eq_number (a b : ℕ) : FloatOps.cmpf (F := Ideal) (φ := .f32) .oeq ((a : ℕ) : EReal) ((b : ℕ) : EReal) = BitVec.ofBool (decide (a = b)) := by
  show BitVec.ofBool (decide (((a : ℕ) : EReal) = ((b : ℕ) : EReal))) = _
  by_cases h : a = b
  · rw [decide_eq_true h, decide_eq_true ((number_inj a b).mpr h)]
  · rw [decide_eq_false h, decide_eq_false fun h' => h ((number_inj a b).mp h')]
theorem lt_number (a b : ℕ) : FloatOps.cmpf (F := Ideal) (φ := .f32) .olt ((a : ℕ) : EReal) ((b : ℕ) : EReal) = BitVec.ofBool (decide (a < b)) := by
  show BitVec.ofBool (decide (((a : ℕ) : EReal) < ((b : ℕ) : EReal))) = _
  by_cases h : a < b
  · rw [decide_eq_true h, decide_eq_true ((number_lt a b).mpr h)]
  · rw [decide_eq_false h, decide_eq_false fun h' => h ((number_lt a b).mp h')]

theorem last_eq : Scalar.ofBits (F := Ideal) .f32 0x44000000#32 = ((512 : ℕ) : EReal) := by
  show Ideal.ofBits .f32 0x44000000#32 = _
  simp [Ideal.ofBits, Ideal.ieee]
  rw [← EReal.coe_mul]
  norm_num
  rfl

theorem one_eq : one = (1 : EReal) := Ideal.ofBits_one_f32

theorem cmpf_at {s : Shape} (c : CmpFPredicate) (v : IVec s 32) (t : Ideal .f32) (i : s.Idx) :
    cmpf c (sitofp (F := Ideal) .f32 v) (broadcast s t) i = FloatOps.cmpf (F := Ideal) (φ := .f32) c (FloatOps.sitofp (F := Ideal) .f32 (v i)) t := rfl
theorem integer_at {s : Shape} (c : IVec s 1) (x : FVec Ideal s .f32) (t : Ideal .f32) (i : s.Idx) :
    fptosi 32 (select c x (broadcast s t)) i = FloatOps.fptosi (F := Ideal) (φ := .f32) 32 (Scalar.select (c i) (x i) t) := rfl

/-- A maximum that is attained. -/
theorem fold_attained {ι : Type} (s : Finset ι) (f : ι → Ideal .f32) (y : Ideal .f32) (hle : ∀ i ∈ s, (f i : EReal) ≤ y) (hex : ∃ i ∈ s, f i = y) :
    s.fold FloatOps.maximumf low f = y := by
  have e : s.fold FloatOps.maximumf low f = s.fold (max : EReal → EReal → EReal) low f := rfl
  rw [e]
  obtain ⟨i, hi, h⟩ := hex
  refine le_antisymm (α := EReal) ((Finset.fold_max_le _).mpr ⟨?_, hle⟩) ((Finset.le_fold_max _).mpr (.inr ⟨i, hi, h.ge⟩))
  rw [low_eq]; exact bot_le

/-! ## The three tables -/

theorem triangle_apply (i j : Fin 512) : (k0_pay2 : FVec Ideal S512x512 .f32) (ix2 i j) = if j ≤ i then (1 : EReal) else 0 := by
  have h : (k0_pay2 : FVec Ideal S512x512 .f32) = sitofp .f32 (extui 32 (cmpi .sle (iota .tc S512x512 32 [1] iota_S512x512_d1_w32) (iota .tc S512x512 32 [0] iota_S512x512_d0_w32)) natLt_1_32) :=
    shapeCast_self _ _
  rw [h]
  show FloatOps.sitofp .f32 ((IntOp.cmpi .sle (iota .tc S512x512 32 [1] iota_S512x512_d1_w32 (ix2 i j)) (iota .tc S512x512 32 [0] iota_S512x512_d0_w32 (ix2 i j))).setWidth 32) = _
  rw [iota_single_apply, iota_single_apply]
  exact (congrArg (fun v : BitVec 1 => FloatOps.sitofp (F := Ideal) .f32 (v.setWidth 32)) (sle_decide j i)).trans (number_mark _)

theorem columns_apply (i k : Fin 512) : (k0_pay3 : FVec Ideal S512x512 .f32) (ix2 i k) = ((k.val + 1 : ℕ) : EReal) := by
  have h : (k0_pay3 : FVec Ideal S512x512 .f32) = sitofp .f32 (addi (iota .tc S512x512 32 [1] iota_S512x512_d1_w32) (broadcast S512x512 1#32)) := shapeCast_self _ _
  rw [h]
  show FloatOps.sitofp .f32 (iota .tc S512x512 32 [1] iota_S512x512_d1_w32 (ix2 i k) + 1#32) = _
  rw [iota_single_apply]
  have h1 : BitVec.ofNat 32 k.val + 1#32 = BitVec.ofNat 32 (k.val + 1) := (BitVec.ofNat_add _ _).symm
  exact (congrArg (fun v : BitVec 32 => FloatOps.sitofp (F := Ideal) .f32 v) h1).trans (number_word _ (by omega))

theorem rows_apply (i k : Fin 512) : (k0_pay4 : FVec Ideal S512x512 .f32) (ix2 i k) = ((i.val : ℕ) : EReal) := by
  have h : (k0_pay4 : FVec Ideal S512x512 .f32) = sitofp .f32 (iota .tc S512x512 32 [0] iota_S512x512_d0_w32) := shapeCast_self _ _
  rw [h]
  show FloatOps.sitofp .f32 (iota .tc S512x512 32 [0] iota_S512x512_d0_w32 (ix2 i k)) = _
  rw [iota_single_apply]
  exact number_word _ i.isLt.le

/-! ## The steps of the ranking -/

/-- Whether each point is an inlier of the chosen candidate, as a number. -/
def flagged (sel : IVec S1x512 1) (T : FVec Ideal S512x512 .f32) : FVec Ideal S512x1 .f32 :=
  shapeCast S512x1 (multiReduction .maximumf [1] S512
    (select (broadcastTo S512x512 (shapeCast S1x512 sel shapeCasts_S1x512_S1x512) broadcasts_S1x512_S512x512)
      (sitofp .f32 (extui 32 (cmpf .ole T (broadcast S512x512 (Scalar.ofBits .f32 0x41C80001#32))) natLt_1_32))
      (broadcast S512x512 (Scalar.ofBits .f32 0x00000000#32))) 0xFF800000#32 reduces_S512x512_S512 (.inl rfl) rfl) shapeCasts_S512_S512x1
/-- The candidate itself taken out. -/
def marked (b : BitVec 32) (f : FVec Ideal S512x1 .f32) : FVec Ideal S512x1 .f32 :=
  select (cmpi .eq (iota .tc S512x1 32 [0] iota_S512x1_d0_w32) (broadcast S512x1 b)) (broadcast S512x1 (Scalar.ofBits .f32 0x00000000#32)) f
/-- The number of marks up to each point. -/
def upTo (L : FVec Ideal S512x512 .f32) (w : FVec Ideal S512x1 .f32) : FVec Ideal S512x1 .f32 :=
  matmul dot_S512x512_S512x1_S512x1_1_0_0_1_n_n none L w (constant S512x1 .f32 0x00000000#32)
/-- The number of marks. -/
def total (u : FVec Ideal S512x1 .f32) : Ideal .f32 :=
  extractAt ![0, 0, 0] (shapeCast S1x1x1 (multiReduction .maximumf [1, 2] S1 (shapeCast S1x512x1 u shapeCasts_S512x1_S1x512x1) 0xFF800000#32 reduces_S1x512x1_S1 (.inl rfl) rfl)
    shapeCasts_S1_S1x1x1) inpos_S1x1x1_p0_0_0
/-- The sum of the marked points whose count is the column's. -/
def summed (u w : FVec Ideal S512x1 .f32) (C R : FVec Ideal S512x512 .f32) : FVec Ideal S1x512 .f32 :=
  shapeCast S1x512 (multiReduction .add [0] S512 (mulf (select (andi (cmpf .oeq (broadcastTo S512x512 u broadcasts_S512x1_S512x512) C)
    (broadcastTo S512x512 (cmpf .ogt w (broadcast S512x1 (Scalar.ofBits .f32 0x00000000#32))) broadcasts_S512x1_S512x512))
    (broadcast S512x512 (Scalar.ofBits .f32 0x3F800000#32)) (broadcast S512x512 (Scalar.ofBits .f32 0x00000000#32))) R)
    0x00000000#32 reduces_S512x512_S512_2 (.inl rfl) rfl) shapeCasts_S512_S1x512

theorem steps (v577 : IVec S1x512 32) (b : BitVec 32) (sel : IVec S1x512 1) (T L C R : FVec Ideal S512x512 .f32) :
    k0_pay83 (F := Ideal) v577 b sel T k0_pay82 L C R
      = fptosi 32 (select (cmpf .olt (sitofp .f32 v577) (broadcast S1x512 (total (upTo L (marked b (flagged sel T))))))
          (summed (upTo L (marked b (flagged sel T))) (marked b (flagged sel T)) C R) (broadcast S1x512 (Scalar.ofBits .f32 0x44000000#32))) := rfl

/-- The inliers of candidate `b`. -/
def inlier (B : Batch) (b j : Fin 512) : Prop := (B.sq b j : EReal) ≤ bound ∧ b ≠ j

instance (B : Batch) (b : Fin 512) : DecidablePred (inlier B b) := fun j => Classical.propDecidable _

/-- The list of their numbers. -/
def number (B : Batch) (b : Fin 512) (k : ℕ) : BitVec 32 := BitVec.ofNat 32 (listed (inlier B b) k)

section Rank

variable (B : Batch) (b : Fin 512) (T : FVec Ideal S512x512 .f32) (hT : ∀ i j : Fin 512, T (ix2 j i) = B.sq i j)
variable (sel : IVec S1x512 1) (hsel : ∀ i : Fin 512, sel (ix2 0 i) = IntOp.cmpi .eq (BitVec.ofNat 32 i.val) (BitVec.ofNat 32 b.val))

include hT hsel in
theorem flagged_apply (j : Fin 512) : flagged sel T (ix2 j 0) = if (B.sq b j : EReal) ≤ bound then (1 : EReal) else 0 := by
  classical
  unfold flagged
  refine (shapeCast_apply _ _ _ (ix1 j) (by simp only [Shape.rowMajor_val_two, Shape.rowMajor_val_one]; show j.val = j.val * 1 + 0; omega)).trans ?_
  refine (Ideal.multiReduction_maximumf_single _ _ _ _ _ _).trans ?_
  have hv : ∀ i : Fin 512, (select (broadcastTo S512x512 (shapeCast S1x512 sel shapeCasts_S1x512_S1x512) broadcasts_S1x512_S512x512)
      (sitofp .f32 (extui 32 (cmpf .ole T (broadcast S512x512 (Scalar.ofBits .f32 0x41C80001#32))) natLt_1_32))
      (broadcast S512x512 (Scalar.ofBits .f32 0x00000000#32)) : FVec Ideal S512x512 .f32) (reduces_S512x512_S512.lift (ix1 j) i)
        = if i = b then (if (B.sq i j : EReal) ≤ bound then (1 : EReal) else 0) else 0 := by
    intro i
    have hl : reduces_S512x512_S512.lift (ix1 j) i = ix2 j i := by
      funext a
      match a with
      | ⟨0, _⟩ => rfl
      | ⟨1, _⟩ => rfl
    rw [hl]
    show Scalar.select (broadcastTo S512x512 (shapeCast S1x512 sel shapeCasts_S1x512_S1x512) broadcasts_S1x512_S512x512 (ix2 j i))
      (FloatOps.sitofp .f32 ((FloatOps.cmpf .ole (T (ix2 j i)) bound).setWidth 32)) zero = _
    rw [broadcastTo_apply _ _ _ (ix2 0 i) (fun a => match a with | ⟨0, _⟩ => rfl | ⟨1, _⟩ => rfl), shapeCast_self, hsel, hT, eq_decide, select_decide, zero_eq]
    exact if_congr Iff.rfl (number_mark _) rfl
  refine fold_attained (Finset.univ : Finset (Fin 512)) _ _ (fun i _ => ?_) ⟨b, Finset.mem_univ _, (hv b).trans (if_pos rfl)⟩
  refine (hv i).le.trans ?_
  by_cases h : i = b
  · rw [if_pos h, h]
  · rw [if_neg h]
    split
    · exact zero_le_one
    · exact le_refl _

include hT hsel in
theorem marked_apply (j : Fin 512) : marked (BitVec.ofNat 32 b.val) (flagged sel T) (ix2 j 0) = if inlier B b j then (1 : EReal) else 0 := by
  show Scalar.select (IntOp.cmpi .eq (iota .tc S512x1 32 [0] iota_S512x1_d0_w32 (ix2 j 0)) (BitVec.ofNat 32 b.val)) zero (flagged sel T (ix2 j 0)) = _
  rw [iota_single_apply, flagged_apply B b T hT sel hsel]
  refine (congrArg (fun v : BitVec 1 => Scalar.select v zero _) (eq_decide j b)).trans ((select_decide _ _ _).trans ?_)
  by_cases h : j = b
  · rw [if_pos h, if_neg fun h' : inlier B b j => h'.2 h.symm]; exact zero_eq
  · rw [if_neg h]
    exact if_congr (⟨fun h' => ⟨h', Ne.symm h⟩, fun h' => h'.1⟩ : _ ↔ inlier B b j) rfl rfl

variable (L C R : FVec Ideal S512x512 .f32) (hL : ∀ i j : Fin 512, L (ix2 i j) = if j ≤ i then (1 : EReal) else 0)
  (hC : ∀ i k : Fin 512, C (ix2 i k) = ((k.val + 1 : ℕ) : EReal)) (hR : ∀ i k : Fin 512, R (ix2 i k) = ((i.val : ℕ) : EReal))
variable (w : FVec Ideal S512x1 .f32) (p : Fin 512 → Prop) [DecidablePred p] (hw : ∀ j, w (ix2 j 0) = if p j then (1 : EReal) else 0)

include hL hw in
theorem upTo_apply (i : Fin 512) : upTo L w (ix2 i 0) = ((below p (i.val + 1) : ℕ) : EReal) := by
  unfold upTo
  refine (Ideal.matmul_plain_apply (M := 512) (K := 512) (N := 1) none L w (constant S512x1 .f32 0x00000000#32) i 0).trans ?_
  have h0 : (constant S512x1 .f32 0x00000000#32 : FVec Ideal S512x1 .f32) (ix2 i 0) = (0 : EReal) := zero_eq
  rw [h0, zero_add]
  unfold below
  rw [Finset.card_filter, Nat.cast_sum]
  refine Finset.sum_congr rfl fun j _ => ?_
  rw [hL, hw]
  have e : (p j ∧ j.val < i.val + 1) ↔ (j ≤ i ∧ p j) := ⟨fun h => ⟨Nat.le_of_lt_succ h.2, h.1⟩, fun h => ⟨h.2, Nat.lt_succ_of_le h.1⟩⟩
  rw [if_congr e rfl rfl]
  by_cases h1 : j ≤ i <;> by_cases h2 : p j <;> simp [h1, h2]

include hL hw in
theorem total_apply : total (upTo L w) = ((below p 512 : ℕ) : EReal) := by
  unfold total
  rw [BestKernel.only_apply]
  refine (multiReduction_maximumf_eq_fold _ _ _ _ _ _).trans ?_
  have hi : ∀ (a : Fin 1) (i : Fin 512) (c : Fin 1), shapeCast S1x512x1 (upTo L w) shapeCasts_S512x1_S1x512x1 (ix3 a i c) = ((below p (i.val + 1) : ℕ) : EReal) := by
    intro a i c
    refine (shapeCast_apply _ _ _ (ix2 i 0) ?_).trans (upTo_apply L hL w p hw i)
    simp only [Shape.rowMajor_val_three, Shape.rowMajor_val_two]
    show i.val * 1 + 0 = (a.val * 512 + i.val) * 1 + c.val
    omega
  have hv : ∀ y : S1x512x1.Idx, shapeCast S1x512x1 (upTo L w) shapeCasts_S512x1_S1x512x1 y = ((below p ((y 1).val + 1) : ℕ) : EReal) := fun y =>
    (congrArg _ (ValueIdx.eq_ix3 y)).trans (hi (y 0) (y 1) (y 2))
  refine fold_attained _ _ _ (fun y _ => (hv y).le.trans ((number_le _ _).mpr (below_mono p (y 1).isLt))) ⟨ix3 0 ⟨511, by decide⟩ 0, ?_, hv _⟩
  refine Finset.mem_filter.mpr ⟨Finset.mem_univ _, ?_⟩
  funext a
  match a with
  | ⟨0, _⟩ => exact Fin.ext (by have := (reduces_S1x512x1_S1.drop (ix3 0 ⟨511, by decide⟩ 0) (0 : Fin 1)).isLt; exact Nat.lt_one_iff.mp this)

include hL hC hR hw in
theorem summed_apply (k : Fin 512) (hk : k.val < below p 512) : summed (upTo L w) w C R (ix2 0 k) = ((listed p k.val : ℕ) : EReal) := by
  unfold summed
  refine (shapeCast_apply _ _ _ (ix1 k) (by simp only [Shape.rowMajor_val_one, Shape.rowMajor_val_two]; show k.val = 0 * 512 + k.val; omega)).trans ?_
  refine (Ideal.multiReduction_add_single _ _ _ _ _ _).trans ?_
  obtain ⟨j, hj, hb⟩ := exists_member p hk
  have hv : ∀ i : Fin 512, (mulf (select (andi (cmpf .oeq (broadcastTo S512x512 (upTo L w) broadcasts_S512x1_S512x512) C)
    (broadcastTo S512x512 (cmpf .ogt w (broadcast S512x1 (Scalar.ofBits .f32 0x00000000#32))) broadcasts_S512x1_S512x512))
    (broadcast S512x512 (Scalar.ofBits .f32 0x3F800000#32)) (broadcast S512x512 (Scalar.ofBits .f32 0x00000000#32))) R : FVec Ideal S512x512 .f32) (reduces_S512x512_S512_2.lift (ix1 k) i)
      = if below p (i.val + 1) = k.val + 1 ∧ p i then ((i.val : ℕ) : EReal) else 0 := by
    intro i
    have hl : reduces_S512x512_S512_2.lift (ix1 k) i = ix2 i k := by
      funext a
      match a with
      | ⟨0, _⟩ => rfl
      | ⟨1, _⟩ => rfl
    rw [hl]
    have h1 : broadcastTo S512x512 (upTo L w) broadcasts_S512x1_S512x512 (ix2 i k) = ((below p (i.val + 1) : ℕ) : EReal) :=
      (broadcastTo_apply _ _ _ (ix2 i 0) (fun a => match a with | ⟨0, _⟩ => rfl | ⟨1, _⟩ => rfl)).trans (upTo_apply L hL w p hw i)
    have h2 : broadcastTo S512x512 (cmpf .ogt w (broadcast S512x1 (Scalar.ofBits .f32 0x00000000#32))) broadcasts_S512x1_S512x512 (ix2 i k) = BitVec.ofBool (decide (p i)) := by
      refine (broadcastTo_apply _ _ _ (ix2 i 0) (fun a => match a with | ⟨0, _⟩ => rfl | ⟨1, _⟩ => rfl)).trans ?_
      show BitVec.ofBool (decide ((zero : EReal) < w (ix2 i 0))) = _
      rw [hw, zero_eq]
      by_cases h : p i <;> simp [h]
    show (FloatOps.mulf (Scalar.select (IntOp.andi (FloatOps.cmpf .oeq (broadcastTo S512x512 (upTo L w) broadcasts_S512x1_S512x512 (ix2 i k)) (C (ix2 i k)))
      (broadcastTo S512x512 (cmpf .ogt w (broadcast S512x1 (Scalar.ofBits .f32 0x00000000#32))) broadcasts_S512x1_S512x512 (ix2 i k))) one zero) (R (ix2 i k)) : Ideal .f32) = _
    rw [h1, h2, hC, hR]
    have h3 : IntOp.andi (FloatOps.cmpf (F := Ideal) (φ := .f32) .oeq ((below p (i.val + 1) : ℕ) : EReal) ((k.val + 1 : ℕ) : EReal)) (BitVec.ofBool (decide (p i)))
        = BitVec.ofBool (decide (below p (i.val + 1) = k.val + 1 ∧ p i)) := by
      rw [eq_number]
      show _ &&& _ = _
      by_cases h : below p (i.val + 1) = k.val + 1 <;> by_cases h' : p i <;> simp [h, h']
    rw [h3, select_decide, zero_eq, one_eq]
    show (ite _ _ _ * _ : EReal) = _
    split <;> simp
  refine (Finset.sum_congr rfl (fun i _ => hv i)).trans ?_
  refine (Finset.sum_eq_single (M := EReal) j ?_ ?_).trans ?_
  · intro i _ hi
    rw [if_neg]
    rintro ⟨h1, h2⟩
    rw [below_member p i h2] at h1
    have e1 := listed_member p i h2
    have e2 := listed_member p j hj
    have : below p i.val = below p j.val := by omega
    rw [this, ← e2] at e1
    exact hi (Fin.ext e1)
  · exact fun h => absurd (Finset.mem_univ _) h
  · rw [if_pos ⟨by rw [below_member p j hj, hb], hj⟩, ← hb, ← listed_member p j hj]

include hL hC hR hw in
theorem ranked_of (k : Fin 512) : fptosi 32 (select (cmpf .olt (sitofp (F := Ideal) .f32 (iota .tc S1x512 32 [1] iota_S1x512_d1_w32)) (broadcast S1x512 (total (upTo L w))))
    (summed (upTo L w) w C R) (broadcast S1x512 (Scalar.ofBits .f32 0x44000000#32))) (ix2 0 k) = BitVec.ofNat 32 (listed p k.val) := by
  have hi : FloatOps.sitofp (F := Ideal) .f32 (iota .tc S1x512 32 [1] iota_S1x512_d1_w32 (ix2 0 k)) = ((k.val : ℕ) : EReal) := by
    rw [iota_single_apply]; exact number_word _ k.isLt.le
  have hc : cmpf .olt (sitofp (F := Ideal) .f32 (iota .tc S1x512 32 [1] iota_S1x512_d1_w32)) (broadcast S1x512 (total (upTo L w))) (ix2 0 k) = BitVec.ofBool (decide (k.val < below p 512)) := by
    rw [cmpf_at, hi, total_apply L hL w p hw, lt_number]
  rw [integer_at, hc, select_decide, last_eq]
  by_cases h : k.val < below p 512
  · rw [if_pos h, summed_apply L C R hL hC hR w p hw k h]
    obtain ⟨j, hj, hb⟩ := exists_member p h
    refine word_number _ ?_
    rw [← hb, ← listed_member _ j hj]
    exact j.isLt.le
  · rw [if_neg h]
    refine (word_number 512 (le_refl _)).trans (congrArg (BitVec.ofNat 32) ?_)
    exact listed_over p (Nat.succ_pos _) h

include hT hsel hL hC hR in
/-- The ranking's result. -/
theorem ranked (k : Fin 512) : k0_pay83 (F := Ideal) (iota .tc S1x512 32 [1] iota_S1x512_d1_w32) (BitVec.ofNat 32 b.val) sel T k0_pay82 L C R (ix2 0 k) = number B b k.val := by
  refine (congrFun (steps _ _ _ _ _ _ _) _).trans ?_
  exact ranked_of L C R hL hC hR _ (inlier B b) (marked_apply B b T hT sel hsel) k

end Rank

/-! ## The table and the result at a point -/

section Point

variable {B : Batch} {x0 x1 : Vec Ideal S1x2x512 .f32} {x2 x3 : Vec Ideal S1x512x2 .f32} {x4 : Vec Ideal S1x512x1 .f32} {x5 x6 x7 : Vec Ideal S1x1x512 .f32}
variable (H : BestKernel.Holds B x0 x1 x2 x3 x4 x5 x6 x7)

include H

theorem band_apply (q : ℕ) (hq : q < 8) (h0 h1) (r : Fin 64) (i : Fin 512) :
    BestBody.band (BestBody.maps x0 x1 x5 x6 x7) x2 x3 (64 * q) h0 h1 (ix2 r i) = B.sq i (slot q hq r) := by
  unfold BestBody.band
  rw [shapeCast_self]
  exact BestKernel.squares_apply (B := B) _ _ _ _ _ r i (slot q hq r)
      (BestKernel.maps_a H i) (BestKernel.maps_n H i) (BestKernel.maps_p H i) (BestKernel.maps_u H i) (BestKernel.maps_v H i)
      ((BestKernel.piece_apply x2 q hq 0 _ rfl h0 r).trans (H.h2 _ _)) ((BestKernel.piece_apply x2 q hq 1 _ rfl h1 r).trans (H.h2 _ _))
      ((BestKernel.piece_apply x3 q hq 0 _ rfl h0 r).trans (H.h3 _ _)) ((BestKernel.piece_apply x3 q hq 1 _ rfl h1 r).trans (H.h3 _ _))

/-- One stored run of rows read back. -/
theorem stored_apply (v : View sig .tc .vmem S512x512 .f32) (f : v.ty.Contents (Elt Ideal)) (q : ℕ) (hq : q < 8) (k : ℕ) (hk : k = 64 * q) (h0 h1)
    (inb : ∀ a : Fin 2, ![k, 0] a + ![64, 512] a ≤ ![512, 512] a) (L : List (View.Piece (Elt Ideal) S512x512 .f32)) (j i : Fin 512) :
    v.read (Elt Ideal) (v.writes (Elt Ideal) f
        ((⟨Rect.unit (s := S512x512) ![k, 0] ![64, 512] inb, BestBody.band (BestBody.maps x0 x1 x5 x6 x7) x2 x3 k h0 h1⟩ : View.Piece (Elt Ideal) S512x512 .f32) :: L)) (ix2 j i)
      = if 64 * q ≤ j.val ∧ j.val < 64 * q + 64 then B.sq i j else v.read (Elt Ideal) (v.writes (Elt Ideal) f L) (ix2 j i) := by
  subst hk
  by_cases h : 64 * q ≤ j.val ∧ j.val < 64 * q + 64
  · rw [if_pos h]
    refine (View.read_writes_cons_rows_of_mem (d := ![512, 512]) (o := 64 * q) v f inb _ L (ix2 j i) (ix2 (⟨j.val - 64 * q, by omega⟩ : Fin 64) i) rfl ?_ rfl).trans ?_
    · show j.val = 64 * q + (j.val - 64 * q); omega
    · refine (band_apply H q hq h0 h1 _ i).trans (congrArg (B.sq i) (Fin.ext ?_))
      show 64 * q + (j.val - 64 * q) = j.val; omega
  · rw [if_neg h]
    exact View.read_writes_cons_rows_of_not_mem (d := ![512, 512]) (o := 64 * q) (W := 64) v f inb _ L (ix2 j i) rfl rfl (by show j.val < 64 * q ∨ 64 * q + 64 ≤ j.val; omega)

theorem table_apply (v : View sig .tc .vmem S512x512 .f32) (i j : Fin 512) :
    BestBody.table v (BestBody.maps x0 x1 x5 x6 x7) x2 x3 (ix2 j i) = B.sq i j := by
  have hy : (Rect.unit (s := S512x512) ![0, 0] ![512, 512] inb_S512x512_S512x512_0_0).toLoadRect.idx (ix2 j i) = ix2 j i := by
    funext a
    match a with
    | ⟨0, _⟩ => exact Fin.ext (by show 0 + 1 * j.val = j.val; omega)
    | ⟨1, _⟩ => exact Fin.ext (by show 0 + 1 * i.val = i.val; omega)
  unfold BestBody.table
  refine (congrArg (v.read (Elt Ideal) (v.writes (Elt Ideal) v.junk _)) hy).trans ?_
  rw [stored_apply H v _ 7 (by omega) 448 rfl, stored_apply H v _ 6 (by omega) 384 rfl, stored_apply H v _ 5 (by omega) 320 rfl, stored_apply H v _ 4 (by omega) 256 rfl,
    stored_apply H v _ 3 (by omega) 192 rfl, stored_apply H v _ 2 (by omega) 128 rfl, stored_apply H v _ 1 (by omega) 64 rfl, stored_apply H v _ 0 (by omega) 0 rfl]
  have := j.isLt
  split_ifs <;> first | rfl | omega

/-- The third result at a point. -/
theorem out10_apply (v : View sig .tc .vmem S512x512 .f32) (b : Fin 512) (hb : best B.score = BitVec.ofNat 32 b.val) (k : Fin 512) :
    BestBody.out10 v k0_pay2 k0_pay3 k0_pay4 x0 x1 x2 x3 x4 x5 x6 x7 (ix3 0 0 k) = number B b k.val := by
  have hs : (fun k => BestBody.scores (BestBody.maps x0 x1 x5 x6 x7) x2 x3 x4 (ix2 0 k)) = B.score := funext fun k => BestKernel.scores_apply H k
  unfold BestBody.out10
  unfold k0_pay1
  refine (BestKernel.raised_apply _ k).trans ?_
  dsimp only
  rw [BestKernel.best_apply, hs, hb]
  refine ranked B b _ (fun i j => table_apply H v i j) _ (fun i => ?_) _ _ _ triangle_apply columns_apply rows_apply k
  show IntOp.cmpi .eq (iota .tc S1x512 32 [1] iota_S1x512_d1_w32 (ix2 0 i)) _ = _
  rw [iota_single_apply]
  rfl

end Point

end Cert.Proof.BestRank

end
-- ==== Proof.BestSorted.lean ====
/-
  The third result of the best map's reference: the row of the best candidate, each inlier at its own place and 512 elsewhere, sorted,
  is the list of the inliers' numbers in order.
-/
module

public import proofs.«01_k».proof.Proof.BestRef
public import proofs.«01_k».proof.Proof.BestRank
public import Idealize.ShloMosaic.Lib.SortFacts

@[expose] public section

set_option maxRecDepth 16384

noncomputable section

namespace Cert.Proof.BestRef

open Cert.BestReferenceIdeal Cert.BestReferenceIdeal.Gen
open Idealize.ShloMosaic hiding ix1 ix2 ix3
open Idealize.ShloMosaic.TcCoe Idealize.SL.Sem
open Idealize.ShloMosaic.ValueIdx (ix1 ix2 ix3)
open Cert.Proof.BestSpec
open Cert.Proof.BestOrder (row)
open Cert.Proof.BestRank (inlier number)

section Arrays

variable (X0 X1 : FVec Ideal S16x512x2 .f32) (X2 X3 : FVec Ideal S16x512 .f32) (X4 : FVec Ideal S16x512x2 .f32) (b : Fin 16)

/-- For each candidate its inliers at their own places. -/
def places : S16x512x512.Idx → BitVec 32 :=
  select (andi (cmpf .ole (esq X0 X1 X3 X4) (broadcastInDim S16x512x512 ![] bcast_S_S16x512x512 (constant (F := Ideal) S_ .f32 0x41C80001#32)))
      (broadcastInDim S16x512x512 ![0, 1, 2] bcast_S1x512x512_S16x512x512_0_1_2 (broadcastInDim S1x512x512 ![1, 2] bcast_S512x512_S1x512x512_1_2 differ)))
    (broadcastInDim S16x512x512 ![0, 1, 2] bcast_S1x1x512_S16x512x512_0_1_2 (broadcastInDim S1x1x512 ![2] bcast_S512_S1x1x512_2 (iotaInDim S512 32 0)))
    (broadcastInDim S16x512x512 ![] bcast_S_S16x512x512 (id (constantI S_ 32 512#32)))
/-- Those of the best candidate. -/
def chosen : S16x1x512.Idx → BitVec 32 :=
  Host.gather gather_S16x512x512_S16x1x1_S16x1x512_2_1_0_0_1_2_11512 (places X0 X1 X3 X4) (wrapped X0 X1 X2 X3 X4)
def inlierNumbers : S16x1x512.Idx → BitVec 32 := Host.sort S16x1x512 2 comparator_i32_d2 (chosen X0 X1 X2 X3 X4)

theorem places_apply (i j : Fin 512) : places X0 X1 X3 X4 (ix3 b i j) = BitVec.ofNat 32 (row (inlier (batch X0 X1 X2 X3 X4 b) i) j) := by
  have hd : broadcastInDim S16x512x512 ![0, 1, 2] bcast_S1x512x512_S16x512x512_0_1_2 (broadcastInDim S1x512x512 ![1, 2] bcast_S512x512_S1x512x512_1_2 differ) (ix3 b i j)
      = IntOp.cmpi .ne (BitVec.ofNat 32 i.val) (BitVec.ofNat 32 j.val) :=
    (broadcastInDim_apply _ _ _ _ (ix3 0 i j) (fun a => match a with | ⟨0, _⟩ => rfl | ⟨1, _⟩ => rfl | ⟨2, _⟩ => rfl)).trans
      ((broadcastInDim_apply _ _ _ _ (ix2 i j) (fun a => match a with | ⟨0, _⟩ => rfl | ⟨1, _⟩ => rfl)).trans (differ_apply i j))
  have hj : broadcastInDim S16x512x512 ![0, 1, 2] bcast_S1x1x512_S16x512x512_0_1_2 (broadcastInDim S1x1x512 ![2] bcast_S512_S1x1x512_2 (iotaInDim S512 32 0)) (ix3 b i j) = BitVec.ofNat 32 j.val :=
    (broadcastInDim_apply _ _ _ _ (ix3 0 0 j) (fun a => match a with | ⟨0, _⟩ => rfl | ⟨1, _⟩ => rfl | ⟨2, _⟩ => rfl)).trans
      (broadcastInDim_apply _ _ _ _ (ix1 j) (fun a => match a with | ⟨0, _⟩ => rfl))
  show Scalar.select (IntOp.andi (FloatOps.cmpf .ole (esq X0 X1 X3 X4 (ix3 b i j)) bound) (broadcastInDim S16x512x512 ![0, 1, 2] bcast_S1x512x512_S16x512x512_0_1_2 (broadcastInDim S1x512x512 ![1, 2] bcast_S512x512_S1x512x512_1_2 differ) (ix3 b i j)))
    (broadcastInDim S16x512x512 ![0, 1, 2] bcast_S1x1x512_S16x512x512_0_1_2 (broadcastInDim S1x1x512 ![2] bcast_S512_S1x1x512_2 (iotaInDim S512 32 0)) (ix3 b i j)) 512#32 = _
  rw [hd, hj, esq_apply X0 X1 X2, BestRank.ne_decide]
  unfold row
  by_cases h1 : ((batch X0 X1 X2 X3 X4 b).sq i j : EReal) ≤ bound
  · have e1 : FloatOps.cmpf (F := Ideal) (φ := .f32) .ole ((batch X0 X1 X2 X3 X4 b).sq i j) bound = 1#1 := congrArg BitVec.ofBool (decide_eq_true h1)
    rw [e1]
    by_cases h2 : i = j
    · rw [if_neg fun h : inlier (batch X0 X1 X2 X3 X4 b) i j => h.2 h2, decide_eq_false fun h : i ≠ j => h h2]; rfl
    · have hij : inlier (batch X0 X1 X2 X3 X4 b) i j := ⟨h1, h2⟩
      rw [if_pos hij, decide_eq_true h2]; rfl
  · have e1 : FloatOps.cmpf (F := Ideal) (φ := .f32) .ole ((batch X0 X1 X2 X3 X4 b).sq i j) bound = 0#1 := congrArg BitVec.ofBool (decide_eq_false h1)
    rw [e1, if_neg fun h : inlier (batch X0 X1 X2 X3 X4 b) i j => h1 h.1]
    have : ∀ z : BitVec 1, IntOp.andi 0#1 z = 0#1 := by decide
    rw [this]
    rfl

theorem chosen_apply (i : Fin 512) (hi : best (batch X0 X1 X2 X3 X4 b).score = BitVec.ofNat 32 i.val) (j : Fin 512) :
    chosen X0 X1 X2 X3 X4 (ix3 b 0 j) = BitVec.ofNat 32 (row (inlier (batch X0 X1 X2 X3 X4 b) i) j) := by
  refine (gather_row (B := 16) (N := 512) (C := 512) (by omega) gather_S16x512x512_S16x1x1_S16x1x512_2_1_0_0_1_2_11512.wf (places X0 X1 X3 X4) (wrapped X0 X1 X2 X3 X4) b j).trans ?_
  rw [wrapped_index X0 X1 X2 X3 X4 b i hi]
  exact places_apply X0 X1 X2 X3 X4 b i j

theorem row_le {p : Fin 512 → Prop} [DecidablePred p] (j : Fin 512) : row p j ≤ 512 := by
  unfold row
  split
  · exact j.isLt.le
  · exact le_refl _

/-- Which of two places of a row of numbers comes first. -/
theorem before_eq {p : Fin 512 → Prop} [DecidablePred p] (k k' : Fin 512) :
    (comparator_i32_d2 (BitVec.ofNat 32 (row p k)) (BitVec.ofNat 32 (row p k')) == 1#1) = decide (row p k < row p k') := by
  show (BitVec.ofBool (BitVec.slt _ _) == 1#1) = _
  rw [BitVec.slt_eq_decide, BestRank.word_toInt _ (row_le k), BestRank.word_toInt _ (row_le k')]
  by_cases h : row p k < row p k'
  · rw [decide_eq_true h, decide_eq_true (Int.ofNat_lt.mpr h)]; rfl
  · rw [decide_eq_false h, decide_eq_false fun h' => h (Int.ofNat_lt.mp h')]; rfl

theorem inlierNumbers_apply (i : Fin 512) (hi : best (batch X0 X1 X2 X3 X4 b).score = BitVec.ofNat 32 i.val) (k : Fin 512) :
    inlierNumbers X0 X1 X2 X3 X4 (ix3 b 0 k) = number (batch X0 X1 X2 X3 X4 b) i k.val := by
  have ha : ∀ l : Fin 512, (ix3 b 0 k : S16x1x512.Idx).along 2 l = ix3 b 0 l := by
    intro l
    funext a
    match a with
    | ⟨0, _⟩ => rfl
    | ⟨1, _⟩ => rfl
    | ⟨2, _⟩ => rfl
  have hr : (fun l l' : Fin 512 => comparator_i32_d2 (chosen X0 X1 X2 X3 X4 ((ix3 b 0 k : S16x1x512.Idx).along 2 l)) (chosen X0 X1 X2 X3 X4 ((ix3 b 0 k : S16x1x512.Idx).along 2 l')) == 1#1)
      = fun l l' : Fin 512 => decide (row (inlier (batch X0 X1 X2 X3 X4 b) i) l < row (inlier (batch X0 X1 X2 X3 X4 b) i) l') := by
    funext l l'
    rw [ha, ha, chosen_apply X0 X1 X2 X3 X4 b i hi, chosen_apply X0 X1 X2 X3 X4 b i hi, before_eq]
  show chosen X0 X1 X2 X3 X4 ((ix3 b 0 k : S16x1x512.Idx).along 2 (sortedFrom (n := 512)
    (fun l l' => comparator_i32_d2 (chosen X0 X1 X2 X3 X4 ((ix3 b 0 k : S16x1x512.Idx).along 2 l)) (chosen X0 X1 X2 X3 X4 ((ix3 b 0 k : S16x1x512.Idx).along 2 l')) == 1#1) k)) = _
  rw [hr, ha, chosen_apply X0 X1 X2 X3 X4 b i hi]
  refine congrArg (BitVec.ofNat 32) (BestOrder.arranged _ _ ⟨sortedFrom_injective _, sortedFrom_surjective _⟩ (fun x y hxy => ?_) k)
  have h := sortedFrom_noInversion (n := 512) (fun l l' => decide (row (inlier (batch X0 X1 X2 X3 X4 b) i) l < row (inlier (batch X0 X1 X2 X3 X4 b) i) l'))
    (fun l l' => decide (row (inlier (batch X0 X1 X2 X3 X4 b) i) l < row (inlier (batch X0 X1 X2 X3 X4 b) i) l'))
    (fun l l' h => decide_eq_false (not_lt.mpr (of_decide_eq_true h).le)) (fun _ _ h => h)
    (fun l l' l'' h h' => decide_eq_false (not_lt.mpr ((not_lt.mp (of_decide_eq_false h')).trans (not_lt.mp (of_decide_eq_false h))))) x y hxy
  exact not_lt.mp (of_decide_eq_false h)

end Arrays

variable (m : (ℓ : Loc nD τ sig) → Buf (Elt Ideal) ℓ) (c : Dev nD)

theorem run_numbers : Cert.BestReferenceIdeal.Value.res_out2 m c
    = inlierNumbers (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end Cert.Proof.BestRef

end
-- ==== Proof.RefValue.lean ====
/-
  The reference's results, index by index, and its run.
-/
module

public import proofs.«01_k».proof.Proof.Gen.ReferenceIdeal.Run
public import proofs.«01_k».proof.Proof.Spec
public import proofs.«01_k».proof.Proof.BestSorted
public import Idealize.ShloMosaic.Adequacy
public import Idealize.ShloMosaic.Init

@[expose] public section

set_option Elab.async false

noncomputable section

namespace Cert.Proof.RefValue

open Cert.ReferenceIdeal Cert.ReferenceIdeal.Gen
open Idealize.ShloMosaic hiding ix1 ix2 ix3
open Idealize.ShloMosaic.TcCoe Idealize.SL.Sem
open Idealize.ShloMosaic.ValueIdx (ix1 ix2 ix3)
open Cert.Proof.Spec

variable {F : FTy → Type} [FloatOps F]

/-- The numbers, one row for each batch; clipped to the points; and whether they name a point. -/
abbrev numbers (N : S16x1x512.Idx → BitVec 32) : S16x512.Idx → BitVec 32 := shapeCast S16x512 N shapeCasts_S16x1x512_S16x512
abbrev clipped (N : S16x1x512.Idx → BitVec 32) : S16x512.Idx → BitVec 32 :=
  minsi (broadcastInDim S16x512 ![] bcast_S_S16x512 (id (constantI S_ 32 511#32))) (maxsi (broadcastInDim S16x512 ![] bcast_S_S16x512 (id (constantI S_ 32 0#32))) (numbers N))
abbrev names (N : S16x1x512.Idx → BitVec 32) : S16x512.Idx → BitVec 1 :=
  cmpi .slt (numbers N) (broadcastInDim S16x512 ![] bcast_S_S16x512 (constantI S_ 32 512#32))
/-- The clipped numbers, one more axis; negative ones counted from the end. -/
abbrev clipped3 (N : S16x1x512.Idx → BitVec 32) : S16x512x1.Idx → BitVec 32 :=
  broadcastInDim S16x512x1 ![0, 1] bcast_S16x512_S16x512x1_0_1 (clipped N)
abbrev at3 (N : S16x1x512.Idx → BitVec 32) : S16x512x1.Idx → BitVec 32 :=
  select (cmpi .slt (clipped3 N) (broadcastInDim S16x512x1 ![] bcast_S_S16x512x1 (constantI S_ 32 0#32)))
    (addi (clipped3 N) (broadcastInDim S16x512x1 ![] bcast_S_S16x512x1 (constantI S_ 32 512#32))) (clipped3 N)
abbrev at2 (N : S16x1x512.Idx → BitVec 32) : S16x512x1.Idx → BitVec 32 :=
  shapeCast S16x512x1 (select (cmpi .slt (clipped N) (broadcastInDim S16x512 ![] bcast_S_S16x512 (constantI S_ 32 0#32)))
    (addi (clipped N) (broadcastInDim S16x512 ![] bcast_S_S16x512 (constantI S_ 32 512#32))) (clipped N)) shapeCasts_S16x512_S16x512x1

theorem numbers_apply (N : S16x1x512.Idx → BitVec 32) (b : Fin 16) (k : Fin 512) : numbers N (ix2 b k) = N (ix3 b 0 k) :=
  shapeCast_apply _ _ _ _ (by simp only [Shape.rowMajor_val_three, Shape.rowMajor_val_two]; show (b.val * 1 + 0) * 512 + k.val = b.val * 512 + k.val; omega)

theorem clipped_apply (N : S16x1x512.Idx → BitVec 32) (b : Fin 16) (k : Fin 512) :
    clipped N (ix2 b k) = IntOp.minsi 511#32 (IntOp.maxsi 0#32 (N (ix3 b 0 k))) :=
  congrArg (fun w => IntOp.minsi 511#32 (IntOp.maxsi 0#32 w)) (numbers_apply N b k)

theorem names_apply (N : S16x1x512.Idx → BitVec 32) (b : Fin 16) (k : Fin 512) :
    names N (ix2 b k) = IntOp.cmpi .slt (N (ix3 b 0 k)) 512#32 :=
  congrArg (fun w => IntOp.cmpi .slt w 512#32) (numbers_apply N b k)

theorem lift_apply {α : Type} (x : S16x512.Idx → α) (b : Fin 16) (k : Fin 512) (c : Fin 1) :
    broadcastInDim S16x512x1 ![0, 1] bcast_S16x512_S16x512x1_0_1 x (ix3 b k c) = x (ix2 b k) :=
  broadcastInDim_apply _ _ _ _ _ (fun a => match a with | ⟨0, _⟩ => rfl | ⟨1, _⟩ => rfl)

theorem spread_apply {α : Type} (x : S16x512x1.Idx → α) (b : Fin 16) (k : Fin 512) (c : Fin 2) :
    broadcastInDim S16x512x2 ![0, 1, 2] bcast_S16x512x1_S16x512x2_0_1_2 x (ix3 b k c) = x (ix3 b k 0) :=
  broadcastInDim_apply _ _ _ _ _ (fun a => match a with | ⟨0, _⟩ => rfl | ⟨1, _⟩ => rfl | ⟨2, _⟩ => rfl)

/-- A clipped number, counted from the end if negative. -/
abbrev wrapped (w : BitVec 32) : BitVec 32 :=
  Scalar.select (IntOp.cmpi .slt (IntOp.minsi 511#32 (IntOp.maxsi 0#32 w)) 0#32)
    (IntOp.addi (IntOp.minsi 511#32 (IntOp.maxsi 0#32 w)) 512#32) (IntOp.minsi 511#32 (IntOp.maxsi 0#32 w))

theorem at3_apply (N : S16x1x512.Idx → BitVec 32) (b : Fin 16) (k : Fin 512) : at3 N (ix3 b k 0) = wrapped (N (ix3 b 0 k)) :=
  congrArg (fun v => Scalar.select (IntOp.cmpi .slt v 0#32) (IntOp.addi v 512#32) v) ((lift_apply (clipped N) b k 0).trans (clipped_apply N b k))

theorem at2_apply (N : S16x1x512.Idx → BitVec 32) (b : Fin 16) (k : Fin 512) : at2 N (ix3 b k 0) = wrapped (N (ix3 b 0 k)) :=
  (shapeCast_apply _ _ _ (ix2 b k) (by simp only [Shape.rowMajor_val_three, Shape.rowMajor_val_two]; show b.val * 512 + k.val = (b.val * 512 + k.val) * 1 + 0; omega)).trans
    (congrArg (fun v => Scalar.select (IntOp.cmpi .slt v 0#32) (IntOp.addi v 512#32) v) (clipped_apply N b k))

/-- The gathered points, `-1` where the number names none. -/
abbrev points (X : S16x512x2.Idx → F .f32) (N : S16x1x512.Idx → BitVec 32) : S16x512x2.Idx → F .f32 :=
  select (broadcastInDim S16x512x2 ![0, 1, 2] bcast_S16x512x1_S16x512x2_0_1_2 (broadcastInDim S16x512x1 ![0, 1] bcast_S16x512_S16x512x1_0_1 (names N)))
    (Host.gather gather_S16x512x2_S16x512x1_S16x512x2_2_1_0_0_1_2_112 X (at3 N))
    (broadcastInDim S16x512x2 ![] bcast_S_S16x512x2 (id (constant S_ .f32 0xBF800000#32)))
/-- The gathered scores, zero where the number names none. -/
abbrev marks (X : S16x512.Idx → F .f32) (N : S16x1x512.Idx → BitVec 32) : S16x512.Idx → F .f32 :=
  select (names N) (Host.gather gather_S16x512_S16x512x1_S16x512_n_1_0_0_1_2_11 X (at2 N))
    (broadcastInDim S16x512 ![] bcast_S_S16x512 (id (constant S_ .f32 0x00000000#32)))

theorem points_entry (X : S16x512x2.Idx → F .f32) (N : S16x1x512.Idx → BitVec 32) (b : Fin 16) (k : Fin 512) (c : Fin 2) :
    points X N (ix3 b k c) = entry (fun n => X (ix3 b n c)) (Scalar.ofBits .f32 0xBF800000#32) (N (ix3 b 0 k)) := by
  have hs : broadcastInDim S16x512x2 ![0, 1, 2] bcast_S16x512x1_S16x512x2_0_1_2 (broadcastInDim S16x512x1 ![0, 1] bcast_S16x512_S16x512x1_0_1 (names N)) (ix3 b k c)
      = IntOp.cmpi .slt (N (ix3 b 0 k)) 512#32 := (spread_apply _ b k c).trans ((lift_apply _ b k 0).trans (names_apply N b k))
  have hg := gather_rows3 (B := 16) (N := 512) (C := 2) (by omega) gather_S16x512x2_S16x512x1_S16x512x2_2_1_0_0_1_2_112.wf X (at3 N) b k c
  refine Eq.trans ?_ (chosen_entry (fun n => X (ix3 b n c)) (Scalar.ofBits .f32 0xBF800000#32) (N (ix3 b 0 k)) (at3 N (ix3 b k 0)) (at3_apply N b k) (by omega))
  show Scalar.select _ _ _ = _
  rw [hs]
  exact congrArg (fun g => Scalar.select _ g _) hg

theorem marks_entry (X : S16x512.Idx → F .f32) (N : S16x1x512.Idx → BitVec 32) (b : Fin 16) (k : Fin 512) :
    marks X N (ix2 b k) = entry (fun n => X (ix2 b n)) (Scalar.ofBits .f32 0x00000000#32) (N (ix3 b 0 k)) := by
  have hg := gather_rows2 (B := 16) (N := 512) (by omega) gather_S16x512_S16x512x1_S16x512_n_1_0_0_1_2_11.wf X (at2 N) b k
  refine Eq.trans ?_ (chosen_entry (fun n => X (ix2 b n)) (Scalar.ofBits .f32 0x00000000#32) (N (ix3 b 0 k)) (at2 N (ix3 b k 0)) (at2_apply N b k) (by omega))
  show Scalar.select _ _ _ = _
  rw [names_apply N b k]
  exact congrArg (fun g => Scalar.select _ g _) hg

/-- Whether no candidate scored, a bit for each batch. -/
abbrev lost (X0 X1 : FVec Ideal S16x512x2 .f32) (X2 X3 : FVec Ideal S16x512 .f32) (X4 : FVec Ideal S16x512x2 .f32) : S16.Idx → BitVec 1 :=
  cmpf .oeq (shapeCast S16 (BestRef.tops1 X0 X1 X2 X3 X4) shapeCasts_S16x1_S16) (broadcastInDim S16 ![] bcast_S_S16 (constant (F := Ideal) S_ .f32 0x00000000#32))

theorem lost_entry (X0 X1 : FVec Ideal S16x512x2 .f32) (X2 X3 : FVec Ideal S16x512 .f32) (X4 : FVec Ideal S16x512x2 .f32) (b : Fin 16) :
    lost X0 X1 X2 X3 X4 (ix1 b) = FloatOps.cmpf .oeq (BestSpec.top (BestSpec.batch X0 X1 X2 X3 X4 b).score) BestSpec.zero := by
  have h1 : shapeCast S16 (BestRef.tops1 X0 X1 X2 X3 X4) shapeCasts_S16x1_S16 (ix1 b) = BestSpec.top (BestSpec.batch X0 X1 X2 X3 X4 b).score :=
    (shapeCast_apply _ _ _ (ix2 b 0) (by simp only [Shape.rowMajor_val_two, Shape.rowMajor_val_one]; show b.val * 1 + 0 = b.val; omega)).trans (BestRef.tops1_apply X0 X1 X2 X3 X4 b 0)
  exact congrArg (fun z => FloatOps.cmpf .oeq z BestSpec.zero) h1

variable (m : (ℓ : Loc nD τ sig) → Buf (Elt Ideal) ℓ) (ρ : Dev nD → PrngReg)

/-- The arguments of a core. -/
abbrev A0 (c : Dev nD) : FVec Ideal S16x512x2 .f32 := m ((c.tc : Thread nD τ).loc main_arg0)
abbrev A1 (c : Dev nD) : FVec Ideal S16x512x2 .f32 := m ((c.tc : Thread nD τ).loc main_arg1)
abbrev A2 (c : Dev nD) : FVec Ideal S16x512 .f32 := m ((c.tc : Thread nD τ).loc main_arg2)
abbrev A3 (c : Dev nD) : FVec Ideal S16x512 .f32 := m ((c.tc : Thread nD τ).loc main_arg3)
abbrev A4 (c : Dev nD) : FVec Ideal S16x512x2 .f32 := m ((c.tc : Thread nD τ).loc main_arg4)

/-- The reference's run: its five results in the arguments, which stay. -/
theorem run : θ_run (defs (F := Ideal)) (onTc (τ := τ) (main (F := Ideal))) ⟨m, fun _ => 0, ρ⟩ fun r => ∀ c : Dev nD,
    r.2.mem ((c.tc : Thread nD τ).loc main_v126) = BestRef.result (A0 m c) (A1 m c) (A2 m c) (A3 m c) (A4 m c)
    ∧ r.2.mem ((c.tc : Thread nD τ).loc main_v90) = lost (A0 m c) (A1 m c) (A2 m c) (A3 m c) (A4 m c)
    ∧ r.2.mem ((c.tc : Thread nD τ).loc main_v119) = points (A0 m c) (BestRef.inlierNumbers (A0 m c) (A1 m c) (A2 m c) (A3 m c) (A4 m c))
    ∧ r.2.mem ((c.tc : Thread nD τ).loc main_v123) = points (A1 m c) (BestRef.inlierNumbers (A0 m c) (A1 m c) (A2 m c) (A3 m c) (A4 m c))
    ∧ r.2.mem ((c.tc : Thread nD τ).loc main_v125) = marks (A2 m c) (BestRef.inlierNumbers (A0 m c) (A1 m c) (A2 m c) (A3 m c) (A4 m c))
    ∧ r.2.mem ((c.tc : Thread nD τ).loc main_arg0) = m ((c.tc : Thread nD τ).loc main_arg0) ∧ r.2.mem ((c.tc : Thread nD τ).loc main_arg1) = m ((c.tc : Thread nD τ).loc main_arg1)
    ∧ r.2.mem ((c.tc : Thread nD τ).loc main_arg2) = m ((c.tc : Thread nD τ).loc main_arg2) ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run _ _ _).mono (fun r h c => by
    obtain ⟨h0, h1, h2, h3, h4, kept⟩ := h c
    exact ⟨h0.trans rfl, h1.trans rfl, h2.trans rfl, h3.trans rfl, h4.trans rfl, kept⟩) (Cert.ReferenceIdeal.Value.run m ρ)

/-- The reference leaves its arguments as they were and every semaphore at zero. -/
theorem run_frame {F : FTy → Type} [FloatOps F] (m : (ℓ : Loc nD τ sig) → Buf (Elt F) ℓ) :
    θ_run (defs (F := F)) (onTc (τ := τ) (main (F := F))) ⟨m, fun _ => 0, ρ⟩
      (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1)
        ∧ r.2.mem ((c.tc : Thread nD τ).loc main_arg2) = m ((c.tc : Thread nD τ).loc main_arg2) ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) :=
  (θ_run _ _ _).mono (fun r h => ⟨fun c => (h c).2.2.2.2.2, sem_eq_zero_of_no_sems (by decide) r.2⟩) (Cert.ReferenceIdeal.Value.run m ρ)

end Cert.Proof.RefValue

end
-- ==== Proof.TcValue.lean ====
/-
  What the TensorCore kernel leaves in its three results, at one grid point and then in the whole arrays: the same functions of
  the point's blocks as those of the call on its own.
-/
module

public import proofs.«01_k».proof.Proof.TcBody
public import proofs.«01_k».proof.Proof.BestTable
public import Idealize.ShloMosaic.Lib.VecWindow

@[expose] public section

set_option Elab.async false
set_option maxRecDepth 16384

noncomputable section

namespace Cert.Proof.TcBlocks

open Cert.KernelIdeal Cert.KernelIdeal.Gen
open Idealize.ShloMosaic
open Idealize.ShloMosaic.TcCoe
open Cert.Proof.Tc (bodyRun)

variable {F : FTy → Type} [FloatOps F]

section Run
variable (c : Dev nD) (i : grid0.Coords) (M1 : Memref sig .tc .vmem S1x2x512 .f32) (h1 : M1.IsWhole) (M2 : Memref sig .tc .vmem S1x2x512 .f32) (h2 : M2.IsWhole) (M3 : Memref sig .tc .vmem S1x512x2 .f32) (h3 : M3.IsWhole) (M4 : Memref sig .tc .vmem S1x512x2 .f32) (h4 : M4.IsWhole) (M5 : Memref sig .tc .vmem S1x512x1 .f32) (h5 : M5.IsWhole) (M6 : Memref sig .tc .vmem S1x1x512 .f32) (h6 : M6.IsWhole) (M7 : Memref sig .tc .vmem S1x1x512 .f32) (h7 : M7.IsWhole) (M8 : Memref sig .tc .vmem S1x1x512 .f32) (h8 : M8.IsWhole) (M9 : Memref sig .tc .vmem S1x3x3 .f32) (h9 : M9.IsWhole) (M10 : Memref sig .tc .vmem S1x1x1 .f32) (h10 : M10.IsWhole) (M11 : Memref sig .tc .vmem S1x1x512 .i32) (h11 : M11.IsWhole) (M12 : Memref sig .tc .vmem S512x512 .f32) (h12 : M12.IsWhole) (M13 : Memref sig .tc .vmem S512x512 .f32) (h13 : M13.IsWhole) (M14 : Memref sig .tc .vmem S512x512 .f32) (h14 : M14.IsWhole) (M15 : Memref sig .tc .vmem S512x512 .f32) (h15 : M15.IsWhole)
    (X1 : S1x2x512.Idx → Elt F .f32) (X2 : S1x2x512.Idx → Elt F .f32) (X3 : S1x512x2.Idx → Elt F .f32) (X4 : S1x512x2.Idx → Elt F .f32) (X5 : S1x512x1.Idx → Elt F .f32) (X6 : S1x1x512.Idx → Elt F .f32) (X7 : S1x1x512.Idx → Elt F .f32) (X8 : S1x1x512.Idx → Elt F .f32)

set_option maxHeartbeats 4000000 in
theorem leaves8 : M9.view.read (Elt F) (bodyRun (F := F) c i M1 h1 M2 h2 M3 h3 M4 h4 M5 h5 M6 h6 M7 h7 M8 h8 M9 h9 M10 h10 M11 h11 M12 h12 M13 h13 M14 h14 M15 h15 X1 X2 X3 X4 X5 X6 X7 X8).1.1
    = BestBody.out8 X1 X2 X3 X4 X5 X6 X7 X8 := by
  unfold bodyRun
  dsimp only
  unfold Tc.bodyRun.sl.H9_1
  refine (View.read_writes_full _ _ _ _ _).trans ?_
  sl_unfold_words
  simp (disch := decide) only [View.ld_unit_lit', View.readAt_eq_ld, Memref.IsWhole.read_unread]
  rfl

set_option maxHeartbeats 4000000 in
theorem leaves9 : M10.view.read (Elt F) (bodyRun (F := F) c i M1 h1 M2 h2 M3 h3 M4 h4 M5 h5 M6 h6 M7 h7 M8 h8 M9 h9 M10 h10 M11 h11 M12 h12 M13 h13 M14 h14 M15 h15 X1 X2 X3 X4 X5 X6 X7 X8).1.2.1
    = BestBody.out9 X1 X2 X3 X4 X5 X6 X7 X8 := by
  unfold bodyRun
  dsimp only
  unfold Tc.bodyRun.sl.H10_1
  refine (View.read_writes_full _ _ _ _ _).trans ?_
  sl_unfold_words
  simp (disch := decide) only [View.ld_unit_lit', View.readAt_eq_ld, Memref.IsWhole.read_unread]
  rfl

set_option maxHeartbeats 4000000 in
theorem leaves10 : M11.view.read (Elt F) (bodyRun (F := F) c i M1 h1 M2 h2 M3 h3 M4 h4 M5 h5 M6 h6 M7 h7 M8 h8 M9 h9 M10 h10 M11 h11 M12 h12 M13 h13 M14 h14 M15 h15 X1 X2 X3 X4 X5 X6 X7 X8).1.2.2.1
    = BestBody.out10 Cert.BestIdeal.Gen.scM0_0.view Cert.BestIdeal.Gen.k0_pay2 Cert.BestIdeal.Gen.k0_pay3 Cert.BestIdeal.Gen.k0_pay4 X1 X2 X3 X4 X5 X6 X7 X8 := by
  unfold bodyRun
  dsimp only
  unfold Tc.bodyRun.sl.H11_1
  refine (View.read_writes_full _ _ _ _ _).trans ?_
  sl_unfold_words
  unfold BestBody.out10 BestBody.table
  simp (disch := decide) only [View.ld_unit_lit', View.readAt_eq_ld, Memref.IsWhole.read_unread, View.readCov_eq_canon']
  rfl

end Run

end Cert.Proof.TcBlocks

end
-- ==== Proof.BestValue.lean ====
/-
  The blocks of a grid point hold its batch of the arguments, and the call's first two results are, index by index, the formulas
  of that batch: the reference's results.
-/
module

public import proofs.«01_k».proof.Proof.BestKernel
public import proofs.«01_k».proof.Proof.BestRef
public import proofs.«01_k».proof.Proof.BestRank
public import proofs.«01_k».proof.Proof.BestSorted
public import proofs.«01_k».proof.Proof.Gen.BestIdeal.Value
public import Idealize.ShloMosaic.Adequacy
public import Idealize.ShloMosaic.Init

@[expose] public section

set_option maxRecDepth 16384

noncomputable section

namespace Cert.Proof.BestValue

open Cert.BestIdeal Cert.BestIdeal.Gen Cert.BestIdeal.Value
open Idealize.ShloMosaic hiding ix1 ix2 ix3
open Idealize.ShloMosaic.TcCoe Idealize.SL.Sem
open Idealize.ShloMosaic.ValueIdx (ix1 ix2 ix3)
open Cert.Proof.BestSpec
open Cert.Proof.BestBody (out8 out9)

variable (m : (ℓ : Loc nD τ sig) → Buf (Elt Ideal) ℓ) (c : Dev nD)

/-- The arguments, and their batch `b`. -/
abbrev A0 : FVec Ideal S16x512x2 .f32 := m ((c : Thread nD τ).loc main_arg0)
abbrev A1 : FVec Ideal S16x512x2 .f32 := m ((c : Thread nD τ).loc main_arg1)
abbrev A2 : FVec Ideal S16x512 .f32 := m ((c : Thread nD τ).loc main_arg2)
abbrev A3 : FVec Ideal S16x512 .f32 := m ((c : Thread nD τ).loc main_arg3)
abbrev A4 : FVec Ideal S16x512x2 .f32 := m ((c : Thread nD τ).loc main_arg4)
abbrev part (b : Fin 16) : Batch := batch (A0 m c) (A1 m c) (A2 m c) (A3 m c) (A4 m c) b

/-! ## The arrays the call reads -/

theorem swap_apply (X : FVec Ideal S16x512x2 .f32) (b : Fin 16) (k : Fin 2) (i : Fin 512) :
    transpose S16x2x512 [0, 2, 1] X transposes_S16x512x2_S16x2x512_0_2_1 (ix3 b k i) = X (ix3 b i k) :=
  transpose_apply _ _ _ _ _ (fun a => match a with | ⟨0, _⟩ => rfl | ⟨1, _⟩ => rfl | ⟨2, _⟩ => rfl)

theorem long_apply (X : FVec Ideal S16x512 .f32) (b : Fin 16) (i : Fin 512) : shapeCast S16x1x512 X shapeCasts_S16x512_S16x1x512 (ix3 b 0 i) = X (ix2 b i) :=
  shapeCast_apply _ _ _ _ (by simp only [Shape.rowMajor_val_three, Shape.rowMajor_val_two]; show b.val * 512 + i.val = (b.val * 1 + 0) * 512 + i.val; omega)

theorem tall_apply (X : FVec Ideal S16x512 .f32) (b : Fin 16) (i : Fin 512) : shapeCast S16x512x1 X shapeCasts_S16x512_S16x512x1 (ix3 b i 0) = X (ix2 b i) :=
  shapeCast_apply _ _ _ _ (by simp only [Shape.rowMajor_val_three, Shape.rowMajor_val_two]; show b.val * 512 + i.val = (b.val * 512 + i.val) * 1 + 0; omega)

theorem flat_apply (X : FVec Ideal S16x512x1 .f32) (b : Fin 16) (i : Fin 512) : shapeCast S16x512 X shapeCasts_S16x512x1_S16x512 (ix2 b i) = X (ix3 b i 0) :=
  shapeCast_apply _ _ _ _ (by simp only [Shape.rowMajor_val_three, Shape.rowMajor_val_two]; show (b.val * 512 + i.val) * 1 + 0 = b.val * 512 + i.val; omega)

theorem array0 (b : Fin 16) (k : Fin 2) (i : Fin 512) : (V m c main_v0 : S16x2x512.Idx → Ideal .f32) (ix3 b k i) = A0 m c (ix3 b i k) := by
  refine Eq.trans (congrFun (?_ : (V m c main_v0 : S16x2x512.Idx → Ideal .f32) = transpose S16x2x512 [0, 2, 1] (A0 m c) transposes_S16x512x2_S16x2x512_0_2_1) _) (swap_apply _ b k i)
  unfold V hostOps0
  after_results
theorem array1 (b : Fin 16) (k : Fin 2) (i : Fin 512) : (V m c main_v1 : S16x2x512.Idx → Ideal .f32) (ix3 b k i) = A1 m c (ix3 b i k) := by
  refine Eq.trans (congrFun (?_ : (V m c main_v1 : S16x2x512.Idx → Ideal .f32) = transpose S16x2x512 [0, 2, 1] (A1 m c) transposes_S16x512x2_S16x2x512_0_2_1) _) (swap_apply _ b k i)
  unfold V hostOps0
  after_results
theorem array2 (b : Fin 16) (i : Fin 512) : (V m c main_v2 : S16x512x1.Idx → Ideal .f32) (ix3 b i 0) = A2 m c (ix2 b i) := by
  refine Eq.trans (congrFun (?_ : (V m c main_v2 : S16x512x1.Idx → Ideal .f32) = shapeCast S16x512x1 (A2 m c) shapeCasts_S16x512_S16x512x1) _) (tall_apply _ b i)
  unfold V hostOps0
  after_results
  rfl
theorem array3 (b : Fin 16) (i : Fin 512) : (V m c main_v3 : S16x1x512.Idx → Ideal .f32) (ix3 b 0 i) = A3 m c (ix2 b i) := by
  refine Eq.trans (congrFun (?_ : (V m c main_v3 : S16x1x512.Idx → Ideal .f32) = shapeCast S16x1x512 (A3 m c) shapeCasts_S16x512_S16x1x512) _) (long_apply _ b i)
  unfold V hostOps0
  after_results
  rfl
theorem array6 (b : Fin 16) (i : Fin 512) : (V m c main_v6 : S16x1x512.Idx → Ideal .f32) (ix3 b 0 i) = A4 m c (ix3 b i 0) := by
  refine Eq.trans (congrFun (?_ : (V m c main_v6 : S16x1x512.Idx → Ideal .f32) = shapeCast S16x1x512 (shapeCast S16x512 (extractStridedSlice S16x512x1 ![0, 0, 0] (A4 m c) slices_S16x512x2_S16x512x1_0_0_0)
    shapeCasts_S16x512x1_S16x512) shapeCasts_S16x512_S16x1x512) _) ((long_apply _ b i).trans ((flat_apply _ b i).trans
      (extractStridedSlice_apply _ _ _ _ _ (fun a => match a with | ⟨0, _⟩ => (Nat.zero_add _).symm | ⟨1, _⟩ => (Nat.zero_add _).symm | ⟨2, _⟩ => rfl))))
  unfold V hostOps0
  after_results
  rfl
theorem array9 (b : Fin 16) (i : Fin 512) : (V m c main_v9 : S16x1x512.Idx → Ideal .f32) (ix3 b 0 i) = A4 m c (ix3 b i 1) := by
  refine Eq.trans (congrFun (?_ : (V m c main_v9 : S16x1x512.Idx → Ideal .f32) = shapeCast S16x1x512 (shapeCast S16x512 (extractStridedSlice S16x512x1 ![0, 0, 1] (A4 m c) slices_S16x512x2_S16x512x1_0_0_1)
    shapeCasts_S16x512x1_S16x512) shapeCasts_S16x512_S16x1x512) _) ((long_apply _ b i).trans ((flat_apply _ b i).trans
      (extractStridedSlice_apply _ _ _ _ _ (fun a => match a with | ⟨0, _⟩ => (Nat.zero_add _).symm | ⟨1, _⟩ => (Nat.zero_add _).symm | ⟨2, _⟩ => rfl))))
  unfold V hostOps0
  after_results
  rfl

/-! ## A grid point's blocks -/

/-- The batch of a grid point. -/
def num (t : Fin cfg0.N) : Fin 16 := ⟨t.val, lt_of_lt_of_eq t.isLt N_0⟩

/-- Each input's block of point `t` is row `t` of its array. -/
theorem starts : ∀ t : Fin cfg0.N, win0_0.index t = ![t.val, 0, 0] ∧ win0_1.index t = ![t.val, 0, 0] ∧ win0_2.index t = ![t.val, 0, 0] ∧ win0_3.index t = ![t.val, 0, 0]
    ∧ win0_4.index t = ![t.val, 0, 0] ∧ win0_5.index t = ![t.val, 0, 0] ∧ win0_6.index t = ![t.val, 0, 0] ∧ win0_7.index t = ![t.val, 0, 0] :=
  (by decide +kernel : ∀ t : Fin grid0.N, _)

theorem in_row {k n : ℕ} (t : Fin cfg0.N) (e : (⟨3, ![16, k, n]⟩ : Shape).Idx) (j : Fin k) (l : Fin n) (ix : Fin 3 → ℕ) (hix : ix = ![t.val, 0, 0])
    (h0 : (e 0).val = ix 0 * 1 + 1 * 0) (h1 : (e 1).val = ix 1 * k + 1 * j.val) (h2 : (e 2).val = ix 2 * n + 1 * l.val) : e = ix3 (num t) j l := by
  subst hix
  funext a
  apply Fin.ext
  match a with
  | ⟨0, _⟩ => exact h0.trans (by show t.val * 1 + 1 * 0 = t.val; omega)
  | ⟨1, _⟩ => exact h1.trans (by show 0 * k + 1 * j.val = j.val; omega)
  | ⟨2, _⟩ => exact h2.trans (by show 0 * n + 1 * l.val = l.val; omega)

theorem holds (t : Fin cfg0.N) : BestKernel.Holds (part m c (num t)) (iblk m c 0 t) (iblk m c 1 t) (iblk m c 2 t) (iblk m c 3 t) (iblk m c 4 t) (iblk m c 5 t) (iblk m c 6 t) (iblk m c 7 t) := by
  obtain ⟨e0, e1, e2, e3, e4, e5, e6, e7⟩ := starts t
  constructor
  · exact fun k i => (congrArg (V m c main_v0 : S16x2x512.Idx → Ideal .f32) (in_row t (((cfg0.win 0).blk t).view.emb (ix3 0 k i)) k i _ e0 rfl rfl rfl)).trans (array0 m c _ k i)
  · exact fun k i => (congrArg (V m c main_v1 : S16x2x512.Idx → Ideal .f32) (in_row t (((cfg0.win 1).blk t).view.emb (ix3 0 k i)) k i _ e1 rfl rfl rfl)).trans (array1 m c _ k i)
  · exact fun i k => (congrArg (V m c main_arg0 : S16x512x2.Idx → Ideal .f32) (in_row t (((cfg0.win 2).blk t).view.emb (ix3 0 i k)) i k _ e2 rfl rfl rfl)).trans (congrFun (V_main_arg0 m c) _)
  · exact fun i k => (congrArg (V m c main_arg1 : S16x512x2.Idx → Ideal .f32) (in_row t (((cfg0.win 3).blk t).view.emb (ix3 0 i k)) i k _ e3 rfl rfl rfl)).trans (congrFun (V_main_arg1 m c) _)
  · exact fun i => (congrArg (V m c main_v2 : S16x512x1.Idx → Ideal .f32) (in_row t (((cfg0.win 4).blk t).view.emb (ix3 0 i 0)) i 0 _ e4 rfl rfl rfl)).trans (array2 m c _ i)
  · exact fun i => (congrArg (V m c main_v3 : S16x1x512.Idx → Ideal .f32) (in_row t (((cfg0.win 5).blk t).view.emb (ix3 0 0 i)) 0 i _ e5 rfl rfl rfl)).trans (array3 m c _ i)
  · exact fun i => (congrArg (V m c main_v6 : S16x1x512.Idx → Ideal .f32) (in_row t (((cfg0.win 6).blk t).view.emb (ix3 0 0 i)) 0 i _ e6 rfl rfl rfl)).trans (array6 m c _ i)
  · exact fun i => (congrArg (V m c main_v9 : S16x1x512.Idx → Ideal .f32) (in_row t (((cfg0.win 7).blk t).view.emb (ix3 0 0 i)) 0 i _ e7 rfl rfl rfl)).trans (array9 m c _ i)

/-! ## What a point leaves -/

theorem leaves8 (t : Fin cfg0.N) : (outsAt0 m c t.val t.isLt).1
    = out8 (iblk m c 0 t) (iblk m c 1 t) (iblk m c 2 t) (iblk m c 3 t) (iblk m c 4 t) (iblk m c 5 t) (iblk m c 6 t) (iblk m c 7 t) := by
  by_cases h : t.val % 16 = 0
  · rw [outsAt0_A m c t h]; dsimp only; exact BestBody.body_A_8 (F := Ideal) ..
  · rw [outsAt0_B m c t h]; dsimp only; exact BestBody.body_B_8 (F := Ideal) ..

theorem leaves9 (t : Fin cfg0.N) : (outsAt0 m c t.val t.isLt).2.1
    = out9 (iblk m c 0 t) (iblk m c 1 t) (iblk m c 2 t) (iblk m c 3 t) (iblk m c 4 t) (iblk m c 5 t) (iblk m c 6 t) (iblk m c 7 t) := by
  by_cases h : t.val % 16 = 0
  · rw [outsAt0_A m c t h]; dsimp only; exact BestBody.body_A_9 (F := Ideal) ..
  · rw [outsAt0_B m c t h]; dsimp only; exact BestBody.body_B_9 (F := Ideal) ..

/-- The three tables of the ranking stay as the first point made them. -/
theorem kept (n : ℕ) (hn : n < cfg0.N) : (outsAt0 m c n hn).2.2.2.1 = (k0_pay2 : FVec Ideal S512x512 .f32)
    ∧ (outsAt0 m c n hn).2.2.2.2.1 = (k0_pay3 : FVec Ideal S512x512 .f32) ∧ (outsAt0 m c n hn).2.2.2.2.2 = (k0_pay4 : FVec Ideal S512x512 .f32) := by
  induction n with
  | zero =>
    rw [outsAt0_A m c ⟨0, hn⟩ rfl]
    dsimp only
    exact ⟨BestBody.carry_A_1 (F := Ideal) .., BestBody.carry_A_2 (F := Ideal) .., BestBody.carry_A_3 (F := Ideal) ..⟩
  | succ n ih =>
    by_cases h : (n + 1) % 16 = 0
    · rw [outsAt0_A m c ⟨n + 1, hn⟩ h]
      dsimp only
      exact ⟨BestBody.carry_A_1 (F := Ideal) .., BestBody.carry_A_2 (F := Ideal) .., BestBody.carry_A_3 (F := Ideal) ..⟩
    · rw [outsAt0_B m c ⟨n + 1, hn⟩ h]
      exact ih (Nat.lt_of_succ_lt hn)

theorem leaves10 (t : Fin cfg0.N) : (outsAt0 m c t.val t.isLt).2.2.1
    = BestBody.out10 scM0_0.view k0_pay2 k0_pay3 k0_pay4 (iblk m c 0 t) (iblk m c 1 t) (iblk m c 2 t) (iblk m c 3 t) (iblk m c 4 t) (iblk m c 5 t) (iblk m c 6 t) (iblk m c 7 t) := by
  by_cases h : t.val % 16 = 0
  · rw [outsAt0_A m c t h]; dsimp only; exact BestBody.body_A_10 (F := Ideal) ..
  · obtain ⟨e1, e2, e3⟩ := kept m c (t.val - 1) (Nat.lt_of_le_of_lt (Nat.sub_le _ _) t.isLt)
    rw [outsAt0_B m c t h]; dsimp only
    refine (BestBody.body_B_10 (F := Ideal) ..).trans ?_
    rw [e1, e2, e3]

/-- The grid point of a batch. -/
def pt (b : Fin 16) : Fin cfg0.N := ⟨b.val, lt_of_lt_of_eq b.isLt N_0.symm⟩

theorem first_result (b : Fin 16) (i j : Fin 3) (n : Fin 512) (hn : best (part m c b).score = BitVec.ofNat 32 n.val) :
    (G8 m c : S16x3x3.Idx → Ideal .f32) (ix3 b i j) = entry (part m c b) n ⟨3 * i.val + j.val, by omega⟩ := by
  have hp : pt8Of (ix3 b i j) = (pt b).val := by
    show 1 * (b.val / 1 - 0) + 1 * (i.val / 3 - 0) + 1 * (j.val / 3 - 0) = b.val
    omega
  have hl : loc8Of (ix3 b i j) = ix3 0 i j := by
    funext a
    apply Fin.ext
    match a with
    | ⟨0, _⟩ => exact Nat.mod_one _
    | ⟨1, _⟩ => exact Nat.mod_eq_of_lt i.isLt
    | ⟨2, _⟩ => exact Nat.mod_eq_of_lt j.isLt
  unfold G8
  rw [dif_pos (by rw [hp]; exact (pt b).isLt), hl, fold0_congr m c _ _ (pt b).val (by have := (pt b).isLt; omega) hp, ← outsAt0_sweep m c (pt b).val (pt b).isLt, leaves8]
  exact BestKernel.out8_apply (holds m c (pt b)) n hn i j

theorem second_result (b : Fin 16) (i j : Fin 1) : (G9 m c : S16x1x1.Idx → Ideal .f32) (ix3 b i j) = failed (part m c b).score := by
  have hp : pt9Of (ix3 b i j) = (pt b).val := by
    show 1 * (b.val / 1 - 0) + 1 * (i.val / 1 - 0) + 1 * (j.val / 1 - 0) = b.val
    omega
  have hl : loc9Of (ix3 b i j) = ix3 0 i j := by
    funext a
    apply Fin.ext
    match a with
    | ⟨0, _⟩ => exact Nat.mod_one _
    | ⟨1, _⟩ => exact Nat.mod_eq_of_lt i.isLt
    | ⟨2, _⟩ => exact Nat.mod_eq_of_lt j.isLt
  unfold G9
  rw [dif_pos (by rw [hp]; exact (pt b).isLt), hl, fold0_congr m c _ _ (pt b).val (by have := (pt b).isLt; omega) hp, ← outsAt0_sweep m c (pt b).val (pt b).isLt, leaves9]
  exact BestKernel.out9_apply (holds m c (pt b)) i j

theorem third_result (b : Fin 16) (k : Fin 512) (n : Fin 512) (hn : best (part m c b).score = BitVec.ofNat 32 n.val) :
    (G10 m c : S16x1x512.Idx → BitVec 32) (ix3 b 0 k) = BestRank.number (part m c b) n k.val := by
  have hp : pt10Of (ix3 b 0 k) = (pt b).val := by
    show 1 * (b.val / 1 - 0) + 1 * (0 / 1 - 0) + 1 * (k.val / 512 - 0) = b.val
    omega
  have hl : loc10Of (ix3 b 0 k) = ix3 0 0 k := by
    funext a
    apply Fin.ext
    match a with
    | ⟨0, _⟩ => exact Nat.mod_one _
    | ⟨1, _⟩ => exact Nat.mod_one _
    | ⟨2, _⟩ => exact Nat.mod_eq_of_lt k.isLt
  unfold G10
  rw [dif_pos (by rw [hp]; exact (pt b).isLt), hl, fold0_congr m c _ _ (pt b).val (by have := (pt b).isLt; omega) hp, ← outsAt0_sweep m c (pt b).val (pt b).isLt, leaves10]
  exact BestRank.out10_apply (holds m c (pt b)) _ n hn k

/-- The call's maps are the reference's. -/
theorem same_maps : (G8 m c : S16x3x3.Idx → Ideal .f32) = BestRef.result (A0 m c) (A1 m c) (A2 m c) (A3 m c) (A4 m c) := by
  funext y
  rw [ValueIdx.eq_ix3 y]
  obtain ⟨n, hn⟩ := best_lt (part m c (y 0)).score
  exact (first_result m c (y 0) (y 1) (y 2) n hn).trans (BestRef.result_apply _ _ _ _ _ (y 0) n hn (y 1) (y 2)).symm

/-- The call's marks of failure are the reference's. -/
theorem same_flags : (G9 m c : S16x1x1.Idx → Ideal .f32) = BestRef.flags (A0 m c) (A1 m c) (A2 m c) (A3 m c) (A4 m c) := by
  funext y
  rw [ValueIdx.eq_ix3 y]
  exact (second_result m c (y 0) (y 1) (y 2)).trans (BestRef.flags_apply _ _ _ _ _ (y 0) (y 1) (y 2)).symm

/-- The call's numbers of the inliers are the reference's. -/
theorem same_numbers : (G10 m c : S16x1x512.Idx → BitVec 32) = BestRef.inlierNumbers (A0 m c) (A1 m c) (A2 m c) (A3 m c) (A4 m c) := by
  funext y
  have hy : y = ix3 (y 0) 0 (y 2) := by
    funext a
    match a with
    | ⟨0, _⟩ => rfl
    | ⟨1, _⟩ => exact Subsingleton.elim (α := Fin 1) _ _
    | ⟨2, _⟩ => rfl
  rw [hy]
  obtain ⟨n, hn⟩ := best_lt (part m c (y 0)).score
  exact (third_result m c (y 0) (y 2) n hn).trans (BestRef.inlierNumbers_apply _ _ _ _ _ (y 0) n hn (y 2)).symm

end Cert.Proof.BestValue

end
-- ==== Proof.TcArrays.lean ====
/-
  What the TensorCore kernel leaves in its three result arrays when the program reaches the SparseCore launch: the reference's maps,
  marks of failure and numbers, of the same arguments.
-/
module

public import proofs.«01_k».proof.Proof.Main
public import proofs.«01_k».proof.Proof.TcValue
public import proofs.«01_k».proof.Proof.BestValue
public import Idealize.ShloMosaic.Lib.Pipeline.ValueKit

@[expose] public section

set_option Elab.async false
set_option maxRecDepth 16384

noncomputable section

namespace Cert.Proof.TcArrays

open Cert.KernelIdeal Cert.KernelIdeal.Gen
open Idealize.ShloMosaic hiding ix1 ix2 ix3
open Idealize.ShloMosaic.TcCoe Idealize.SL.Sem
open Idealize.ShloMosaic.ValueIdx (ix1 ix2 ix3)
open Cert.Proof.BestSpec
open Cert.Proof.Main (V1 V2 V0 ops1 V1_off)

variable (m : (ℓ : Loc nD τ sig) → Buf (Elt Ideal) ℓ) (d : Dev nD)

/-- The arguments, and their batch `b`. -/
abbrev A0 : FVec Ideal S16x512x2 .f32 := m (d, Proc.devRef .tc main_arg0)
abbrev A1 : FVec Ideal S16x512x2 .f32 := m (d, Proc.devRef .tc main_arg1)
abbrev A2 : FVec Ideal S16x512 .f32 := m (d, Proc.devRef .tc main_arg2)
abbrev A3 : FVec Ideal S16x512 .f32 := m (d, Proc.devRef .tc main_arg3)
abbrev A4 : FVec Ideal S16x512x2 .f32 := m (d, Proc.devRef .tc main_arg4)
abbrev part (b : Fin 16) : Batch := batch (A0 m d) (A1 m d) (A2 m d) (A3 m d) (A4 m d) b

/-! ## The arrays the kernel reads -/

theorem array0 (b : Fin 16) (k : Fin 2) (i : Fin 512) : (V1 m d (Proc.devRef .tc main_v0) : S16x2x512.Idx → Ideal .f32) (ix3 b k i) = A0 m d (ix3 b i k) := by
  refine Eq.trans (congrFun (?_ : (V1 m d (Proc.devRef .tc main_v0) : S16x2x512.Idx → Ideal .f32) = transpose S16x2x512 [0, 2, 1] (A0 m d) transposes_S16x512x2_S16x2x512_0_2_1) _) (BestValue.swap_apply _ b k i)
  unfold V1 ops1
  after_results
theorem array1 (b : Fin 16) (k : Fin 2) (i : Fin 512) : (V1 m d (Proc.devRef .tc main_v1) : S16x2x512.Idx → Ideal .f32) (ix3 b k i) = A1 m d (ix3 b i k) := by
  refine Eq.trans (congrFun (?_ : (V1 m d (Proc.devRef .tc main_v1) : S16x2x512.Idx → Ideal .f32) = transpose S16x2x512 [0, 2, 1] (A1 m d) transposes_S16x512x2_S16x2x512_0_2_1) _) (BestValue.swap_apply _ b k i)
  unfold V1 ops1
  after_results
theorem array2 (b : Fin 16) (i : Fin 512) : (V1 m d (Proc.devRef .tc main_v2) : S16x512x1.Idx → Ideal .f32) (ix3 b i 0) = A2 m d (ix2 b i) := by
  refine Eq.trans (congrFun (?_ : (V1 m d (Proc.devRef .tc main_v2) : S16x512x1.Idx → Ideal .f32) = shapeCast S16x512x1 (A2 m d) shapeCasts_S16x512_S16x512x1) _) (BestValue.tall_apply _ b i)
  unfold V1 ops1
  after_results
  rfl
theorem array3 (b : Fin 16) (i : Fin 512) : (V1 m d (Proc.devRef .tc main_v3) : S16x1x512.Idx → Ideal .f32) (ix3 b 0 i) = A3 m d (ix2 b i) := by
  refine Eq.trans (congrFun (?_ : (V1 m d (Proc.devRef .tc main_v3) : S16x1x512.Idx → Ideal .f32) = shapeCast S16x1x512 (A3 m d) shapeCasts_S16x512_S16x1x512) _) (BestValue.long_apply _ b i)
  unfold V1 ops1
  after_results
  rfl
theorem array6 (b : Fin 16) (i : Fin 512) : (V1 m d (Proc.devRef .tc main_v6) : S16x1x512.Idx → Ideal .f32) (ix3 b 0 i) = A4 m d (ix3 b i 0) := by
  refine Eq.trans (congrFun (?_ : (V1 m d (Proc.devRef .tc main_v6) : S16x1x512.Idx → Ideal .f32) = shapeCast S16x1x512 (shapeCast S16x512 (extractStridedSlice S16x512x1 ![0, 0, 0] (A4 m d) slices_S16x512x2_S16x512x1_0_0_0)
    shapeCasts_S16x512x1_S16x512) shapeCasts_S16x512_S16x1x512) _) ((BestValue.long_apply _ b i).trans ((BestValue.flat_apply _ b i).trans
      (extractStridedSlice_apply _ _ _ _ _ (fun a => match a with | ⟨0, _⟩ => (Nat.zero_add _).symm | ⟨1, _⟩ => (Nat.zero_add _).symm | ⟨2, _⟩ => rfl))))
  unfold V1 ops1
  after_results
  rfl
theorem array9 (b : Fin 16) (i : Fin 512) : (V1 m d (Proc.devRef .tc main_v9) : S16x1x512.Idx → Ideal .f32) (ix3 b 0 i) = A4 m d (ix3 b i 1) := by
  refine Eq.trans (congrFun (?_ : (V1 m d (Proc.devRef .tc main_v9) : S16x1x512.Idx → Ideal .f32) = shapeCast S16x1x512 (shapeCast S16x512 (extractStridedSlice S16x512x1 ![0, 0, 1] (A4 m d) slices_S16x512x2_S16x512x1_0_0_1)
    shapeCasts_S16x512x1_S16x512) shapeCasts_S16x512_S16x1x512) _) ((BestValue.long_apply _ b i).trans ((BestValue.flat_apply _ b i).trans
      (extractStridedSlice_apply _ _ _ _ _ (fun a => match a with | ⟨0, _⟩ => (Nat.zero_add _).symm | ⟨1, _⟩ => (Nat.zero_add _).symm | ⟨2, _⟩ => rfl))))
  unfold V1 ops1
  after_results
  rfl

/-! ## A grid point's blocks -/

/-- The batch of a grid point. -/
def num (t : Fin cfg0.N) : Fin 16 := ⟨t.val, lt_of_lt_of_eq t.isLt N_0⟩

/-- Each array's block of point `t` is row `t` of it. -/
theorem starts : ∀ t : Fin cfg0.N, win0_0.index t = ![t.val, 0, 0] ∧ win0_1.index t = ![t.val, 0, 0] ∧ win0_2.index t = ![t.val, 0, 0] ∧ win0_3.index t = ![t.val, 0, 0]
    ∧ win0_4.index t = ![t.val, 0, 0] ∧ win0_5.index t = ![t.val, 0, 0] ∧ win0_6.index t = ![t.val, 0, 0] ∧ win0_7.index t = ![t.val, 0, 0]
    ∧ win0_8.index t = ![t.val, 0, 0] ∧ win0_9.index t = ![t.val, 0, 0] ∧ win0_10.index t = ![t.val, 0, 0] :=
  (by decide +kernel : ∀ t : Fin grid0.N, _)

theorem in_row {k n : ℕ} (t : Fin cfg0.N) (e : (⟨3, ![16, k, n]⟩ : Shape).Idx) (j : Fin k) (l : Fin n) (ix : Fin 3 → ℕ) (hix : ix = ![t.val, 0, 0])
    (h0 : (e 0).val = ix 0 * 1 + 1 * 0) (h1 : (e 1).val = ix 1 * k + 1 * j.val) (h2 : (e 2).val = ix 2 * n + 1 * l.val) : e = ix3 (num t) j l := by
  subst hix
  funext a
  apply Fin.ext
  match a with
  | ⟨0, _⟩ => exact h0.trans (by show t.val * 1 + 1 * 0 = t.val; omega)
  | ⟨1, _⟩ => exact h1.trans (by show 0 * k + 1 * j.val = j.val; omega)
  | ⟨2, _⟩ => exact h2.trans (by show 0 * n + 1 * l.val = l.val; omega)

theorem holds (t : Fin cfg0.N) : BestKernel.Holds (part m d (num t)) (Tc.stg (V1 m) d 0 t) (Tc.stg (V1 m) d 1 t) (Tc.stg (V1 m) d 2 t) (Tc.stg (V1 m) d 3 t) (Tc.stg (V1 m) d 4 t) (Tc.stg (V1 m) d 5 t) (Tc.stg (V1 m) d 6 t) (Tc.stg (V1 m) d 7 t) := by
  obtain ⟨e0, e1, e2, e3, e4, e5, e6, e7, -⟩ := starts t
  constructor
  · exact fun k i => (congrArg (V1 m d (Proc.devRef .tc main_v0) : S16x2x512.Idx → Ideal .f32) (in_row t (((cfg0.win 0).blk t).view.emb (ix3 0 k i)) k i _ e0 rfl rfl rfl)).trans (array0 m d _ k i)
  · exact fun k i => (congrArg (V1 m d (Proc.devRef .tc main_v1) : S16x2x512.Idx → Ideal .f32) (in_row t (((cfg0.win 1).blk t).view.emb (ix3 0 k i)) k i _ e1 rfl rfl rfl)).trans (array1 m d _ k i)
  · exact fun i k => (congrArg (V1 m d (Proc.devRef .tc main_arg0) : S16x512x2.Idx → Ideal .f32) (in_row t (((cfg0.win 2).blk t).view.emb (ix3 0 i k)) i k _ e2 rfl rfl rfl)).trans (congrFun (V1_off m d (r := main_arg0) (by decide)) _)
  · exact fun i k => (congrArg (V1 m d (Proc.devRef .tc main_arg1) : S16x512x2.Idx → Ideal .f32) (in_row t (((cfg0.win 3).blk t).view.emb (ix3 0 i k)) i k _ e3 rfl rfl rfl)).trans (congrFun (V1_off m d (r := main_arg1) (by decide)) _)
  · exact fun i => (congrArg (V1 m d (Proc.devRef .tc main_v2) : S16x512x1.Idx → Ideal .f32) (in_row t (((cfg0.win 4).blk t).view.emb (ix3 0 i 0)) i 0 _ e4 rfl rfl rfl)).trans (array2 m d _ i)
  · exact fun i => (congrArg (V1 m d (Proc.devRef .tc main_v3) : S16x1x512.Idx → Ideal .f32) (in_row t (((cfg0.win 5).blk t).view.emb (ix3 0 0 i)) 0 i _ e5 rfl rfl rfl)).trans (array3 m d _ i)
  · exact fun i => (congrArg (V1 m d (Proc.devRef .tc main_v6) : S16x1x512.Idx → Ideal .f32) (in_row t (((cfg0.win 6).blk t).view.emb (ix3 0 0 i)) 0 i _ e6 rfl rfl rfl)).trans (array6 m d _ i)
  · exact fun i => (congrArg (V1 m d (Proc.devRef .tc main_v9) : S16x1x512.Idx → Ideal .f32) (in_row t (((cfg0.win 7).blk t).view.emb (ix3 0 0 i)) 0 i _ e7 rfl rfl rfl)).trans (array9 m d _ i)

/-! ## The three results -/

theorem same_maps : (V2 m d (Proc.devRef .tc main_v10_0) : S16x3x3.Idx → Ideal .f32) = BestRef.result (A0 m d) (A1 m d) (A2 m d) (A3 m d) (A4 m d) := by
  refine (Pipeline.afterRegion_arr (Tc.dat₀ (V1 m) d) (V1 m d) launch0.win.arr_inj 8).trans ?_
  refine Pipeline.Dat.arrAt_eq_of_covers (Tc.dat₀ (V1 m) d) 8 _ (by decide +kernel) fun t _ y => ?_
  obtain ⟨-, -, -, -, -, -, -, -, e8, -, -⟩ := starts t
  obtain ⟨n, hn⟩ := best_lt (part m d (num t)).score
  have hy : (y : S1x3x3.Idx) = ix3 0 (y 1) (y 2) := by
    funext a
    match a with
    | ⟨0, _⟩ => exact Subsingleton.elim (α := Fin 1) _ _
    | ⟨1, _⟩ => rfl
    | ⟨2, _⟩ => rfl
  have he : ((cfg0.win 8).blk t).view.emb y = ix3 (num t) (y 1) (y 2) := by
    rw [hy]; exact in_row t _ _ _ _ e8 rfl rfl rfl
  rw [he]
  refine Eq.trans ?_ (BestRef.result_apply _ _ _ _ _ (num t) n hn (y 1) (y 2)).symm
  refine Eq.trans ?_ (BestKernel.out8_apply (holds m d t) n hn (y 1) (y 2))
  refine Eq.trans ?_ (congrArg (BestBody.out8 (Tc.stg (V1 m) d 0 t) (Tc.stg (V1 m) d 1 t) (Tc.stg (V1 m) d 2 t) (Tc.stg (V1 m) d 3 t) (Tc.stg (V1 m) d 4 t) (Tc.stg (V1 m) d 5 t) (Tc.stg (V1 m) d 6 t) (Tc.stg (V1 m) d 7 t)) hy)
  exact congrFun (TcBlocks.leaves8 (F := Ideal) ..) y

theorem same_flags : (V2 m d (Proc.devRef .tc main_v10_1) : S16x1x1.Idx → Ideal .f32) = BestRef.flags (A0 m d) (A1 m d) (A2 m d) (A3 m d) (A4 m d) := by
  refine (Pipeline.afterRegion_arr (Tc.dat₀ (V1 m) d) (V1 m d) launch0.win.arr_inj 9).trans ?_
  refine Pipeline.Dat.arrAt_eq_of_covers (Tc.dat₀ (V1 m) d) 9 _ (by decide +kernel) fun t _ y => ?_
  obtain ⟨-, -, -, -, -, -, -, -, -, e9, -⟩ := starts t
  have hy : (y : S1x1x1.Idx) = ix3 0 (y 1) (y 2) := by
    funext a
    match a with
    | ⟨0, _⟩ => exact Subsingleton.elim (α := Fin 1) _ _
    | ⟨1, _⟩ => rfl
    | ⟨2, _⟩ => rfl
  have he : ((cfg0.win 9).blk t).view.emb y = ix3 (num t) (y 1) (y 2) := by
    rw [hy]; exact in_row t _ _ _ _ e9 rfl rfl rfl
  rw [he]
  refine Eq.trans ?_ (BestRef.flags_apply _ _ _ _ _ (num t) (y 1) (y 2)).symm
  refine Eq.trans ?_ (BestKernel.out9_apply (holds m d t) (y 1) (y 2))
  refine Eq.trans ?_ (congrArg (BestBody.out9 (Tc.stg (V1 m) d 0 t) (Tc.stg (V1 m) d 1 t) (Tc.stg (V1 m) d 2 t) (Tc.stg (V1 m) d 3 t) (Tc.stg (V1 m) d 4 t) (Tc.stg (V1 m) d 5 t) (Tc.stg (V1 m) d 6 t) (Tc.stg (V1 m) d 7 t)) hy)
  exact congrFun (TcBlocks.leaves9 (F := Ideal) ..) y

set_option maxHeartbeats 4000000 in
theorem same_numbers : (V2 m d (Proc.devRef .tc main_v10_2) : S16x1x512.Idx → BitVec 32) = BestRef.inlierNumbers (A0 m d) (A1 m d) (A2 m d) (A3 m d) (A4 m d) := by
  refine (Pipeline.afterRegion_arr (Tc.dat₀ (V1 m) d) (V1 m d) launch0.win.arr_inj 10).trans ?_
  refine Pipeline.Dat.arrAt_eq_of_covers (Tc.dat₀ (V1 m) d) 10 _ (by decide +kernel) fun t _ y => ?_
  obtain ⟨-, -, -, -, -, -, -, -, -, -, e10⟩ := starts t
  obtain ⟨n, hn⟩ := best_lt (part m d (num t)).score
  have hy : (y : S1x1x512.Idx) = ix3 0 0 (y 2) := by
    funext a
    match a with
    | ⟨0, _⟩ => exact Subsingleton.elim (α := Fin 1) _ _
    | ⟨1, _⟩ => exact Subsingleton.elim (α := Fin 1) _ _
    | ⟨2, _⟩ => rfl
  have he : ((cfg0.win 10).blk t).view.emb y = ix3 (num t) 0 (y 2) := by
    rw [hy]; exact in_row t _ _ _ _ e10 rfl rfl rfl
  rw [he]
  refine Eq.trans ?_ (BestRef.inlierNumbers_apply _ _ _ _ _ (num t) n hn (y 2)).symm
  refine Eq.trans ?_ (BestRank.out10_apply (holds m d t) Cert.BestIdeal.Gen.scM0_0.view n hn (y 2))
  refine Eq.trans ?_ (congrArg (BestBody.out10 Cert.BestIdeal.Gen.scM0_0.view Cert.BestIdeal.Gen.k0_pay2 Cert.BestIdeal.Gen.k0_pay3 Cert.BestIdeal.Gen.k0_pay4 (Tc.stg (V1 m) d 0 t) (Tc.stg (V1 m) d 1 t) (Tc.stg (V1 m) d 2 t) (Tc.stg (V1 m) d 3 t) (Tc.stg (V1 m) d 4 t) (Tc.stg (V1 m) d 5 t) (Tc.stg (V1 m) d 6 t) (Tc.stg (V1 m) d 7 t)) hy)
  exact congrFun (TcBlocks.leaves10 (F := Ideal) ..) y

end Cert.Proof.TcArrays

end
-- ==== Proof.Values.lean ====
/-
  Over the extended reals the program's results are the reference's.
-/
module

public import proofs.«01_k».proof.Proof.KernelValue
public import proofs.«01_k».proof.Proof.RefValue
public import proofs.«01_k».proof.Proof.TcArrays

@[expose] public section

set_option Elab.async false

noncomputable section

namespace Cert.Proof.Values

open Idealize.ShloMosaic hiding ix1 ix2 ix3
open Idealize.ShloMosaic.ValueIdx (ix1 ix2 ix3)
open Cert.Proof.Main (V5)
open Cert.Proof.TcArrays (A0 A1 A2 A3 A4)

/-- Adding the zero word changes nothing. -/
theorem zero_plus (x : Ideal .f32) : FloatOps.addf (Scalar.ofBits .f32 0x00000000#32) x = x := by
  show (Ideal.ofBits .f32 0x00000000#32 : EReal) + x = x
  rw [Ideal.ofBits_zero_f32, zero_add]

variable (m : (ℓ : Loc Cert.KernelIdeal.nD Cert.KernelIdeal.τ Cert.KernelIdeal.sig) → Buf (Elt Ideal) ℓ) (d : Dev Cert.KernelIdeal.nD)

/-- The maps are the reference's; -/
theorem maps :
    (V5 m d (Proc.devRef .tc Cert.KernelIdeal.main_v10_0) : Cert.KernelIdeal.S16x3x3.Idx → Ideal .f32)
      = BestRef.result (A0 m d) (A1 m d) (A2 m d) (A3 m d) (A4 m d) :=
  (KernelValue.maps_kept m d).trans (TcArrays.same_maps m d)

/-- A mark is one or zero as a bit is set or not, and differs from zero as the bit is set. -/
theorem marked (w : BitVec 1) :
    FloatOps.cmpf .une (Scalar.select w (Scalar.ofBits .f32 0x3F800000#32 : Ideal .f32) (Scalar.ofBits .f32 0x00000000#32)) (Scalar.ofBits .f32 0x00000000#32) = w := by
  rcases (by decide : ∀ w : BitVec 1, w = 0#1 ∨ w = 1#1) w with h | h <;> subst h
  · show Idealize.ShloMosaic.Ideal.cmp .une (Idealize.ShloMosaic.Ideal.ofBits .f32 0x00000000#32) (Idealize.ShloMosaic.Ideal.ofBits .f32 0x00000000#32) = 0#1
    rw [Ideal.ofBits_zero_f32]; simp [Idealize.ShloMosaic.Ideal.cmp]
  · show Idealize.ShloMosaic.Ideal.cmp .une (Idealize.ShloMosaic.Ideal.ofBits .f32 0x3F800000#32) (Idealize.ShloMosaic.Ideal.ofBits .f32 0x00000000#32) = 1#1
    rw [Ideal.ofBits_zero_f32, Ideal.ofBits_one_f32]; simp [Idealize.ShloMosaic.Ideal.cmp]

/-- so are the marks of failure; -/
theorem failed :
    (V5 m d (Proc.devRef .tc Cert.KernelIdeal.main_v28) : Cert.KernelIdeal.S16.Idx → BitVec 1)
      = RefValue.lost (A0 m d) (A1 m d) (A2 m d) (A3 m d) (A4 m d) := by
  funext y
  rw [ValueIdx.eq_ix1 y]
  refine (KernelValue.failed_entry m d _).trans (Eq.trans ?_ (RefValue.lost_entry _ _ _ _ _ _).symm)
  rw [TcArrays.same_flags m d]
  exact (congrArg (fun z => FloatOps.cmpf .une z (Scalar.ofBits .f32 0x00000000#32)) (BestRef.flags_apply _ _ _ _ _ (y 0) 0 0)).trans (marked _)

theorem first_points :
    (V5 m d (Proc.devRef .tc Cert.KernelIdeal.main_v21) : Cert.KernelIdeal.S16x512x2.Idx → Ideal .f32)
      = RefValue.points (F := Ideal) (A0 m d) (BestRef.inlierNumbers (A0 m d) (A1 m d) (A2 m d) (A3 m d) (A4 m d)) := by
  funext y
  rw [ValueIdx.eq_ix3 y]
  refine (KernelValue.first_entry m d _ _ _).trans (Eq.trans ?_ (RefValue.points_entry (F := Ideal) _ _ _ _ _).symm)
  rw [TcArrays.same_numbers m d]
  exact congrArg (fun z => Spec.entry _ z _) (zero_plus _)

theorem second_points :
    (V5 m d (Proc.devRef .tc Cert.KernelIdeal.main_v23) : Cert.KernelIdeal.S16x512x2.Idx → Ideal .f32)
      = RefValue.points (F := Ideal) (A1 m d) (BestRef.inlierNumbers (A0 m d) (A1 m d) (A2 m d) (A3 m d) (A4 m d)) := by
  funext y
  rw [ValueIdx.eq_ix3 y]
  refine (KernelValue.second_entry m d _ _ _).trans (Eq.trans ?_ (RefValue.points_entry (F := Ideal) _ _ _ _ _).symm)
  rw [TcArrays.same_numbers m d]
  exact congrArg (fun z => Spec.entry _ z _) (zero_plus _)

theorem last_marks :
    (V5 m d (Proc.devRef .tc Cert.KernelIdeal.main_v25) : Cert.KernelIdeal.S16x512.Idx → Ideal .f32)
      = RefValue.marks (F := Ideal) (A2 m d) (BestRef.inlierNumbers (A0 m d) (A1 m d) (A2 m d) (A3 m d) (A4 m d)) := by
  funext y
  rw [ValueIdx.eq_ix2 y]
  refine (KernelValue.last_entry m d _ _).trans (Eq.trans ?_ (RefValue.marks_entry (F := Ideal) _ _ _ _).symm)
  rw [TcArrays.same_numbers m d]
  exact congrArg (fun z => Spec.entry _ z _) (zero_plus _)

end Cert.Proof.Values

end
-- ==== Proof.lean ====
/-
  The proof of `Cert.Claim`: for the whole kernel, and for its TensorCore call on its own, the frames, the idealization and the value equation, from the modules beside it.
-/
module

public import proofs.«01_k».proof.Proof.Gen.ReferenceIdeal.Run
public import proofs.«01_k».proof.Defs
public import proofs.«01_k».proof.Proof.Gen.Best
public import proofs.«01_k».proof.Proof.Gen.Best.Frame
public import proofs.«01_k».proof.Proof.Gen.BestIdeal
public import proofs.«01_k».proof.Proof.Gen.BestIdeal.Frame
public import proofs.«01_k».proof.Proof.Gen.BestIdeal.Value
public import proofs.«01_k».proof.Proof.Gen.BestReferenceIdeal
public import proofs.«01_k».proof.Proof.Gen.BestReferenceIdeal.Run
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import Idealize.ShloMosaic.Adequacy
public import Idealize.ShloMosaic.Init
public import proofs.«01_k».proof.Proof.Frames
public import proofs.«01_k».proof.Proof.Values
public import proofs.«01_k».proof.Proof.BestValue

@[expose] public section

noncomputable section

namespace Cert.Proof

open Idealize.ShloMosaic Idealize.SL.Sem

theorem frame_k : Cert.quiescent_Kernel (hKernel := Cert.Kernel.Gen.facts) := fun m g _ => Same.run_frame (F := Bits) m g

theorem frame_ki : Cert.quiescent_KernelIdeal (hKernelIdeal := Cert.KernelIdeal.Gen.facts) := fun m g _ => Main.run_frame (F := Ideal) m g

theorem frame_r : Cert.quiescent_ReferenceIdeal (hReferenceIdeal := Cert.ReferenceIdeal.Gen.facts) := fun m g _ => RefValue.run_frame g (F := Ideal) m

open Cert.KernelIdeal in
theorem value : Cert.algebraic_KernelIdeal_ReferenceIdeal (hKernelIdeal := Cert.KernelIdeal.Gen.facts) (hReferenceIdeal := Cert.ReferenceIdeal.Gen.facts) :=
  fun m g m' g' _ hargs =>
    ⟨fun c => Main.V5 m c (Proc.devRef .tc main_v10_0), fun c => Main.V5 m c (Proc.devRef .tc main_v28), fun c => Main.V5 m c (Proc.devRef .tc main_v21),
      fun c => Main.V5 m c (Proc.devRef .tc main_v23), fun c => Main.V5 m c (Proc.devRef .tc main_v25),
      (θ_run _ _ _).mono (fun r h c => by
        have key : ∀ a ∈ Main.args, r.2.mem (c, Proc.devRef .tc a) = m (c, Proc.devRef .tc a) := fun a ha =>
          (h.1 c _ (Main.mem_uc (by revert a; decide))).trans (Main.args_keep m c a ha)
        exact ⟨h.1 c _ (Main.mem_uc (by decide)), h.1 c _ (Main.mem_uc (by decide)), h.1 c _ (Main.mem_uc (by decide)),
          h.1 c _ (Main.mem_uc (by decide)), h.1 c _ (Main.mem_uc (by decide)),
          key main_arg0 (by simp), key main_arg1 (by simp), key main_arg2 (by simp), key main_arg3 (by simp), key main_arg4 (by simp)⟩) (Main.run_main (F := Ideal) m g),
      (θ_run _ _ _).mono (fun r h c => by
        obtain ⟨h0, h1, h2, h3, h4, kept⟩ := h c
        obtain ⟨a0, a1, a2, a3, a4⟩ := hargs c
        have e0 : RefValue.A0 m' c = TcArrays.A0 m c := a0
        have e1 : RefValue.A1 m' c = TcArrays.A1 m c := a1
        have e2 : RefValue.A2 m' c = TcArrays.A2 m c := a2
        have e3 : RefValue.A3 m' c = TcArrays.A3 m c := a3
        have e4 : RefValue.A4 m' c = TcArrays.A4 m c := a4
        rw [e0, e1, e2, e3, e4] at h0 h1 h2 h3 h4
        exact ⟨h0.trans (Values.maps m c).symm, h1.trans (Values.failed m c).symm, h2.trans (Values.first_points m c).symm,
          h3.trans (Values.second_points m c).symm, h4.trans (Values.last_marks m c).symm, kept⟩) (RefValue.run m' g')⟩

theorem frame_b : Cert.quiescent_Best (hBest := Cert.Best.Gen.facts) := fun m g _ => Cert.Best.Gen.frame (F := Bits) m g

theorem frame_bi : Cert.quiescent_BestIdeal (hBestIdeal := Cert.BestIdeal.Gen.facts) := fun m g _ => Cert.BestIdeal.Gen.frame (F := Ideal) m g

theorem frame_br : Cert.quiescent_BestReferenceIdeal (hBestReferenceIdeal := Cert.BestReferenceIdeal.Gen.facts) := fun m g _ =>
  (θ_run _ _ _).mono (fun r h => ⟨fun c => (h c).2.2.2, sem_eq_zero_of_no_sems (by decide) r.2⟩) (Cert.BestReferenceIdeal.Value.run (F := Ideal) m g)

theorem value_b : Cert.algebraic_BestIdeal_BestReferenceIdeal (hBestIdeal := Cert.BestIdeal.Gen.facts) (hBestReferenceIdeal := Cert.BestReferenceIdeal.Gen.facts) :=
  fun m g m' g' _ hargs =>
    ⟨fun c => Cert.BestIdeal.Value.G8 m c, fun c => Cert.BestIdeal.Value.G9 m c, fun c => Cert.BestIdeal.Value.G10 m c,
      (θ_run _ _ _).mono (fun r h c => h c) (Cert.BestIdeal.Value.run (F := Ideal) m g),
      (θ_run _ _ _).mono (fun r h c => by
        obtain ⟨h0, h1, h2, kept⟩ := h c
        obtain ⟨a0, a1, a2, a3, a4⟩ := hargs c
        refine ⟨h0.trans ((BestRef.run_result m' c).trans ?_), h1.trans ((BestRef.run_flags m' c).trans ?_), h2.trans ((BestRef.run_numbers m' c).trans ?_), kept⟩
        · rw [a0, a1, a2, a3, a4]; exact (BestValue.same_maps m c).symm
        · rw [a0, a1, a2, a3, a4]; exact (BestValue.same_flags m c).symm
        · rw [a0, a1, a2, a3, a4]; exact (BestValue.same_numbers m c).symm) (Cert.BestReferenceIdeal.Value.run (F := Ideal) m' g')⟩

theorem claim : Cert.Claim := ⟨Cert.Kernel.Gen.facts, Cert.KernelIdeal.Gen.facts, Cert.ReferenceIdeal.Gen.facts,
  Cert.Best.Gen.facts, Cert.BestIdeal.Gen.facts, Cert.BestReferenceIdeal.Gen.facts,
  frame_k, frame_ki, frame_r, frame_b, frame_bi, frame_br, trivial, value, trivial, value_b⟩

end Cert.Proof

end
